-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Pre_scores_finite_ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x8192 .f32) (main_arg2 : FVec F S1x4096x64x128 .f32) (main_arg3 : FVec F S1x4096x64x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S16x4x64x64x128 : Shape := ⟨5, ![16, 4, 64, 64, 128]⟩
abbrev S4x8x16x64x128 : Shape := ⟨5, ![4, 8, 16, 64, 128]⟩
abbrev S64x1024 : Shape := ⟨2, ![64, 1024]⟩
abbrev S256x1024 : Shape := ⟨2, ![256, 1024]⟩
abbrev S4x3x64x1024 : Shape := ⟨4, ![4, 3, 64, 1024]⟩
abbrev S4x8 : Shape := ⟨2, ![4, 8]⟩
abbrev S4x3 : Shape := ⟨2, ![4, 3]⟩
abbrev S1x1 : Shape := ⟨2, ![1, 1]⟩
abbrev S_ : Shape := ⟨0, ![]⟩
abbrev S1x1x16x64x128 : Shape := ⟨5, ![1, 1, 16, 64, 128]⟩
abbrev S16x64x128 : Shape := ⟨3, ![16, 64, 128]⟩
abbrev S16x1x64x1x128 : Shape := ⟨5, ![16, 1, 64, 1, 128]⟩
abbrev S64x128 : Shape := ⟨2, ![64, 128]⟩
abbrev S1024x128 : Shape := ⟨2, ![1024, 128]⟩
abbrev S64 : Shape := ⟨1, ![64]⟩
abbrev S64x1 : Shape := ⟨2, ![64, 1]⟩
abbrev S1x1x64x1024 : Shape := ⟨4, ![1, 1, 64, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S16x4x64x64x128, .f32⟩
  | .hbm, ⟨6, _⟩ => ⟨S16x4x64x64x128, .f32⟩
  | .hbm, ⟨7, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x8x16x64x128, .f32⟩
  | .local _ .vmem, ⟨5, _⟩ => ⟨S64x1024, .bf16⟩
  | .local _ .vmem, ⟨6, _⟩ => ⟨S1024x1024, .bf16⟩
  | .local _ .vmem, ⟨7, _⟩ => ⟨S256x1024, .f32⟩
  | .local _ .vmem, ⟨8, _⟩ => ⟨S4x3x64x1024, .bf16⟩
  | .local _ .vmem, ⟨9, _⟩ => ⟨S4x3x64x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 5 → Nat :=
  let c0_i32_9 : BitVec 32 := 0#32
  let c0_i32_1 : BitVec 32 := 0#32
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v4 : BitVec 32 := Scalar.addi v3 c0_i32
  let c0_i32_11 : BitVec 32 := 0#32
  ![0, 0, 0, v4.toNat, 0]
def k0_dev1 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v117 : BitVec 32 := Scalar.xori v2 c1_i32_186
  let c1_i32_188 : BitVec 32 := 1#32
  let v118 : BitVec 32 := Scalar.muli v117 c1_i32_188
  let v119 : BitVec 32 := Scalar.addi c0_i32_189 v118
  v119.toNat
def k0_dev2 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_190 : BitVec 32 := 2#32
  let v120 : BitVec 32 := Scalar.xori v2 c2_i32_190
  let c1_i32_192 : BitVec 32 := 1#32
  let v121 : BitVec 32 := Scalar.muli v120 c1_i32_192
  let v122 : BitVec 32 := Scalar.addi c0_i32_193 v121
  v122.toNat
def k0_dev3 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_194 : BitVec 32 := 4#32
  let v123 : BitVec 32 := Scalar.xori v2 c4_i32_194
  let c1_i32_196 : BitVec 32 := 1#32
  let v124 : BitVec 32 := Scalar.muli v123 c1_i32_196
  let v125 : BitVec 32 := Scalar.addi c0_i32_197 v124
  v125.toNat
def k0_off2 (d0 : Dev nD) (c0_i32_208 : BitVec 32) : Fin 5 → Nat :=
  let c0_i32_217 : BitVec 32 := 0#32
  let c1_i32_209 : BitVec 32 := 1#32
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v142 : BitVec 32 := Scalar.addi v3 c0_i32_208
  let c0_i32_219 : BitVec 32 := 0#32
  ![0, 1, 0, v142.toNat, 0]
def k0_dev4 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_689 : BitVec 32 := 1#32
  let v524 : BitVec 32 := Scalar.xori v2 c1_i32_689
  let c1_i32_704 : BitVec 32 := 1#32
  let v530 : BitVec 32 := Scalar.muli v524 c1_i32_704
  let v531 : BitVec 32 := Scalar.addi c0_i32_705 v530
  v531.toNat
def k0_off3 (d0 : Dev nD) (c0_i32_710 : BitVec 32) : Fin 5 → Nat :=
  let c0_i32_719 : BitVec 32 := 0#32
  let c2_i32_711 : BitVec 32 := 2#32
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v540 : BitVec 32 := Scalar.addi v3 c0_i32_710
  let c0_i32_721 : BitVec 32 := 0#32
  ![0, 2, 0, v540.toNat, 0]
def k0_dev5 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1239 : BitVec 32 := 2#32
  let v944 : BitVec 32 := Scalar.xori v2 c2_i32_1239
  let c1_i32_1254 : BitVec 32 := 1#32
  let v950 : BitVec 32 := Scalar.muli v944 c1_i32_1254
  let v951 : BitVec 32 := Scalar.addi c0_i32_1255 v950
  v951.toNat
def k0_dev6 (d0 : Dev nD) : Nat :=
  let c0_i32_1276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1260 : BitVec 32 := 1#32
  let v960 : BitVec 32 := Scalar.xori v2 c1_i32_1260
  let c1_i32_1275 : BitVec 32 := 1#32
  let v966 : BitVec 32 := Scalar.muli v960 c1_i32_1275
  let v967 : BitVec 32 := Scalar.addi c0_i32_1276 v966
  v967.toNat
def k0_off4 (d0 : Dev nD) (c0_i32_1281 : BitVec 32) : Fin 5 → Nat :=
  let c0_i32_1290 : BitVec 32 := 0#32
  let c3_i32_1282 : BitVec 32 := 3#32
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v976 : BitVec 32 := Scalar.addi v3 c0_i32_1281
  let c0_i32_1292 : BitVec 32 := 0#32
  ![0, 3, 0, v976.toNat, 0]
def k0_dev7 (d0 : Dev nD) : Nat :=
  let c0_i32_1827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1811 : BitVec 32 := 4#32
  let v1380 : BitVec 32 := Scalar.xori v2 c4_i32_1811
  let c1_i32_1826 : BitVec 32 := 1#32
  let v1386 : BitVec 32 := Scalar.muli v1380 c1_i32_1826
  let v1387 : BitVec 32 := Scalar.addi c0_i32_1827 v1386
  v1387.toNat
def k0_dev8 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1867 : BitVec 32 := 2#32
  let v1418 : BitVec 32 := Scalar.xori v2 c2_i32_1867
  let c1_i32_1882 : BitVec 32 := 1#32
  let v1424 : BitVec 32 := Scalar.muli v1418 c1_i32_1882
  let v1425 : BitVec 32 := Scalar.addi c0_i32_1883 v1424
  v1425.toNat
def k0_dev9 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1888 : BitVec 32 := 1#32
  let v1434 : BitVec 32 := Scalar.xori v2 c1_i32_1888
  let c1_i32_1903 : BitVec 32 := 1#32
  let v1440 : BitVec 32 := Scalar.muli v1434 c1_i32_1903
  let v1441 : BitVec 32 := Scalar.addi c0_i32_1904 v1440
  v1441.toNat
def k0_dev10 (d0 : Dev nD) : Nat :=
  let c0_i32_2297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2281 : BitVec 32 := 4#32
  let v1764 : BitVec 32 := Scalar.xori v2 c4_i32_2281
  let c1_i32_2296 : BitVec 32 := 1#32
  let v1770 : BitVec 32 := Scalar.muli v1764 c1_i32_2296
  let v1771 : BitVec 32 := Scalar.addi c0_i32_2297 v1770
  v1771.toNat
def k0_dev11 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2337 : BitVec 32 := 2#32
  let v1802 : BitVec 32 := Scalar.xori v2 c2_i32_2337
  let c1_i32_2352 : BitVec 32 := 1#32
  let v1808 : BitVec 32 := Scalar.muli v1802 c1_i32_2352
  let v1809 : BitVec 32 := Scalar.addi c0_i32_2353 v1808
  v1809.toNat
def k0_dev12 (d0 : Dev nD) : Nat :=
  let c0_i32_2374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2358 : BitVec 32 := 1#32
  let v1818 : BitVec 32 := Scalar.xori v2 c1_i32_2358
  let c1_i32_2373 : BitVec 32 := 1#32
  let v1824 : BitVec 32 := Scalar.muli v1818 c1_i32_2373
  let v1825 : BitVec 32 := Scalar.addi c0_i32_2374 v1824
  v1825.toNat
def k0_dev13 (d0 : Dev nD) : Nat :=
  let c0_i32_2465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2449 : BitVec 32 := 4#32
  let v1878 : BitVec 32 := Scalar.xori v2 c4_i32_2449
  let c1_i32_2464 : BitVec 32 := 1#32
  let v1884 : BitVec 32 := Scalar.muli v1878 c1_i32_2464
  let v1885 : BitVec 32 := Scalar.addi c0_i32_2465 v1884
  v1885.toNat
def k0_dev14 (d0 : Dev nD) : Nat :=
  let c0_i32_2521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2505 : BitVec 32 := 2#32
  let v1916 : BitVec 32 := Scalar.xori v2 c2_i32_2505
  let c1_i32_2520 : BitVec 32 := 1#32
  let v1922 : BitVec 32 := Scalar.muli v1916 c1_i32_2520
  let v1923 : BitVec 32 := Scalar.addi c0_i32_2521 v1922
  v1923.toNat
def k0_dev15 (d0 : Dev nD) : Nat :=
  let c0_i32_2612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2596 : BitVec 32 := 4#32
  let v1976 : BitVec 32 := Scalar.xori v2 c4_i32_2596
  let c1_i32_2611 : BitVec 32 := 1#32
  let v1982 : BitVec 32 := Scalar.muli v1976 c1_i32_2611
  let v1983 : BitVec 32 := Scalar.addi c0_i32_2612 v1982
  v1983.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x64x256x4096 : Shape := ⟨4, ![1, 64, 256, 4096]⟩
abbrev S1x1x256x4096 : Shape := ⟨4, ![1, 1, 256, 4096]⟩
abbrev S1x64x256 : Shape := ⟨3, ![1, 64, 256]⟩
abbrev S1x64x256x1 : Shape := ⟨4, ![1, 64, 256, 1]⟩
abbrev S1x1x256x1 : Shape := ⟨4, ![1, 1, 256, 1]⟩
abbrev S1x64x128x256 : Shape := ⟨4, ![1, 64, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x8192, .f32⟩
  | 2 => ⟨S1x4096x64x128, .f32⟩
  | 3 => ⟨S1x4096x64x128, .f32⟩
  | 4 => ⟨S8192x1024, .f32⟩
  | 5 => ⟨S1x256x8192, .f32⟩
  | 6 => ⟨S1x256x64x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S1x64x256x4096, .f32⟩
  | 99 => ⟨S_, .f32⟩
  | 100 => ⟨S1x64x256x4096, .f32⟩
  | 101 => ⟨S1x64x256x4096, .f32⟩
  | 102 => ⟨S1x1x256x4096, .i1⟩
  | 103 => ⟨S_, .f32⟩
  | 104 => ⟨S_, .f32⟩
  | 105 => ⟨S1x64x256x4096, .i1⟩
  | 106 => ⟨S1x64x256x4096, .f32⟩
  | 107 => ⟨S1x64x256x4096, .f32⟩
  | 108 => ⟨S_, .f32⟩
  | 109 => ⟨S1x64x256, .f32⟩
  | 110 => ⟨S1x64x256x1, .f32⟩
  | 111 => ⟨S1x64x256x4096, .f32⟩
  | 112 => ⟨S1x64x256x4096, .f32⟩
  | 113 => ⟨S1x64x256x4096, .f32⟩
  | 114 => ⟨S_, .i1⟩
  | 115 => ⟨S256, .i1⟩
  | 116 => ⟨S1x1x256x1, .i1⟩
  | 117 => ⟨S_, .f32⟩
  | 118 => ⟨S1x64x256, .f32⟩
  | 119 => ⟨S1x64x256x1, .f32⟩
  | 120 => ⟨S_, .f32⟩
  | 121 => ⟨S_, .f32⟩
  | 122 => ⟨S1x64x256x1, .i1⟩
  | 123 => ⟨S1x64x256x1, .f32⟩
  | 124 => ⟨S1x64x256x1, .f32⟩
  | 125 => ⟨S1x64x256x4096, .f32⟩
  | 126 => ⟨S1x64x256x4096, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x64x256x4096, .i1⟩
  | 3 => ⟨S1x64x256x4096, .f32⟩
  | 4 => ⟨S1x64x256x4096, .f32⟩
  | 5 => ⟨S1x64x128x256, .f32⟩
  | 6 => ⟨S1x256x64x128, .f32⟩
  | 7 => ⟨S1x256x8192, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
# The exchange's protocol

Eight devices exchange partial products along the three dimensions of a cube: in step `s` a device's peer is the device whose
number differs in bit `s`. Each device's barrier cell has three duties of one unit, duty `s` paid by the peer of step `s`, which
hands over its four receive slots of that step. Each of the twelve send cells gives its send slot back; each of the twelve receive
cells gives the receive slot holding what the peer of its step sent, `val k s (peer s c)`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans embR

omit [FloatOps F] in
instance ER_landsIn : (ER (F := F)).LandsIn (upEmb : UEmb _ (MT nD τ sig Unit (Elt F) ℕ UU ℕ)) := by unfold ER; infer_instance

abbrev 𝒱₀ : Variants := Variants.none

/-! ## Peers -/

/-- The device across dimension `s` of the cube. -/
def peer (s : Fin 3) (c : Dev nD) : Dev nD := ⟨c.val ^^^ (2 ^ s.val), by revert s c; decide⟩

theorem peer_peer (s : Fin 3) (c : Dev nD) : peer s (peer s c) = c := by revert s c; decide
/-- The exchange across dimension `s`, as a permutation of the devices. -/
def peerEquiv (s : Fin 3) : Dev nD ≃ Dev nD := ⟨peer s, peer s, peer_peer s, peer_peer s⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 2 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 0 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 1 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 1 c := by revert c; decide +kernel
theorem dev15_eq (c : Dev nD) : (⟨k0_dev15 c, k0_dev15_lt c⟩ : Dev nD) = peer 2 c := by revert c; decide +kernel

/-! ## Cells and slots -/

abbrev barS : Sem sig := (SemArray.scalar (sig.barrier 0 rfl) : Sems sig S_).sem
abbrev barCell (c : Dev nD) : GSem nD τ sig := ((c : Thread nD τ), .reg barS)

abbrev sS_0_0 : DmaSem sig := ((cc0_scratch7.slice (Rect.unit (s := S4x3) ![0, 0] S1x1.size inb_S4x3_S1x1_0_0)).squeeze S_ squeezes_S1x1_S_).sem
abbrev rS_0_0 : DmaSem sig := ((cc0_scratch8.slice (Rect.unit (s := S4x3) ![0, 0] S1x1.size inb_S4x3_S1x1_0_0)).squeeze S_ squeezes_S1x1_S_).sem
abbrev sM_0_0 : Memref sig .tc .vmem S64x1024 .bf16 := ((Memref.whole cc0_scratch4 : Memref sig .tc .vmem S4x3x64x1024 .bf16).slice (Rect.unit (s := S4x3x64x1024) ![0, 0, 0, 0] S1x1x64x1024.size inb_S4x3x64x1024_S1x1x64x1024_0_0_0_0) (fun _ => rfl)).squeeze S64x1024 squeezes_S1x1x64x1024_S64x1024
abbrev rM_0_0 : Memref sig .tc .vmem S64x1024 .bf16 := ((Memref.whole cc0_scratch5 : Memref sig .tc .vmem S4x3x64x1024 .bf16).slice (Rect.unit (s := S4x3x64x1024) ![0, 0, 0, 0] S1x1x64x1024.size inb_S4x3x64x1024_S1x1x64x1024_0_0_0_0) (fun _ => rfl)).squeeze S64x1024 squeezes_S1x1x64x1024_S64x1024
abbrev sS_0_1 : DmaSem sig := ((cc0_scratch7.slice (Rect.unit (s := S4x3) ![0, 1] S1x1.size inb_S4x3_S1x1_0_1)).squeeze S_ squeezes_S1x1_S_).sem
abbrev rS_0_1 : DmaSem sig := ((cc0_scratch8.slice (Rect.unit (s := S4x3) ![0, 1] S1x1.size inb_S4x3_S1x1_0_1)).squeeze S_ squeezes_S1x1_S_).sem
abbrev sM_0_1 : Memref sig .tc .vmem S64x1024 .bf16 := ((Memref.whole cc0_scratch4 : Memref sig .tc .vmem S4x3x64x1024 .bf16).slice (Rect.unit (s := S4x3x64x1024) ![0, 1, 0, 0] S1x1x64x1024.size inb_S4x3x64x1024_S1x1x64x1024_0_1_0_0) (fun _ => rfl)).squeeze S64x1024 squeezes_S1x1x64x1024_S64x1024
abbrev rM_0_1 : Memref sig .tc .vmem S64x1024 .bf16 := ((Memref.whole cc0_scratch5 : Memref sig .tc .vmem S4x3x64x1024 .bf16).slice (Rect.unit (s := S4x3x64x1024) ![0, 1, 0, 0] S1x1x64x1024.size inb_S4x3x64x1024_S1x1x64x1024_0_1_0_0) (fun _ => rfl)).squeeze S64x1024 squeezes_S1x1x64x1024_S64x1024
abbrev sS_0_2 : DmaSem sig := ((cc0_scratch7.slice (Rect.unit (s := S4x3) ![0, 2] S1x1.size inb_S4x3_S1x1_0_2)).squeeze S_ squeezes_S1x1_S_).sem
abbrev rS_0_2 : DmaSem sig := ((cc0_scratch8.slice (Rect.unit (s := S4x3) ![0, 2] S1x1.size inb_S4x3_S1x1_0_2)).squeeze S_ squeezes_S1x1_S_).sem
abbrev sM_0_2 : Memref sig .tc .vmem S64x1024 .bf16 := ((Memref.whole cc0_scratch4 : Memref sig .tc .vmem S4x3x64x1024 .bf16).slice (Rect.unit (s := S4x3x64x1024) ![0, 2, 0, 0] S1x1x64x1024.size inb_S4x3x64x1024_S1x1x64x1024_0_2_0_0) (fun _ => rfl)).squeeze S64x1024 squeezes_S1x1x64x1024_S64x1024
abbrev rM_0_2 : Memref sig .tc .vmem S64x1024 .bf16 := ((Memref.whole cc0_scratch5 : Memref sig .tc .vmem S4x3x64x1024 .bf16).slice (Rect.unit (s := S4x3x64x1024) ![0, 2, 0, 0] S1x1x64x1024.size inb_S4x3x64x1024_S1x1x64x1024_0_2_0_0) (fun _ => rfl)).squeeze S64x1024 squeezes_S1x1x64x1024_S64x1024
abbrev sS_1_0 : DmaSem sig := ((cc0_scratch7.slice (Rect.unit (s := S4x3) ![1, 0] S1x1.size inb_S4x3_S1x1_1_0)).squeeze S_ squeezes_S1x1_S_).sem
abbrev rS_1_0 : DmaSem sig := ((cc0_scratch8.slice (Rect.unit (s := S4x3) ![1, 0] S1x1.size inb_S4x3_S1x1_1_0)).squeeze S_ squeezes_S1x1_S_).sem
abbrev sM_1_0 : Memref sig .tc .vmem S64x1024 .bf16 := ((Memref.whole cc0_scratch4 : Memref sig .tc .vmem S4x3x64x1024 .bf16).slice (Rect.unit (s := S4x3x64x1024) ![1, 0, 0, 0] S1x1x64x1024.size inb_S4x3x64x1024_S1x1x64x1024_1_0_0_0) (fun _ => rfl)).squeeze S64x1024 squeezes_S1x1x64x1024_S64x1024
abbrev rM_1_0 : Memref sig .tc .vmem S64x1024 .bf16 := ((Memref.whole cc0_scratch5 : Memref sig .tc .vmem S4x3x64x1024 .bf16).slice (Rect.unit (s := S4x3x64x1024) ![1, 0, 0, 0] S1x1x64x1024.size inb_S4x3x64x1024_S1x1x64x1024_1_0_0_0) (fun _ => rfl)).squeeze S64x1024 squeezes_S1x1x64x1024_S64x1024
abbrev sS_1_1 : DmaSem sig := ((cc0_scratch7.slice (Rect.unit (s := S4x3) ![1, 1] S1x1.size inb_S4x3_S1x1_1_1)).squeeze S_ squeezes_S1x1_S_).sem
abbrev rS_1_1 : DmaSem sig := ((cc0_scratch8.slice (Rect.unit (s := S4x3) ![1, 1] S1x1.size inb_S4x3_S1x1_1_1)).squeeze S_ squeezes_S1x1_S_).sem
abbrev sM_1_1 : Memref sig .tc .vmem S64x1024 .bf16 := ((Memref.whole cc0_scratch4 : Memref sig .tc .vmem S4x3x64x1024 .bf16).slice (Rect.unit (s := S4x3x64x1024) ![1, 1, 0, 0] S1x1x64x1024.size inb_S4x3x64x1024_S1x1x64x1024_1_1_0_0) (fun _ => rfl)).squeeze S64x1024 squeezes_S1x1x64x1024_S64x1024
abbrev rM_1_1 : Memref sig .tc .vmem S64x1024 .bf16 := ((Memref.whole cc0_scratch5 : Memref sig .tc .vmem S4x3x64x1024 .bf16).slice (Rect.unit (s := S4x3x64x1024) ![1, 1, 0, 0] S1x1x64x1024.size inb_S4x3x64x1024_S1x1x64x1024_1_1_0_0) (fun _ => rfl)).squeeze S64x1024 squeezes_S1x1x64x1024_S64x1024
abbrev sS_1_2 : DmaSem sig := ((cc0_scratch7.slice (Rect.unit (s := S4x3) ![1, 2] S1x1.size inb_S4x3_S1x1_1_2)).squeeze S_ squeezes_S1x1_S_).sem
abbrev rS_1_2 : DmaSem sig := ((cc0_scratch8.slice (Rect.unit (s := S4x3) ![1, 2] S1x1.size inb_S4x3_S1x1_1_2)).squeeze S_ squeezes_S1x1_S_).sem
abbrev sM_1_2 : Memref sig .tc .vmem S64x1024 .bf16 := ((Memref.whole cc0_scratch4 : Memref sig .tc .vmem S4x3x64x1024 .bf16).slice (Rect.unit (s := S4x3x64x1024) ![1, 2, 0, 0] S1x1x64x1024.size inb_S4x3x64x1024_S1x1x64x1024_1_2_0_0) (fun _ => rfl)).squeeze S64x1024 squeezes_S1x1x64x1024_S64x1024
abbrev rM_1_2 : Memref sig .tc .vmem S64x1024 .bf16 := ((Memref.whole cc0_scratch5 : Memref sig .tc .vmem S4x3x64x1024 .bf16).slice (Rect.unit (s := S4x3x64x1024) ![1, 2, 0, 0] S1x1x64x1024.size inb_S4x3x64x1024_S1x1x64x1024_1_2_0_0) (fun _ => rfl)).squeeze S64x1024 squeezes_S1x1x64x1024_S64x1024
abbrev sS_2_0 : DmaSem sig := ((cc0_scratch7.slice (Rect.unit (s := S4x3) ![2, 0] S1x1.size inb_S4x3_S1x1_2_0)).squeeze S_ squeezes_S1x1_S_).sem
abbrev rS_2_0 : DmaSem sig := ((cc0_scratch8.slice (Rect.unit (s := S4x3) ![2, 0] S1x1.size inb_S4x3_S1x1_2_0)).squeeze S_ squeezes_S1x1_S_).sem
abbrev sM_2_0 : Memref sig .tc .vmem S64x1024 .bf16 := ((Memref.whole cc0_scratch4 : Memref sig .tc .vmem S4x3x64x1024 .bf16).slice (Rect.unit (s := S4x3x64x1024) ![2, 0, 0, 0] S1x1x64x1024.size inb_S4x3x64x1024_S1x1x64x1024_2_0_0_0) (fun _ => rfl)).squeeze S64x1024 squeezes_S1x1x64x1024_S64x1024
abbrev rM_2_0 : Memref sig .tc .vmem S64x1024 .bf16 := ((Memref.whole cc0_scratch5 : Memref sig .tc .vmem S4x3x64x1024 .bf16).slice (Rect.unit (s := S4x3x64x1024) ![2, 0, 0, 0] S1x1x64x1024.size inb_S4x3x64x1024_S1x1x64x1024_2_0_0_0) (fun _ => rfl)).squeeze S64x1024 squeezes_S1x1x64x1024_S64x1024
abbrev sS_2_1 : DmaSem sig := ((cc0_scratch7.slice (Rect.unit (s := S4x3) ![2, 1] S1x1.size inb_S4x3_S1x1_2_1)).squeeze S_ squeezes_S1x1_S_).sem
abbrev rS_2_1 : DmaSem sig := ((cc0_scratch8.slice (Rect.unit (s := S4x3) ![2, 1] S1x1.size inb_S4x3_S1x1_2_1)).squeeze S_ squeezes_S1x1_S_).sem
abbrev sM_2_1 : Memref sig .tc .vmem S64x1024 .bf16 := ((Memref.whole cc0_scratch4 : Memref sig .tc .vmem S4x3x64x1024 .bf16).slice (Rect.unit (s := S4x3x64x1024) ![2, 1, 0, 0] S1x1x64x1024.size inb_S4x3x64x1024_S1x1x64x1024_2_1_0_0) (fun _ => rfl)).squeeze S64x1024 squeezes_S1x1x64x1024_S64x1024
abbrev rM_2_1 : Memref sig .tc .vmem S64x1024 .bf16 := ((Memref.whole cc0_scratch5 : Memref sig .tc .vmem S4x3x64x1024 .bf16).slice (Rect.unit (s := S4x3x64x1024) ![2, 1, 0, 0] S1x1x64x1024.size inb_S4x3x64x1024_S1x1x64x1024_2_1_0_0) (fun _ => rfl)).squeeze S64x1024 squeezes_S1x1x64x1024_S64x1024
abbrev sS_2_2 : DmaSem sig := ((cc0_scratch7.slice (Rect.unit (s := S4x3) ![2, 2] S1x1.size inb_S4x3_S1x1_2_2)).squeeze S_ squeezes_S1x1_S_).sem
abbrev rS_2_2 : DmaSem sig := ((cc0_scratch8.slice (Rect.unit (s := S4x3) ![2, 2] S1x1.size inb_S4x3_S1x1_2_2)).squeeze S_ squeezes_S1x1_S_).sem
abbrev sM_2_2 : Memref sig .tc .vmem S64x1024 .bf16 := ((Memref.whole cc0_scratch4 : Memref sig .tc .vmem S4x3x64x1024 .bf16).slice (Rect.unit (s := S4x3x64x1024) ![2, 2, 0, 0] S1x1x64x1024.size inb_S4x3x64x1024_S1x1x64x1024_2_2_0_0) (fun _ => rfl)).squeeze S64x1024 squeezes_S1x1x64x1024_S64x1024
abbrev rM_2_2 : Memref sig .tc .vmem S64x1024 .bf16 := ((Memref.whole cc0_scratch5 : Memref sig .tc .vmem S4x3x64x1024 .bf16).slice (Rect.unit (s := S4x3x64x1024) ![2, 2, 0, 0] S1x1x64x1024.size inb_S4x3x64x1024_S1x1x64x1024_2_2_0_0) (fun _ => rfl)).squeeze S64x1024 squeezes_S1x1x64x1024_S64x1024
abbrev sS_3_0 : DmaSem sig := ((cc0_scratch7.slice (Rect.unit (s := S4x3) ![3, 0] S1x1.size inb_S4x3_S1x1_3_0)).squeeze S_ squeezes_S1x1_S_).sem
abbrev rS_3_0 : DmaSem sig := ((cc0_scratch8.slice (Rect.unit (s := S4x3) ![3, 0] S1x1.size inb_S4x3_S1x1_3_0)).squeeze S_ squeezes_S1x1_S_).sem
abbrev sM_3_0 : Memref sig .tc .vmem S64x1024 .bf16 := ((Memref.whole cc0_scratch4 : Memref sig .tc .vmem S4x3x64x1024 .bf16).slice (Rect.unit (s := S4x3x64x1024) ![3, 0, 0, 0] S1x1x64x1024.size inb_S4x3x64x1024_S1x1x64x1024_3_0_0_0) (fun _ => rfl)).squeeze S64x1024 squeezes_S1x1x64x1024_S64x1024
abbrev rM_3_0 : Memref sig .tc .vmem S64x1024 .bf16 := ((Memref.whole cc0_scratch5 : Memref sig .tc .vmem S4x3x64x1024 .bf16).slice (Rect.unit (s := S4x3x64x1024) ![3, 0, 0, 0] S1x1x64x1024.size inb_S4x3x64x1024_S1x1x64x1024_3_0_0_0) (fun _ => rfl)).squeeze S64x1024 squeezes_S1x1x64x1024_S64x1024
abbrev sS_3_1 : DmaSem sig := ((cc0_scratch7.slice (Rect.unit (s := S4x3) ![3, 1] S1x1.size inb_S4x3_S1x1_3_1)).squeeze S_ squeezes_S1x1_S_).sem
abbrev rS_3_1 : DmaSem sig := ((cc0_scratch8.slice (Rect.unit (s := S4x3) ![3, 1] S1x1.size inb_S4x3_S1x1_3_1)).squeeze S_ squeezes_S1x1_S_).sem
abbrev sM_3_1 : Memref sig .tc .vmem S64x1024 .bf16 := ((Memref.whole cc0_scratch4 : Memref sig .tc .vmem S4x3x64x1024 .bf16).slice (Rect.unit (s := S4x3x64x1024) ![3, 1, 0, 0] S1x1x64x1024.size inb_S4x3x64x1024_S1x1x64x1024_3_1_0_0) (fun _ => rfl)).squeeze S64x1024 squeezes_S1x1x64x1024_S64x1024
abbrev rM_3_1 : Memref sig .tc .vmem S64x1024 .bf16 := ((Memref.whole cc0_scratch5 : Memref sig .tc .vmem S4x3x64x1024 .bf16).slice (Rect.unit (s := S4x3x64x1024) ![3, 1, 0, 0] S1x1x64x1024.size inb_S4x3x64x1024_S1x1x64x1024_3_1_0_0) (fun _ => rfl)).squeeze S64x1024 squeezes_S1x1x64x1024_S64x1024
abbrev sS_3_2 : DmaSem sig := ((cc0_scratch7.slice (Rect.unit (s := S4x3) ![3, 2] S1x1.size inb_S4x3_S1x1_3_2)).squeeze S_ squeezes_S1x1_S_).sem
abbrev rS_3_2 : DmaSem sig := ((cc0_scratch8.slice (Rect.unit (s := S4x3) ![3, 2] S1x1.size inb_S4x3_S1x1_3_2)).squeeze S_ squeezes_S1x1_S_).sem
abbrev sM_3_2 : Memref sig .tc .vmem S64x1024 .bf16 := ((Memref.whole cc0_scratch4 : Memref sig .tc .vmem S4x3x64x1024 .bf16).slice (Rect.unit (s := S4x3x64x1024) ![3, 2, 0, 0] S1x1x64x1024.size inb_S4x3x64x1024_S1x1x64x1024_3_2_0_0) (fun _ => rfl)).squeeze S64x1024 squeezes_S1x1x64x1024_S64x1024
abbrev rM_3_2 : Memref sig .tc .vmem S64x1024 .bf16 := ((Memref.whole cc0_scratch5 : Memref sig .tc .vmem S4x3x64x1024 .bf16).slice (Rect.unit (s := S4x3x64x1024) ![3, 2, 0, 0] S1x1x64x1024.size inb_S4x3x64x1024_S1x1x64x1024_3_2_0_0) (fun _ => rfl)).squeeze S64x1024 squeezes_S1x1x64x1024_S64x1024
abbrev cS_0_0 : DmaSem sig := ((cc0_scratch6.slice (Rect.unit (s := S4x8) ![0, 0] S1x1.size inb_S4x8_S1x1_0_0)).squeeze S_ squeezes_S1x1_S_).sem
abbrev gM_0_0 : Memref sig .tc .vmem S16x64x128 .f32 := ((Memref.whole cc0_scratch0 : Memref sig .tc .vmem S4x8x16x64x128 .f32).slice (Rect.unit (s := S4x8x16x64x128) ![0, 0, 0, 0, 0] S1x1x16x64x128.size inb_S4x8x16x64x128_S1x1x16x64x128_0_0_0_0_0) (fun _ => rfl)).squeeze S16x64x128 squeezes_S1x1x16x64x128_S16x64x128
abbrev cS_0_1 : DmaSem sig := ((cc0_scratch6.slice (Rect.unit (s := S4x8) ![0, 1] S1x1.size inb_S4x8_S1x1_0_1)).squeeze S_ squeezes_S1x1_S_).sem
abbrev gM_0_1 : Memref sig .tc .vmem S16x64x128 .f32 := ((Memref.whole cc0_scratch0 : Memref sig .tc .vmem S4x8x16x64x128 .f32).slice (Rect.unit (s := S4x8x16x64x128) ![0, 1, 0, 0, 0] S1x1x16x64x128.size inb_S4x8x16x64x128_S1x1x16x64x128_0_1_0_0_0) (fun _ => rfl)).squeeze S16x64x128 squeezes_S1x1x16x64x128_S16x64x128
abbrev cS_0_2 : DmaSem sig := ((cc0_scratch6.slice (Rect.unit (s := S4x8) ![0, 2] S1x1.size inb_S4x8_S1x1_0_2)).squeeze S_ squeezes_S1x1_S_).sem
abbrev gM_0_2 : Memref sig .tc .vmem S16x64x128 .f32 := ((Memref.whole cc0_scratch0 : Memref sig .tc .vmem S4x8x16x64x128 .f32).slice (Rect.unit (s := S4x8x16x64x128) ![0, 2, 0, 0, 0] S1x1x16x64x128.size inb_S4x8x16x64x128_S1x1x16x64x128_0_2_0_0_0) (fun _ => rfl)).squeeze S16x64x128 squeezes_S1x1x16x64x128_S16x64x128
abbrev cS_0_3 : DmaSem sig := ((cc0_scratch6.slice (Rect.unit (s := S4x8) ![0, 3] S1x1.size inb_S4x8_S1x1_0_3)).squeeze S_ squeezes_S1x1_S_).sem
abbrev gM_0_3 : Memref sig .tc .vmem S16x64x128 .f32 := ((Memref.whole cc0_scratch0 : Memref sig .tc .vmem S4x8x16x64x128 .f32).slice (Rect.unit (s := S4x8x16x64x128) ![0, 3, 0, 0, 0] S1x1x16x64x128.size inb_S4x8x16x64x128_S1x1x16x64x128_0_3_0_0_0) (fun _ => rfl)).squeeze S16x64x128 squeezes_S1x1x16x64x128_S16x64x128
abbrev cS_0_4 : DmaSem sig := ((cc0_scratch6.slice (Rect.unit (s := S4x8) ![0, 4] S1x1.size inb_S4x8_S1x1_0_4)).squeeze S_ squeezes_S1x1_S_).sem
abbrev gM_0_4 : Memref sig .tc .vmem S16x64x128 .f32 := ((Memref.whole cc0_scratch0 : Memref sig .tc .vmem S4x8x16x64x128 .f32).slice (Rect.unit (s := S4x8x16x64x128) ![0, 4, 0, 0, 0] S1x1x16x64x128.size inb_S4x8x16x64x128_S1x1x16x64x128_0_4_0_0_0) (fun _ => rfl)).squeeze S16x64x128 squeezes_S1x1x16x64x128_S16x64x128
abbrev cS_0_5 : DmaSem sig := ((cc0_scratch6.slice (Rect.unit (s := S4x8) ![0, 5] S1x1.size inb_S4x8_S1x1_0_5)).squeeze S_ squeezes_S1x1_S_).sem
abbrev gM_0_5 : Memref sig .tc .vmem S16x64x128 .f32 := ((Memref.whole cc0_scratch0 : Memref sig .tc .vmem S4x8x16x64x128 .f32).slice (Rect.unit (s := S4x8x16x64x128) ![0, 5, 0, 0, 0] S1x1x16x64x128.size inb_S4x8x16x64x128_S1x1x16x64x128_0_5_0_0_0) (fun _ => rfl)).squeeze S16x64x128 squeezes_S1x1x16x64x128_S16x64x128
abbrev cS_0_6 : DmaSem sig := ((cc0_scratch6.slice (Rect.unit (s := S4x8) ![0, 6] S1x1.size inb_S4x8_S1x1_0_6)).squeeze S_ squeezes_S1x1_S_).sem
abbrev gM_0_6 : Memref sig .tc .vmem S16x64x128 .f32 := ((Memref.whole cc0_scratch0 : Memref sig .tc .vmem S4x8x16x64x128 .f32).slice (Rect.unit (s := S4x8x16x64x128) ![0, 6, 0, 0, 0] S1x1x16x64x128.size inb_S4x8x16x64x128_S1x1x16x64x128_0_6_0_0_0) (fun _ => rfl)).squeeze S16x64x128 squeezes_S1x1x16x64x128_S16x64x128
abbrev cS_0_7 : DmaSem sig := ((cc0_scratch6.slice (Rect.unit (s := S4x8) ![0, 7] S1x1.size inb_S4x8_S1x1_0_7)).squeeze S_ squeezes_S1x1_S_).sem
abbrev gM_0_7 : Memref sig .tc .vmem S16x64x128 .f32 := ((Memref.whole cc0_scratch0 : Memref sig .tc .vmem S4x8x16x64x128 .f32).slice (Rect.unit (s := S4x8x16x64x128) ![0, 7, 0, 0, 0] S1x1x16x64x128.size inb_S4x8x16x64x128_S1x1x16x64x128_0_7_0_0_0) (fun _ => rfl)).squeeze S16x64x128 squeezes_S1x1x16x64x128_S16x64x128
abbrev cS_1_0 : DmaSem sig := ((cc0_scratch6.slice (Rect.unit (s := S4x8) ![1, 0] S1x1.size inb_S4x8_S1x1_1_0)).squeeze S_ squeezes_S1x1_S_).sem
abbrev gM_1_0 : Memref sig .tc .vmem S16x64x128 .f32 := ((Memref.whole cc0_scratch0 : Memref sig .tc .vmem S4x8x16x64x128 .f32).slice (Rect.unit (s := S4x8x16x64x128) ![1, 0, 0, 0, 0] S1x1x16x64x128.size inb_S4x8x16x64x128_S1x1x16x64x128_1_0_0_0_0) (fun _ => rfl)).squeeze S16x64x128 squeezes_S1x1x16x64x128_S16x64x128
abbrev cS_1_1 : DmaSem sig := ((cc0_scratch6.slice (Rect.unit (s := S4x8) ![1, 1] S1x1.size inb_S4x8_S1x1_1_1)).squeeze S_ squeezes_S1x1_S_).sem
abbrev gM_1_1 : Memref sig .tc .vmem S16x64x128 .f32 := ((Memref.whole cc0_scratch0 : Memref sig .tc .vmem S4x8x16x64x128 .f32).slice (Rect.unit (s := S4x8x16x64x128) ![1, 1, 0, 0, 0] S1x1x16x64x128.size inb_S4x8x16x64x128_S1x1x16x64x128_1_1_0_0_0) (fun _ => rfl)).squeeze S16x64x128 squeezes_S1x1x16x64x128_S16x64x128
abbrev cS_1_2 : DmaSem sig := ((cc0_scratch6.slice (Rect.unit (s := S4x8) ![1, 2] S1x1.size inb_S4x8_S1x1_1_2)).squeeze S_ squeezes_S1x1_S_).sem
abbrev gM_1_2 : Memref sig .tc .vmem S16x64x128 .f32 := ((Memref.whole cc0_scratch0 : Memref sig .tc .vmem S4x8x16x64x128 .f32).slice (Rect.unit (s := S4x8x16x64x128) ![1, 2, 0, 0, 0] S1x1x16x64x128.size inb_S4x8x16x64x128_S1x1x16x64x128_1_2_0_0_0) (fun _ => rfl)).squeeze S16x64x128 squeezes_S1x1x16x64x128_S16x64x128
abbrev cS_1_3 : DmaSem sig := ((cc0_scratch6.slice (Rect.unit (s := S4x8) ![1, 3] S1x1.size inb_S4x8_S1x1_1_3)).squeeze S_ squeezes_S1x1_S_).sem
abbrev gM_1_3 : Memref sig .tc .vmem S16x64x128 .f32 := ((Memref.whole cc0_scratch0 : Memref sig .tc .vmem S4x8x16x64x128 .f32).slice (Rect.unit (s := S4x8x16x64x128) ![1, 3, 0, 0, 0] S1x1x16x64x128.size inb_S4x8x16x64x128_S1x1x16x64x128_1_3_0_0_0) (fun _ => rfl)).squeeze S16x64x128 squeezes_S1x1x16x64x128_S16x64x128
abbrev cS_1_4 : DmaSem sig := ((cc0_scratch6.slice (Rect.unit (s := S4x8) ![1, 4] S1x1.size inb_S4x8_S1x1_1_4)).squeeze S_ squeezes_S1x1_S_).sem
abbrev gM_1_4 : Memref sig .tc .vmem S16x64x128 .f32 := ((Memref.whole cc0_scratch0 : Memref sig .tc .vmem S4x8x16x64x128 .f32).slice (Rect.unit (s := S4x8x16x64x128) ![1, 4, 0, 0, 0] S1x1x16x64x128.size inb_S4x8x16x64x128_S1x1x16x64x128_1_4_0_0_0) (fun _ => rfl)).squeeze S16x64x128 squeezes_S1x1x16x64x128_S16x64x128
abbrev cS_1_5 : DmaSem sig := ((cc0_scratch6.slice (Rect.unit (s := S4x8) ![1, 5] S1x1.size inb_S4x8_S1x1_1_5)).squeeze S_ squeezes_S1x1_S_).sem
abbrev gM_1_5 : Memref sig .tc .vmem S16x64x128 .f32 := ((Memref.whole cc0_scratch0 : Memref sig .tc .vmem S4x8x16x64x128 .f32).slice (Rect.unit (s := S4x8x16x64x128) ![1, 5, 0, 0, 0] S1x1x16x64x128.size inb_S4x8x16x64x128_S1x1x16x64x128_1_5_0_0_0) (fun _ => rfl)).squeeze S16x64x128 squeezes_S1x1x16x64x128_S16x64x128
abbrev cS_1_6 : DmaSem sig := ((cc0_scratch6.slice (Rect.unit (s := S4x8) ![1, 6] S1x1.size inb_S4x8_S1x1_1_6)).squeeze S_ squeezes_S1x1_S_).sem
abbrev gM_1_6 : Memref sig .tc .vmem S16x64x128 .f32 := ((Memref.whole cc0_scratch0 : Memref sig .tc .vmem S4x8x16x64x128 .f32).slice (Rect.unit (s := S4x8x16x64x128) ![1, 6, 0, 0, 0] S1x1x16x64x128.size inb_S4x8x16x64x128_S1x1x16x64x128_1_6_0_0_0) (fun _ => rfl)).squeeze S16x64x128 squeezes_S1x1x16x64x128_S16x64x128
abbrev cS_1_7 : DmaSem sig := ((cc0_scratch6.slice (Rect.unit (s := S4x8) ![1, 7] S1x1.size inb_S4x8_S1x1_1_7)).squeeze S_ squeezes_S1x1_S_).sem
abbrev gM_1_7 : Memref sig .tc .vmem S16x64x128 .f32 := ((Memref.whole cc0_scratch0 : Memref sig .tc .vmem S4x8x16x64x128 .f32).slice (Rect.unit (s := S4x8x16x64x128) ![1, 7, 0, 0, 0] S1x1x16x64x128.size inb_S4x8x16x64x128_S1x1x16x64x128_1_7_0_0_0) (fun _ => rfl)).squeeze S16x64x128 squeezes_S1x1x16x64x128_S16x64x128
abbrev cS_2_0 : DmaSem sig := ((cc0_scratch6.slice (Rect.unit (s := S4x8) ![2, 0] S1x1.size inb_S4x8_S1x1_2_0)).squeeze S_ squeezes_S1x1_S_).sem
abbrev gM_2_0 : Memref sig .tc .vmem S16x64x128 .f32 := ((Memref.whole cc0_scratch0 : Memref sig .tc .vmem S4x8x16x64x128 .f32).slice (Rect.unit (s := S4x8x16x64x128) ![2, 0, 0, 0, 0] S1x1x16x64x128.size inb_S4x8x16x64x128_S1x1x16x64x128_2_0_0_0_0) (fun _ => rfl)).squeeze S16x64x128 squeezes_S1x1x16x64x128_S16x64x128
abbrev cS_2_1 : DmaSem sig := ((cc0_scratch6.slice (Rect.unit (s := S4x8) ![2, 1] S1x1.size inb_S4x8_S1x1_2_1)).squeeze S_ squeezes_S1x1_S_).sem
abbrev gM_2_1 : Memref sig .tc .vmem S16x64x128 .f32 := ((Memref.whole cc0_scratch0 : Memref sig .tc .vmem S4x8x16x64x128 .f32).slice (Rect.unit (s := S4x8x16x64x128) ![2, 1, 0, 0, 0] S1x1x16x64x128.size inb_S4x8x16x64x128_S1x1x16x64x128_2_1_0_0_0) (fun _ => rfl)).squeeze S16x64x128 squeezes_S1x1x16x64x128_S16x64x128
abbrev cS_2_2 : DmaSem sig := ((cc0_scratch6.slice (Rect.unit (s := S4x8) ![2, 2] S1x1.size inb_S4x8_S1x1_2_2)).squeeze S_ squeezes_S1x1_S_).sem
abbrev gM_2_2 : Memref sig .tc .vmem S16x64x128 .f32 := ((Memref.whole cc0_scratch0 : Memref sig .tc .vmem S4x8x16x64x128 .f32).slice (Rect.unit (s := S4x8x16x64x128) ![2, 2, 0, 0, 0] S1x1x16x64x128.size inb_S4x8x16x64x128_S1x1x16x64x128_2_2_0_0_0) (fun _ => rfl)).squeeze S16x64x128 squeezes_S1x1x16x64x128_S16x64x128
abbrev cS_2_3 : DmaSem sig := ((cc0_scratch6.slice (Rect.unit (s := S4x8) ![2, 3] S1x1.size inb_S4x8_S1x1_2_3)).squeeze S_ squeezes_S1x1_S_).sem
abbrev gM_2_3 : Memref sig .tc .vmem S16x64x128 .f32 := ((Memref.whole cc0_scratch0 : Memref sig .tc .vmem S4x8x16x64x128 .f32).slice (Rect.unit (s := S4x8x16x64x128) ![2, 3, 0, 0, 0] S1x1x16x64x128.size inb_S4x8x16x64x128_S1x1x16x64x128_2_3_0_0_0) (fun _ => rfl)).squeeze S16x64x128 squeezes_S1x1x16x64x128_S16x64x128
abbrev cS_2_4 : DmaSem sig := ((cc0_scratch6.slice (Rect.unit (s := S4x8) ![2, 4] S1x1.size inb_S4x8_S1x1_2_4)).squeeze S_ squeezes_S1x1_S_).sem
abbrev gM_2_4 : Memref sig .tc .vmem S16x64x128 .f32 := ((Memref.whole cc0_scratch0 : Memref sig .tc .vmem S4x8x16x64x128 .f32).slice (Rect.unit (s := S4x8x16x64x128) ![2, 4, 0, 0, 0] S1x1x16x64x128.size inb_S4x8x16x64x128_S1x1x16x64x128_2_4_0_0_0) (fun _ => rfl)).squeeze S16x64x128 squeezes_S1x1x16x64x128_S16x64x128
abbrev cS_2_5 : DmaSem sig := ((cc0_scratch6.slice (Rect.unit (s := S4x8) ![2, 5] S1x1.size inb_S4x8_S1x1_2_5)).squeeze S_ squeezes_S1x1_S_).sem
abbrev gM_2_5 : Memref sig .tc .vmem S16x64x128 .f32 := ((Memref.whole cc0_scratch0 : Memref sig .tc .vmem S4x8x16x64x128 .f32).slice (Rect.unit (s := S4x8x16x64x128) ![2, 5, 0, 0, 0] S1x1x16x64x128.size inb_S4x8x16x64x128_S1x1x16x64x128_2_5_0_0_0) (fun _ => rfl)).squeeze S16x64x128 squeezes_S1x1x16x64x128_S16x64x128
abbrev cS_2_6 : DmaSem sig := ((cc0_scratch6.slice (Rect.unit (s := S4x8) ![2, 6] S1x1.size inb_S4x8_S1x1_2_6)).squeeze S_ squeezes_S1x1_S_).sem
abbrev gM_2_6 : Memref sig .tc .vmem S16x64x128 .f32 := ((Memref.whole cc0_scratch0 : Memref sig .tc .vmem S4x8x16x64x128 .f32).slice (Rect.unit (s := S4x8x16x64x128) ![2, 6, 0, 0, 0] S1x1x16x64x128.size inb_S4x8x16x64x128_S1x1x16x64x128_2_6_0_0_0) (fun _ => rfl)).squeeze S16x64x128 squeezes_S1x1x16x64x128_S16x64x128
abbrev cS_2_7 : DmaSem sig := ((cc0_scratch6.slice (Rect.unit (s := S4x8) ![2, 7] S1x1.size inb_S4x8_S1x1_2_7)).squeeze S_ squeezes_S1x1_S_).sem
abbrev gM_2_7 : Memref sig .tc .vmem S16x64x128 .f32 := ((Memref.whole cc0_scratch0 : Memref sig .tc .vmem S4x8x16x64x128 .f32).slice (Rect.unit (s := S4x8x16x64x128) ![2, 7, 0, 0, 0] S1x1x16x64x128.size inb_S4x8x16x64x128_S1x1x16x64x128_2_7_0_0_0) (fun _ => rfl)).squeeze S16x64x128 squeezes_S1x1x16x64x128_S16x64x128
abbrev cS_3_0 : DmaSem sig := ((cc0_scratch6.slice (Rect.unit (s := S4x8) ![3, 0] S1x1.size inb_S4x8_S1x1_3_0)).squeeze S_ squeezes_S1x1_S_).sem
abbrev gM_3_0 : Memref sig .tc .vmem S16x64x128 .f32 := ((Memref.whole cc0_scratch0 : Memref sig .tc .vmem S4x8x16x64x128 .f32).slice (Rect.unit (s := S4x8x16x64x128) ![3, 0, 0, 0, 0] S1x1x16x64x128.size inb_S4x8x16x64x128_S1x1x16x64x128_3_0_0_0_0) (fun _ => rfl)).squeeze S16x64x128 squeezes_S1x1x16x64x128_S16x64x128
abbrev cS_3_1 : DmaSem sig := ((cc0_scratch6.slice (Rect.unit (s := S4x8) ![3, 1] S1x1.size inb_S4x8_S1x1_3_1)).squeeze S_ squeezes_S1x1_S_).sem
abbrev gM_3_1 : Memref sig .tc .vmem S16x64x128 .f32 := ((Memref.whole cc0_scratch0 : Memref sig .tc .vmem S4x8x16x64x128 .f32).slice (Rect.unit (s := S4x8x16x64x128) ![3, 1, 0, 0, 0] S1x1x16x64x128.size inb_S4x8x16x64x128_S1x1x16x64x128_3_1_0_0_0) (fun _ => rfl)).squeeze S16x64x128 squeezes_S1x1x16x64x128_S16x64x128
abbrev cS_3_2 : DmaSem sig := ((cc0_scratch6.slice (Rect.unit (s := S4x8) ![3, 2] S1x1.size inb_S4x8_S1x1_3_2)).squeeze S_ squeezes_S1x1_S_).sem
abbrev gM_3_2 : Memref sig .tc .vmem S16x64x128 .f32 := ((Memref.whole cc0_scratch0 : Memref sig .tc .vmem S4x8x16x64x128 .f32).slice (Rect.unit (s := S4x8x16x64x128) ![3, 2, 0, 0, 0] S1x1x16x64x128.size inb_S4x8x16x64x128_S1x1x16x64x128_3_2_0_0_0) (fun _ => rfl)).squeeze S16x64x128 squeezes_S1x1x16x64x128_S16x64x128
abbrev cS_3_3 : DmaSem sig := ((cc0_scratch6.slice (Rect.unit (s := S4x8) ![3, 3] S1x1.size inb_S4x8_S1x1_3_3)).squeeze S_ squeezes_S1x1_S_).sem
abbrev gM_3_3 : Memref sig .tc .vmem S16x64x128 .f32 := ((Memref.whole cc0_scratch0 : Memref sig .tc .vmem S4x8x16x64x128 .f32).slice (Rect.unit (s := S4x8x16x64x128) ![3, 3, 0, 0, 0] S1x1x16x64x128.size inb_S4x8x16x64x128_S1x1x16x64x128_3_3_0_0_0) (fun _ => rfl)).squeeze S16x64x128 squeezes_S1x1x16x64x128_S16x64x128
abbrev cS_3_4 : DmaSem sig := ((cc0_scratch6.slice (Rect.unit (s := S4x8) ![3, 4] S1x1.size inb_S4x8_S1x1_3_4)).squeeze S_ squeezes_S1x1_S_).sem
abbrev gM_3_4 : Memref sig .tc .vmem S16x64x128 .f32 := ((Memref.whole cc0_scratch0 : Memref sig .tc .vmem S4x8x16x64x128 .f32).slice (Rect.unit (s := S4x8x16x64x128) ![3, 4, 0, 0, 0] S1x1x16x64x128.size inb_S4x8x16x64x128_S1x1x16x64x128_3_4_0_0_0) (fun _ => rfl)).squeeze S16x64x128 squeezes_S1x1x16x64x128_S16x64x128
abbrev cS_3_5 : DmaSem sig := ((cc0_scratch6.slice (Rect.unit (s := S4x8) ![3, 5] S1x1.size inb_S4x8_S1x1_3_5)).squeeze S_ squeezes_S1x1_S_).sem
abbrev gM_3_5 : Memref sig .tc .vmem S16x64x128 .f32 := ((Memref.whole cc0_scratch0 : Memref sig .tc .vmem S4x8x16x64x128 .f32).slice (Rect.unit (s := S4x8x16x64x128) ![3, 5, 0, 0, 0] S1x1x16x64x128.size inb_S4x8x16x64x128_S1x1x16x64x128_3_5_0_0_0) (fun _ => rfl)).squeeze S16x64x128 squeezes_S1x1x16x64x128_S16x64x128
abbrev cS_3_6 : DmaSem sig := ((cc0_scratch6.slice (Rect.unit (s := S4x8) ![3, 6] S1x1.size inb_S4x8_S1x1_3_6)).squeeze S_ squeezes_S1x1_S_).sem
abbrev gM_3_6 : Memref sig .tc .vmem S16x64x128 .f32 := ((Memref.whole cc0_scratch0 : Memref sig .tc .vmem S4x8x16x64x128 .f32).slice (Rect.unit (s := S4x8x16x64x128) ![3, 6, 0, 0, 0] S1x1x16x64x128.size inb_S4x8x16x64x128_S1x1x16x64x128_3_6_0_0_0) (fun _ => rfl)).squeeze S16x64x128 squeezes_S1x1x16x64x128_S16x64x128
abbrev cS_3_7 : DmaSem sig := ((cc0_scratch6.slice (Rect.unit (s := S4x8) ![3, 7] S1x1.size inb_S4x8_S1x1_3_7)).squeeze S_ squeezes_S1x1_S_).sem
abbrev gM_3_7 : Memref sig .tc .vmem S16x64x128 .f32 := ((Memref.whole cc0_scratch0 : Memref sig .tc .vmem S4x8x16x64x128 .f32).slice (Rect.unit (s := S4x8x16x64x128) ![3, 7, 0, 0, 0] S1x1x16x64x128.size inb_S4x8x16x64x128_S1x1x16x64x128_3_7_0_0_0) (fun _ => rfl)).squeeze S16x64x128 squeezes_S1x1x16x64x128_S16x64x128

theorem inbRow (k : Fin 4) (s : Fin 3) : ∀ a, (![k.val, s.val, 0, 0] : Fin 4 → Nat) a + S1x1x64x1024.size a ≤ S4x3x64x1024.size a := by
  revert k s; decide
/-- Receive slot `(k, s)`, the indices variables. -/
abbrev rMv (k : Fin 4) (s : Fin 3) : Memref sig .tc .vmem S64x1024 .bf16 :=
  ((Memref.whole cc0_scratch5 : Memref sig .tc .vmem S4x3x64x1024 .bf16).slice (Rect.unit (s := S4x3x64x1024) ![k.val, s.val, 0, 0] S1x1x64x1024.size (inbRow k s)) (fun _ => rfl)).squeeze S64x1024 squeezes_S1x1x64x1024_S64x1024
/-- Send slot `(k, s)`, the indices variables. -/
abbrev sMv (k : Fin 4) (s : Fin 3) : Memref sig .tc .vmem S64x1024 .bf16 :=
  ((Memref.whole cc0_scratch4 : Memref sig .tc .vmem S4x3x64x1024 .bf16).slice (Rect.unit (s := S4x3x64x1024) ![k.val, s.val, 0, 0] S1x1x64x1024.size (inbRow k s)) (fun _ => rfl)).squeeze S64x1024 squeezes_S1x1x64x1024_S64x1024

/-- Send semaphore `(k, s)` and receive semaphore `(k, s)`, by number. -/
def sSem (k : Fin 4) (s : Fin 3) : DmaSem sig := ⟨36 + 3 * k.val + s.val, by revert k s; decide⟩
def rSem (k : Fin 4) (s : Fin 3) : DmaSem sig := ⟨48 + 3 * k.val + s.val, by revert k s; decide⟩

theorem sS_0_0_eq : sS_0_0 = sSem 0 0 := by decide +kernel
theorem rS_0_0_eq : rS_0_0 = rSem 0 0 := by decide +kernel
theorem sS_0_1_eq : sS_0_1 = sSem 0 1 := by decide +kernel
theorem rS_0_1_eq : rS_0_1 = rSem 0 1 := by decide +kernel
theorem sS_0_2_eq : sS_0_2 = sSem 0 2 := by decide +kernel
theorem rS_0_2_eq : rS_0_2 = rSem 0 2 := by decide +kernel
theorem sS_1_0_eq : sS_1_0 = sSem 1 0 := by decide +kernel
theorem rS_1_0_eq : rS_1_0 = rSem 1 0 := by decide +kernel
theorem sS_1_1_eq : sS_1_1 = sSem 1 1 := by decide +kernel
theorem rS_1_1_eq : rS_1_1 = rSem 1 1 := by decide +kernel
theorem sS_1_2_eq : sS_1_2 = sSem 1 2 := by decide +kernel
theorem rS_1_2_eq : rS_1_2 = rSem 1 2 := by decide +kernel
theorem sS_2_0_eq : sS_2_0 = sSem 2 0 := by decide +kernel
theorem rS_2_0_eq : rS_2_0 = rSem 2 0 := by decide +kernel
theorem sS_2_1_eq : sS_2_1 = sSem 2 1 := by decide +kernel
theorem rS_2_1_eq : rS_2_1 = rSem 2 1 := by decide +kernel
theorem sS_2_2_eq : sS_2_2 = sSem 2 2 := by decide +kernel
theorem rS_2_2_eq : rS_2_2 = rSem 2 2 := by decide +kernel
theorem sS_3_0_eq : sS_3_0 = sSem 3 0 := by decide +kernel
theorem rS_3_0_eq : rS_3_0 = rSem 3 0 := by decide +kernel
theorem sS_3_1_eq : sS_3_1 = sSem 3 1 := by decide +kernel
theorem rS_3_1_eq : rS_3_1 = rSem 3 1 := by decide +kernel
theorem sS_3_2_eq : sS_3_2 = sSem 3 2 := by decide +kernel
theorem rS_3_2_eq : rS_3_2 = rSem 3 2 := by decide +kernel

/-- The chunk and the step of a send or a receive semaphore's number. -/
def chunkOf (q : DmaSem sig) : Fin 4 := ⟨(q.val - 36) % 12 / 3, by omega⟩
def stepOf (q : DmaSem sig) : Fin 3 := ⟨(q.val - 36) % 12 % 3, by omega⟩
def isSend (q : DmaSem sig) : Bool := decide (36 ≤ q.val ∧ q.val < 48)
def isRecv (q : DmaSem sig) : Bool := decide (48 ≤ q.val)

theorem isSend_sSem (k : Fin 4) (s : Fin 3) : isSend (sSem k s) = true := by revert k s; decide
theorem isRecv_sSem (k : Fin 4) (s : Fin 3) : isRecv (sSem k s) = false := by revert k s; decide
theorem isSend_rSem (k : Fin 4) (s : Fin 3) : isSend (rSem k s) = false := by revert k s; decide
theorem isRecv_rSem (k : Fin 4) (s : Fin 3) : isRecv (rSem k s) = true := by revert k s; decide
theorem chunkOf_sSem (k : Fin 4) (s : Fin 3) : chunkOf (sSem k s) = k := by revert k s; decide
theorem stepOf_sSem (k : Fin 4) (s : Fin 3) : stepOf (sSem k s) = s := by revert k s; decide
theorem chunkOf_rSem (k : Fin 4) (s : Fin 3) : chunkOf (rSem k s) = k := by revert k s; decide
theorem stepOf_rSem (k : Fin 4) (s : Fin 3) : stepOf (rSem k s) = s := by revert k s; decide

/-! ## Payloads -/

/-- What every device sends: chunk `k`, step `s`, device `c`. -/
abbrev Vals (F : FTy → Type) : Type := Fin 4 → Fin 3 → Dev nD → Vec F S64x1024 .bf16

variable (val : Vals F)

/-- Device `c`'s receive slot at contents `f`. -/
def rPts (c : Dev nD) (k : Fin 4) (s : Fin 3) (f : Buf (Elt F) ((rMv k s).view.loc (c : Thread nD τ))) : sProp 𝕄 :=
  (rMv k s).view.loc (c : Thread nD τ) ↦[(rMv k s).view.set]{fullShare} f
/-- Device `c`'s send slot at contents `f`. -/
def sPts (c : Dev nD) (k : Fin 4) (s : Fin 3) (f : Buf (Elt F) ((sMv k s).view.loc (c : Thread nD τ))) : sProp 𝕄 :=
  (sMv k s).view.loc (c : Thread nD τ) ↦[(sMv k s).view.set]{fullShare} f

/-- A device's receive slots of step `s`, at any contents, each with the record that its receive cell is open:
    what its barrier signal to the peer of step `s` hands over. -/
def barPay (s : Fin 3) (c : Dev nD) : sProp 𝕄 :=
  iprop((∃ f, rPts c 0 s f) ∗ (∃ f, rPts c 1 s f) ∗ (∃ f, rPts c 2 s f) ∗ (∃ f, rPts c 3 s f)
    ∗ reached ER ((c : Thread nD τ), .dma (rSem 0 s)) 0 ∗ reached ER ((c : Thread nD τ), .dma (rSem 1 s)) 0
    ∗ reached ER ((c : Thread nD τ), .dma (rSem 2 s)) 0 ∗ reached ER ((c : Thread nD τ), .dma (rSem 3 s)) 0)
/-- The receive slot holding what the peer sent. -/
def recvPay (k : Fin 4) (s : Fin 3) (c : Dev nD) : sProp 𝕄 :=
  iprop(∃ f : Buf (Elt F) ((rMv k s).view.loc (c : Thread nD τ)), rPts c k s ((rMv k s).view.write (Elt F) f (val k s (peer s c)) Finset.univ))
/-- The send slot, given back. -/
def sendPay (k : Fin 4) (s : Fin 3) (c : Dev nD) : sProp 𝕄 := iprop(∃ f, sPts (F := F) c k s f)

omit [FloatOps F] in
instance rPts_storable (c : Dev nD) (k s f) : BI.Storable (upEmb : UEmb _ 𝕄) (rPts (F := F) c k s f) := by unfold rPts; infer_instance
omit [FloatOps F] in
instance sPts_storable (c : Dev nD) (k s f) : BI.Storable (upEmb : UEmb _ 𝕄) (sPts (F := F) c k s f) := by unfold sPts; infer_instance

/-! ## The schedule -/

/-- The credit of one slot's transfer. -/
abbrev N : ℕ := (rMv 0 0).view.amount (.dma (rSem 0 0) : SemLoc sig)

/-- One round, round 0. -/
def Rd : Rounds.Schedule (GSem nD τ sig) (Fin 3) 𝕄 where
  duties g r := if r = 0 ∧ g.1.2 = .tc then
      (match g.2 with
        | .reg q => if q = barS then {0, 1, 2} else ∅
        | .dma q => if isSend q = true ∨ isRecv q = true then {0} else ∅) else ∅
  unitless _ := False
  amount g _ _ := match g.2 with
    | .reg _ => 1
    | .dma _ => N
  payload g _ d := match g.2 with
    | .reg _ => barPay d (peer d g.1.1)
    | .dma q => if isRecv q = true then recvPay val (chunkOf q) (stepOf q) g.1.1 else sendPay (chunkOf q) (stepOf q) g.1.1
  amount_pos g _ _ _ := by
    rcases g with ⟨t, q | q⟩
    · exact Nat.one_pos
    · show 0 < N; decide +kernel

instance Rd_payload_storable (g : GSem nD τ sig) (r : ℕ) (d : Fin 3) :
    BI.Storable (upEmb : UEmb _ 𝕄) ((Rd (F := F) val).payload g r d) := by
  rcases g with ⟨t, q | q⟩
  · show BI.Storable upEmb (barPay d (peer d t.1)); unfold barPay; infer_instance
  · show BI.Storable upEmb (if isRecv q = true then recvPay val (chunkOf q) (stepOf q) t.1 else sendPay (chunkOf q) (stepOf q) t.1)
    unfold recvPay sendPay; split <;> infer_instance

section Tables
variable (c : Dev nD)

omit [FloatOps F] in
theorem duties_bar : (Rd (F := F) val).duties (barCell c) 0 = {0, 1, 2} := by
  dsimp only [Rd]; rw [if_pos ⟨rfl, rfl⟩, if_pos rfl]
omit [FloatOps F] in
theorem duties_send (k : Fin 4) (s : Fin 3) : (Rd (F := F) val).duties ((c : Thread nD τ), .dma (sSem k s)) 0 = {0} := by
  dsimp only [Rd]; rw [if_pos ⟨rfl, rfl⟩, if_pos (.inl (isSend_sSem k s))]
omit [FloatOps F] in
theorem duties_recv (k : Fin 4) (s : Fin 3) : (Rd (F := F) val).duties ((c : Thread nD τ), .dma (rSem k s)) 0 = {0} := by
  dsimp only [Rd]; rw [if_pos ⟨rfl, rfl⟩, if_pos (.inr (isRecv_rSem k s))]
omit [FloatOps F] in
theorem duties_later (g : GSem nD τ sig) : ∀ r, 1 ≤ r → (Rd (F := F) val).duties g r = ∅ :=
  fun r hr => by dsimp only [Rd]; rw [if_neg fun h => by omega]
omit [FloatOps F] in
theorem amount_bar (d : Fin 3) : (Rd (F := F) val).amount (barCell c) 0 d = 1 := rfl
omit [FloatOps F] in
theorem amount_dma (q : DmaSem sig) (d : Fin 3) : (Rd (F := F) val).amount ((c : Thread nD τ), .dma q) 0 d = N := rfl
omit [FloatOps F] in
theorem payload_bar (d : Fin 3) : (Rd (F := F) val).payload (barCell c) 0 d = barPay d (peer d c) := rfl
omit [FloatOps F] in
theorem payload_send (k : Fin 4) (s : Fin 3) (d : Fin 3) : (Rd (F := F) val).payload ((c : Thread nD τ), .dma (sSem k s)) 0 d = sendPay k s c := by
  dsimp only [Rd]; rw [if_neg (by rw [isRecv_sSem]; decide), chunkOf_sSem, stepOf_sSem]
omit [FloatOps F] in
theorem payload_recv (k : Fin 4) (s : Fin 3) (d : Fin 3) : (Rd (F := F) val).payload ((c : Thread nD τ), .dma (rSem k s)) 0 d = recvPay val k s c := by
  dsimp only [Rd]; rw [if_pos (isRecv_rSem k s), chunkOf_rSem, stepOf_rSem]
omit [FloatOps F] in
theorem expect_bar : (Rd (F := F) val).expect (barCell c) 0 = 3 := by
  unfold Schedule.expect Schedule.amountOf; rw [duties_bar]; rfl
omit [FloatOps F] in
theorem expect_send (k : Fin 4) (s : Fin 3) : (Rd (F := F) val).expect ((c : Thread nD τ), .dma (sSem k s)) 0 = N := by
  unfold Schedule.expect Schedule.amountOf; rw [duties_send, Finset.sum_singleton, amount_dma]
omit [FloatOps F] in
theorem expect_recv (k : Fin 4) (s : Fin 3) : (Rd (F := F) val).expect ((c : Thread nD τ), .dma (rSem k s)) 0 = N := by
  unfold Schedule.expect Schedule.amountOf; rw [duties_recv, Finset.sum_singleton, amount_dma]

end Tables

/-! ## What a device owes, and the levels -/

/-- The sends in program order. -/
def sendSeq : Fin 12 → Fin 4 × Fin 3 :=
  ![(0, 0), (0, 1), (1, 0), (0, 2), (1, 1), (2, 0), (1, 2), (2, 1), (3, 0), (2, 2), (3, 1), (3, 2)]

abbrev rCell (k : Fin 4) (s : Fin 3) (c : Dev nD) : GSem nD τ sig := ((c : Thread nD τ), .dma (rSem k s))
abbrev sCell (k : Fin 4) (s : Fin 3) (c : Dev nD) : GSem nD τ sig := ((c : Thread nD τ), .dma (sSem k s))

/-- What is owed when `n` transfers have been issued: the credit of the rest. -/
def owed_12 (c : Dev nD) : CellTallies nD τ sig Unit := 0
def owed_11 (c : Dev nD) : CellTallies nD τ sig Unit := owed_12 c + tallyAt (rCell 3 2 (peer 2 c)) () N
def owed_10 (c : Dev nD) : CellTallies nD τ sig Unit := owed_11 c + tallyAt (rCell 3 1 (peer 1 c)) () N
def owed_9 (c : Dev nD) : CellTallies nD τ sig Unit := owed_10 c + tallyAt (rCell 2 2 (peer 2 c)) () N
def owed_8 (c : Dev nD) : CellTallies nD τ sig Unit := owed_9 c + tallyAt (rCell 3 0 (peer 0 c)) () N
def owed_7 (c : Dev nD) : CellTallies nD τ sig Unit := owed_8 c + tallyAt (rCell 2 1 (peer 1 c)) () N
def owed_6 (c : Dev nD) : CellTallies nD τ sig Unit := owed_7 c + tallyAt (rCell 1 2 (peer 2 c)) () N
def owed_5 (c : Dev nD) : CellTallies nD τ sig Unit := owed_6 c + tallyAt (rCell 2 0 (peer 0 c)) () N
def owed_4 (c : Dev nD) : CellTallies nD τ sig Unit := owed_5 c + tallyAt (rCell 1 1 (peer 1 c)) () N
def owed_3 (c : Dev nD) : CellTallies nD τ sig Unit := owed_4 c + tallyAt (rCell 0 2 (peer 2 c)) () N
def owed_2 (c : Dev nD) : CellTallies nD τ sig Unit := owed_3 c + tallyAt (rCell 1 0 (peer 0 c)) () N
def owed_1 (c : Dev nD) : CellTallies nD τ sig Unit := owed_2 c + tallyAt (rCell 0 1 (peer 1 c)) () N
def owed_0 (c : Dev nD) : CellTallies nD τ sig Unit := owed_1 c + tallyAt (rCell 0 0 (peer 0 c)) () N
def owedB_2 (c : Dev nD) : CellTallies nD τ sig Unit := owed_0 c + tallyAt (barCell (peer 2 c)) () 1
def owedB_1 (c : Dev nD) : CellTallies nD τ sig Unit := owedB_2 c + tallyAt (barCell (peer 1 c)) () 1
def owedB_0 (c : Dev nD) : CellTallies nD τ sig Unit := owedB_1 c + tallyAt (barCell (peer 0 c)) () 1

/-- A transfer's place in that order. -/
def sendIdx (k : Fin 4) (s : Fin 3) : ℕ := (![![0, 1, 3], ![2, 4, 6], ![5, 7, 9], ![8, 10, 11]] k) s

/-- Every cell of a TensorCore has a level. -/
def L (g : GSem nD τ sig) : Finset Unit := if g.1.2 = .tc then {()} else ∅
/-- Barrier cells at 1; receive cells above, in the order of the sends; the rest at 0. -/
def lv (g : GSem nD τ sig) (_ : Unit) : ℕ := match g.2 with
  | .reg _ => 1
  | .dma q => if isRecv q = true then 2 + sendIdx (chunkOf q) (stepOf q) else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Pf

end
-- ==== Proof.Rules.lean ====
/-
# One rule for each effect of the exchange

Each rule takes what the schedule says of its cells in one bundle: the right to signal a peer's barrier cell, to send a slot, to wait on
a cell. The bundles are stated over the table of contents `val`, so the rules say nothing of what the contents are.
-/
module

public import proofs.«01_k».proof.Proof.Proto

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (val : Vals F)

/-! ## Waiting while transfers are still to be issued -/

/-- Every cell of which `O` owes something is the receive cell of a transfer at place `n` or later. -/
def OwesFrom (c : Dev nD) (n : ℕ) (O : CellTallies nD τ sig Unit) : Prop :=
  ∀ g u, 0 < O g u → ∃ k s, g = rCell k s (peer s c) ∧ n ≤ sendIdx k s

theorem owesFrom_add (c : Dev nD) (n : ℕ) (O : CellTallies nD τ sig Unit) (k : Fin 4) (s : Fin 3) (a : ℕ) (hn : n ≤ sendIdx k s)
    (h : OwesFrom c (n + 1) O) : OwesFrom c n (O + tallyAt (rCell k s (peer s c)) () a) := by
  intro g u hg
  rw [Pi.add_apply, Finsupp.add_apply] at hg
  rcases Nat.add_pos_iff_pos_or_pos.mp hg with hg | hg
  · obtain ⟨k', s', e, hle⟩ := h g u hg
    exact ⟨k', s', e, by omega⟩
  · rw [tallyAt_apply] at hg
    split at hg
    · next e => exact ⟨k, s, e.1, hn⟩
    · exact absurd hg (Nat.lt_irrefl 0)

theorem owesFrom_12 (c : Dev nD) : OwesFrom c 12 (owed_12 c) := fun g u h => absurd h (Nat.lt_irrefl 0)
theorem owesFrom_11 (c : Dev nD) : OwesFrom c 11 (owed_11 c) := owesFrom_add c 11 _ 3 2 N (by decide) (owesFrom_12 c)
theorem owesFrom_10 (c : Dev nD) : OwesFrom c 10 (owed_10 c) := owesFrom_add c 10 _ 3 1 N (by decide) (owesFrom_11 c)
theorem owesFrom_9 (c : Dev nD) : OwesFrom c 9 (owed_9 c) := owesFrom_add c 9 _ 2 2 N (by decide) (owesFrom_10 c)
theorem owesFrom_8 (c : Dev nD) : OwesFrom c 8 (owed_8 c) := owesFrom_add c 8 _ 3 0 N (by decide) (owesFrom_9 c)
theorem owesFrom_7 (c : Dev nD) : OwesFrom c 7 (owed_7 c) := owesFrom_add c 7 _ 2 1 N (by decide) (owesFrom_8 c)
theorem owesFrom_6 (c : Dev nD) : OwesFrom c 6 (owed_6 c) := owesFrom_add c 6 _ 1 2 N (by decide) (owesFrom_7 c)
theorem owesFrom_5 (c : Dev nD) : OwesFrom c 5 (owed_5 c) := owesFrom_add c 5 _ 2 0 N (by decide) (owesFrom_6 c)
theorem owesFrom_4 (c : Dev nD) : OwesFrom c 4 (owed_4 c) := owesFrom_add c 4 _ 1 1 N (by decide) (owesFrom_5 c)
theorem owesFrom_3 (c : Dev nD) : OwesFrom c 3 (owed_3 c) := owesFrom_add c 3 _ 0 2 N (by decide) (owesFrom_4 c)
theorem owesFrom_2 (c : Dev nD) : OwesFrom c 2 (owed_2 c) := owesFrom_add c 2 _ 1 0 N (by decide) (owesFrom_3 c)
theorem owesFrom_1 (c : Dev nD) : OwesFrom c 1 (owed_1 c) := owesFrom_add c 1 _ 0 1 N (by decide) (owesFrom_2 c)
theorem owesFrom_0 (c : Dev nD) : OwesFrom c 0 (owed_0 c) := owesFrom_add c 0 _ 0 0 N (by decide) (owesFrom_1 c)

/-- A cell below the levels of all that is owed may be waited on. -/
theorem mayWait_below (c : Dev nD) (sm : SemLoc sig) (n : ℕ) (O : CellTallies nD τ sig Unit) (h : OwesFrom c n O)
    (hs : lv ((c : Thread nD τ), sm) () < 2 + n) : (levAts L lv : sProp 𝕄) ⊢ MayWait (c : Thread nD τ) sm () O :=
  MayOwe.of_cut (L := L) (lev := lv) (1 + n) (fun p hp => by rw [Finset.mem_singleton.mp hp, L_tc]; exact Finset.mem_singleton_self _)
    (fun g u hg => by
      obtain ⟨k, s, rfl, -⟩ := h g u hg
      rw [L_tc]; exact Finset.mem_singleton_self _)
    (fun p hp => by rw [Finset.mem_singleton.mp hp]; dsimp only; omega)
    (fun g u hg => by
      obtain ⟨k, s, rfl, hle⟩ := h g u hg
      dsimp only [lv]; rw [if_pos (isRecv_rSem k s), chunkOf_rSem, stepOf_rSem]; omega)

/-- True of a transfer's receive cell. -/
def isRecvLoc : SemLoc sig → Bool
  | .reg _ => false
  | .dma q => isRecv q

theorem mayWait_other (c : Dev nD) (sm : SemLoc sig) (n : ℕ) (O : CellTallies nD τ sig Unit) (h : OwesFrom c n O)
    (hs : isRecvLoc sm = false) : (levAts L lv : sProp 𝕄) ⊢ MayWait (c : Thread nD τ) sm () O := by
  refine mayWait_below c sm n O h ?_
  rcases sm with q | q
  · show 1 < 2 + n; omega
  · have hq : isRecv q = false := hs
    dsimp only [lv]; rw [if_neg (by rw [hq]; decide)]; omega

theorem mayWait_recv (c : Dev nD) (k : Fin 4) (s : Fin 3) (n : ℕ) (O : CellTallies nD τ sig Unit) (h : OwesFrom c n O)
    (hs : sendIdx k s < n) : (levAts L lv : sProp 𝕄) ⊢ MayWait (c : Thread nD τ) (.dma (rSem k s)) () O := by
  refine mayWait_below c _ n O h ?_
  dsimp only [lv]; rw [if_pos (isRecv_rSem k s), chunkOf_rSem, stepOf_rSem]; omega

/-! ## Bundles -/

/-- The right to signal the barrier cell of the peer of step `s`. -/
def barTok (s : Fin 3) (c : Dev nD) : sProp 𝕄 :=
  iprop(∃ κ, cellInv ER (Rd val) κ (barCell (peer s c)) ∗ reached ER (barCell (peer s c)) 0 ∗ dutyTok ER (barCell (peer s c)) 0 s)
/-- The right to wait on the own barrier cell. -/
def barWait (c : Dev nD) : sProp 𝕄 :=
  iprop(∃ κ, cellInv ER (Rd val) κ (barCell c) ∗ cred (tallyAt (barCell c) () 3) ∗ atPos ER (barCell c) 0 ∅ 0)
/-- A cell whose one round is over. -/
def cellDone (g : GSem nD τ sig) : sProp 𝕄 := iprop(∃ κ, cellInv ER (Rd val) κ g ∗ atPos ER g 1 ∅ 0)
/-- The right to issue the transfer of chunk `k`, step `s`. -/
def sendTok (k : Fin 4) (s : Fin 3) (c : Dev nD) : sProp 𝕄 :=
  iprop(∃ κ₁ κ₂, cellInv ER (Rd val) κ₁ (sCell k s c) ∗ cellInv ER (Rd val) κ₂ (rCell k s (peer s c))
    ∗ reached ER (sCell k s c) 0 ∗ reached ER (rCell k s (peer s c)) 0 ∗ dutyTok ER (sCell k s c) 0 0 ∗ dutyTok ER (rCell k s (peer s c)) 0 0)
/-- `sendTok` short of the record that the peer's receive cell is open, which the barrier brings. -/
def sendPre (k : Fin 4) (s : Fin 3) (c : Dev nD) : sProp 𝕄 :=
  iprop(∃ κ₁ κ₂, cellInv ER (Rd val) κ₁ (sCell k s c) ∗ cellInv ER (Rd val) κ₂ (rCell k s (peer s c))
    ∗ reached ER (sCell k s c) 0 ∗ dutyTok ER (sCell k s c) 0 0 ∗ dutyTok ER (rCell k s (peer s c)) 0 0)
theorem sendTok_of (k : Fin 4) (s : Fin 3) (c : Dev nD) :
    iprop(sendPre val k s c ∗ reached ER ((peer s c : Thread nD τ), .dma (rSem k s)) 0) ⊢ sendTok val k s c := by
  unfold sendPre sendTok
  iintro ⟨⟨%κ₁, %κ₂, H1, H2, H3, H5, H6⟩, H4⟩
  iexists κ₁, κ₂
  isplitl [H1]; · iexact H1
  isplitl [H2]; · iexact H2
  isplitl [H3]; · iexact H3
  isplitl [H4]; · iexact H4
  isplitl [H5]; · iexact H5
  iexact H6
/-- The right to wait on a send cell, beside the credit the transfer's issue gives. -/
def sendWait (k : Fin 4) (s : Fin 3) (c : Dev nD) : sProp 𝕄 :=
  iprop(∃ κ, cellInv ER (Rd val) κ (sCell k s c) ∗ atPos ER (sCell k s c) 0 ∅ 0)
/-- The right to wait on a receive cell. -/
def recvWait (k : Fin 4) (s : Fin 3) (c : Dev nD) : sProp 𝕄 :=
  iprop(∃ κ, cellInv ER (Rd val) κ (rCell k s c) ∗ cred (tallyAt (rCell k s c) () N) ∗ atPos ER (rCell k s c) 0 ∅ 0)
/-- A transfer of the slot is under way. -/
def sent (k : Fin 4) (s : Fin 3) (c : Dev nD) : sProp 𝕄 := cred (tallyAt (sCell k s c) () N)

/-- A cell whose round is over gives its counter back at zero. -/
theorem cellDone_close (g : GSem nD τ sig) : cellDone val g ⊢ (|={Set.univ}=> semVal g 0 : sProp 𝕄) := by
  unfold cellDone
  iintro ⟨%κ, #HI, Hat⟩
  iapply (Rounds.cell_close ER (Rd val) (Set.mem_univ κ) id (R := 0 + 1) (duties_later val g))
  isplitr; · iexact HI
  iexact Hat

/-! ## The rules -/

theorem mem_duties : ∀ s : Fin 3, s ∈ ({0, 1, 2} : Finset (Fin 3)) := by decide

theorem sig_step (s : Fin 3) (c dst : Dev nD) (hd : dst = peer s c) (O₀ O : CellTallies nD τ sig Unit) (hO : O₀ = O + tallyAt (barCell (peer s c)) () 1)
    (W : Waits sig Unit) {α : Type} (k : PUnit → Prog (TpuEff nD τ sig (Elt F) Λ₀ .tc) α) (Q : α → sProp 𝕄) :
    iprop(barTok val s c ∗ owes (c : Thread nD τ) O₀ W ∗ barPay s c)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (dst : Thread nD τ) barS (1#32).toInt) k) Q) := by
  subst hd
  unfold barTok
  iintro ⟨⟨%κ, #HI, #Hr, Ht⟩, HO, Hp⟩ Hk
  iapply (Rounds.wp_signal 𝒱₀ ER (Rd val) (c : Thread nD τ) none (dst := (peer s c : Thread nD τ)) (sem := barS) (r := 0) (d := s) (κ := κ)
      (by rw [duties_bar]; exact mem_duties s) (amount_bar val (peer s c) s) () O hO) $$ [HO Ht Hp]
  · isplitr; · iexact HI
    isplitl [HO]; · iexact HO
    isplitl [Ht]; · iexact Ht
    isplitl [Hp]; · rw [payload_bar, peer_peer]; iexact Hp
    iexact Hr
  iexact Hk

theorem rest_bar (c : Dev nD) : bigSep ((Rd (F := F) val).duties (barCell c) 0 \ ∅) (fun d => (Rd val).payload (barCell c) 0 d)
    = iprop(barPay 0 (peer 0 c) ∗ barPay 1 (peer 1 c) ∗ barPay 2 (peer 2 c)) := by
  rw [Finset.sdiff_empty, duties_bar, bigSep_insert (by decide), bigSep_insert (by decide), bigSep_singleton]
  rfl

theorem bar_step (c : Dev nD) (O : CellTallies nD τ sig Unit) (h : OwesFrom c 0 O)
    (W : Waits sig Unit) {α : Type} (k : PUnit → Prog (TpuEff nD τ sig (Elt F) Λ₀ .tc) α) (Q : α → sProp 𝕄) :
    iprop(barWait val c ∗ owes (c : Thread nD τ) O W ∗ levAts L lv)
      ⊢ iprop((iprop(owes (c : Thread nD τ) O (insert (.reg barS, ()) W) ∗ cellDone val (barCell c)
            ∗ barPay 0 (peer 0 c) ∗ barPay 1 (peer 1 c) ∗ barPay 2 (peer 2 c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (3#32).toInt) k) Q) := by
  unfold barWait
  iintro ⟨⟨%κ, #HI, Hc, Hat⟩, HO, #Hlev⟩ Hk
  iapply (Rounds.wp_wait_rest_token 𝒱₀ ER (Rd val) (c : Thread nD τ) none (κ := κ)
      (wpE_semWait_eq 𝒱₀ (c : Thread nD τ) none Set.univ) (Set.mem_univ _) () (O := O) (W := W) (R := 0) (m := 0) (T := ∅)
      ((Nat.zero_add 3).trans (expect_bar val c).symm)) $$ [Hc HO Hat]
  · isplitr; · iexact HI
    isplitl [Hc]; · iexact Hc
    isplitl [HO]; · iexact HO
    isplitr; · iapply (mayWait_other c (.reg barS) 0 O h rfl); iexact Hlev
    iexact Hat
  iintro ⟨HO, Hat, -, Hpay⟩
  iapply Hk
  isplitl [HO]; · iexact HO
  isplitl [Hat]
  · unfold cellDone; iexists κ; isplitr; · iexact HI
    iexact Hat
  iapply (Entails.of_eq (rest_bar val c)) $$ Hpay

theorem rest_send (k : Fin 4) (s : Fin 3) (c : Dev nD) : bigSep ((Rd (F := F) val).duties (sCell k s c) 0 \ ∅) (fun d => (Rd val).payload (sCell k s c) 0 d)
    = sendPay k s c := by
  rw [Finset.sdiff_empty, duties_send, bigSep_singleton, payload_send]
theorem rest_recv (k : Fin 4) (s : Fin 3) (c : Dev nD) : bigSep ((Rd (F := F) val).duties (rCell k s c) 0 \ ∅) (fun d => (Rd val).payload (rCell k s c) 0 d)
    = recvPay val k s c := by
  rw [Finset.sdiff_empty, duties_recv, bigSep_singleton, payload_recv]

theorem rMv_amount (k : Fin 4) (s : Fin 3) : (rMv k s).view.amount (.dma (rSem k s) : SemLoc sig) = N := rfl
theorem rMv_credit (k : Fin 4) (s : Fin 3) : (rMv k s).view.dmaCredit = N := rfl
theorem sMv_credit (k : Fin 4) (s : Fin 3) : (sMv k s).view.dmaCredit = N := rfl

/-- Issuing a transfer whose source holds the table's contents. -/
theorem send_step (k : Fin 4) (s : Fin 3) (c dst : Dev nD) (hd : dst = peer s c) (O₀ O : CellTallies nD τ sig Unit) (hO : O₀ = O + tallyAt (rCell k s (peer s c)) () N)
    (W : Waits sig Unit) (fs : Buf (Elt F) ((sMv k s).view.loc (c : Thread nD τ))) (hv : (sMv k s).view.read (Elt F) fs = val k s c)
    {α : Type} (k' : PUnit → Prog (TpuEff nD τ sig (Elt F) Λ₀ .tc) α) (Q : α → sProp 𝕄) {h1 h2 h3 h4} :
    iprop(sendTok val k s c ∗ owes (c : Thread nD τ) O₀ W ∗ sPts c k s fs ∗ (∃ f, rPts (peer s c) k s f))
      ⊢ iprop((iprop(owes (c : Thread nD τ) O W ∗ sent k s c) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (sMv k s) (.remote (dst : Thread nD τ) (rMv k s) (.dma (sSem k s)) h1) (.dma (rSem k s)) h2 h3 h4) k') Q) := by
  subst hd
  unfold sendTok sPts
  iintro ⟨⟨%κ₁, %κ₂, #HI₁, #HI₂, #Hr₁, #Hr₂, Ht₁, Ht₂⟩, HO, Hs, ⟨%f, Hr⟩⟩ Hk
  unfold rPts
  iapply (Rounds.wp_send_pointsTo 𝒱₀ ER (Rd val) (c : Thread nD τ) none (c' := (peer s c : Thread nD τ)) (src := sMv k s) (dst := rMv k s)
      (sS := .dma (sSem k s)) (sem := .dma (rSem k s)) (q := fullShare) (fs := fs) (κ₁ := κ₁) (κ₂ := κ₂) (r₁ := 0) (r₂ := 0) (d₁ := 0) (d₂ := 0) (fd := f)
      (by rw [duties_send]; exact Finset.mem_singleton_self _) (by rw [duties_recv]; exact Finset.mem_singleton_self _)
      () () N (rMv_amount k s) (amount_dma val c _ 0) (amount_dma val (peer s c) _ 0) O hO (W := W)
      (by rw [payload_send]; unfold sendPay sPts; iintro H; iexists _; iexact H)
      (by rw [payload_recv]; unfold recvPay rPts; rw [hv, peer_peer]; iintro H; iexists f; iexact H)) $$ [Hs Hr HO Ht₁ Ht₂]
  · isplitr; · iexact HI₁
    isplitr; · iexact HI₂
    isplitl [Hs]; · iexact Hs
    isplitl [Hr]; · iexact Hr
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexact HO
  unfold sent; iexact Hc

/-- The send slot holds the table's contents. -/
def sReady (k : Fin 4) (s : Fin 3) (c : Dev nD) : sProp 𝕄 :=
  iprop(∃ f, sPts (F := F) c k s f ∗ ⌜(sMv k s).view.read (Elt F) f = val k s c⌝)

theorem issue_step (k : Fin 4) (s : Fin 3) (c dst : Dev nD) (hd : dst = peer s c) (O₀ O : CellTallies nD τ sig Unit) (hO : O₀ = O + tallyAt (rCell k s (peer s c)) () N)
    (W : Waits sig Unit) {α : Type} (k' : PUnit → Prog (TpuEff nD τ sig (Elt F) Λ₀ .tc) α) (Q : α → sProp 𝕄) {h1 h2 h3 h4} :
    iprop(sendTok val k s c ∗ owes (c : Thread nD τ) O₀ W ∗ sReady val k s c ∗ (∃ f, rPts (F := F) (peer s c) k s f))
      ⊢ iprop((iprop(owes (c : Thread nD τ) O W ∗ sent k s c) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (sMv k s) (.remote (dst : Thread nD τ) (rMv k s) (.dma (sSem k s)) h1) (.dma (rSem k s)) h2 h3 h4) k') Q) := by
  unfold sReady
  iintro ⟨Ht, HO, ⟨%fs, Hs, %hv⟩, Hr⟩
  iapply (send_step val k s c dst hd O₀ O hO W fs hv k' Q) $$ [Ht HO Hs Hr]
  isplitl [Ht]; · iexact Ht
  isplitl [HO]; · iexact HO
  isplitl [Hs]; · iexact Hs
  iexact Hr

/-- The wait for a transfer's source. -/
theorem sent_step (k : Fin 4) (s : Fin 3) (c : Dev nD) (n : ℕ) (O : CellTallies nD τ sig Unit) (h : OwesFrom c n O)
    (W : Waits sig Unit) {sp' : Space} {S' : Shape} {e' : EltTy} {src : Memref sig .tc sp' S' e'} {h1 h2} {α : Type}
    (k' : PUnit → Prog (TpuEff nD τ sig (Elt F) Λ₀ .tc) α) (Q : α → sProp 𝕄) :
    iprop(sendWait val k s c ∗ sent k s c ∗ owes (c : Thread nD τ) O W ∗ levAts L lv)
      ⊢ iprop((iprop(owes (c : Thread nD τ) O (insert (.dma (sSem k s), ()) W) ∗ cellDone val (sCell k s c) ∗ (∃ f, sPts (F := F) c k s f))
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 (sSem k s) src (sMv k s) h1 h2) k') Q) := by
  unfold sendWait sent
  iintro ⟨⟨%κ, #HI, Hat⟩, Hc, HO, #Hlev⟩ Hk
  iapply (Rounds.wp_wait_rest_token 𝒱₀ ER (Rd val) (c : Thread nD τ) none (κ := κ) (k' := N)
      (fun K => by rw [wpE_waitDma2_eq, sMv_credit]) (Set.mem_univ _) () (O := O) (W := W) (R := 0) (m := 0) (T := ∅)
      ((Nat.zero_add _).trans (expect_send val c k s).symm)) $$ [Hc HO Hat]
  · isplitr; · iexact HI
    isplitl [Hc]; · iexact Hc
    isplitl [HO]; · iexact HO
    isplitr; · iapply (mayWait_other c (.dma (sSem k s)) n O h (isRecv_sSem k s)); iexact Hlev
    iexact Hat
  iintro ⟨HO, Hat, -, Hpay⟩
  iapply Hk
  isplitl [HO]; · iexact HO
  isplitl [Hat]
  · unfold cellDone; iexists κ; isplitr; · iexact HI
    iexact Hat
  iapply (Entails.of_eq ((rest_send val k s c).trans (by unfold sendPay; rfl))) $$ Hpay

/-- The wait for what the peer sent. -/
theorem recv_step (k : Fin 4) (s : Fin 3) (c : Dev nD) (n : ℕ) (O : CellTallies nD τ sig Unit) (h : OwesFrom c n O) (hn : sendIdx k s < n)
    (W : Waits sig Unit) {sp' : Space} {S' : Shape} {e' : EltTy} {src : Memref sig .tc sp' S' e'} {h1 h2} {α : Type}
    (k' : PUnit → Prog (TpuEff nD τ sig (Elt F) Λ₀ .tc) α) (Q : α → sProp 𝕄) :
    iprop(recvWait val k s c ∗ owes (c : Thread nD τ) O W ∗ levAts L lv)
      ⊢ iprop((iprop(owes (c : Thread nD τ) O (insert (.dma (rSem k s), ()) W) ∗ cellDone val (rCell k s c) ∗ recvPay val k s c)
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 (rSem k s) src (rMv k s) h1 h2) k') Q) := by
  unfold recvWait
  iintro ⟨⟨%κ, #HI, Hc, Hat⟩, HO, #Hlev⟩ Hk
  iapply (Rounds.wp_wait_rest_token 𝒱₀ ER (Rd val) (c : Thread nD τ) none (κ := κ) (k' := N)
      (fun K => by rw [wpE_waitDma2_eq, rMv_credit]) (Set.mem_univ _) () (O := O) (W := W) (R := 0) (m := 0) (T := ∅)
      ((Nat.zero_add _).trans (expect_recv val c k s).symm)) $$ [Hc HO Hat]
  · isplitr; · iexact HI
    isplitl [Hc]; · iexact Hc
    isplitl [HO]; · iexact HO
    isplitr; · iapply (mayWait_recv c k s n O h hn); iexact Hlev
    iexact Hat
  iintro ⟨HO, Hat, -, Hpay⟩
  iapply Hk
  isplitl [HO]; · iexact HO
  isplitl [Hat]
  · unfold cellDone; iexists κ; isplitr; · iexact HI
    iexact Hat
  iapply (Entails.of_eq (rest_recv val k s c)) $$ Hpay

theorem recv_open_0_0 (c : Dev nD) : recvPay val 0 0 c ⊢ iprop(∃ f : Buf (Elt F) (rM_0_0.view.loc (c : Thread nD τ)), rM_0_0.view.loc (c : Thread nD τ) ↦[rM_0_0.view.set]{fullShare} rM_0_0.view.write (Elt F) f (val 0 0 (peer 0 c)) Finset.univ) := by
  unfold recvPay rPts; exact .rfl
theorem recv_open_0_1 (c : Dev nD) : recvPay val 0 1 c ⊢ iprop(∃ f : Buf (Elt F) (rM_0_1.view.loc (c : Thread nD τ)), rM_0_1.view.loc (c : Thread nD τ) ↦[rM_0_1.view.set]{fullShare} rM_0_1.view.write (Elt F) f (val 0 1 (peer 1 c)) Finset.univ) := by
  unfold recvPay rPts; exact .rfl
theorem recv_open_0_2 (c : Dev nD) : recvPay val 0 2 c ⊢ iprop(∃ f : Buf (Elt F) (rM_0_2.view.loc (c : Thread nD τ)), rM_0_2.view.loc (c : Thread nD τ) ↦[rM_0_2.view.set]{fullShare} rM_0_2.view.write (Elt F) f (val 0 2 (peer 2 c)) Finset.univ) := by
  unfold recvPay rPts; exact .rfl
theorem recv_open_1_0 (c : Dev nD) : recvPay val 1 0 c ⊢ iprop(∃ f : Buf (Elt F) (rM_1_0.view.loc (c : Thread nD τ)), rM_1_0.view.loc (c : Thread nD τ) ↦[rM_1_0.view.set]{fullShare} rM_1_0.view.write (Elt F) f (val 1 0 (peer 0 c)) Finset.univ) := by
  unfold recvPay rPts; exact .rfl
theorem recv_open_1_1 (c : Dev nD) : recvPay val 1 1 c ⊢ iprop(∃ f : Buf (Elt F) (rM_1_1.view.loc (c : Thread nD τ)), rM_1_1.view.loc (c : Thread nD τ) ↦[rM_1_1.view.set]{fullShare} rM_1_1.view.write (Elt F) f (val 1 1 (peer 1 c)) Finset.univ) := by
  unfold recvPay rPts; exact .rfl
theorem recv_open_1_2 (c : Dev nD) : recvPay val 1 2 c ⊢ iprop(∃ f : Buf (Elt F) (rM_1_2.view.loc (c : Thread nD τ)), rM_1_2.view.loc (c : Thread nD τ) ↦[rM_1_2.view.set]{fullShare} rM_1_2.view.write (Elt F) f (val 1 2 (peer 2 c)) Finset.univ) := by
  unfold recvPay rPts; exact .rfl
theorem recv_open_2_0 (c : Dev nD) : recvPay val 2 0 c ⊢ iprop(∃ f : Buf (Elt F) (rM_2_0.view.loc (c : Thread nD τ)), rM_2_0.view.loc (c : Thread nD τ) ↦[rM_2_0.view.set]{fullShare} rM_2_0.view.write (Elt F) f (val 2 0 (peer 0 c)) Finset.univ) := by
  unfold recvPay rPts; exact .rfl
theorem recv_open_2_1 (c : Dev nD) : recvPay val 2 1 c ⊢ iprop(∃ f : Buf (Elt F) (rM_2_1.view.loc (c : Thread nD τ)), rM_2_1.view.loc (c : Thread nD τ) ↦[rM_2_1.view.set]{fullShare} rM_2_1.view.write (Elt F) f (val 2 1 (peer 1 c)) Finset.univ) := by
  unfold recvPay rPts; exact .rfl
theorem recv_open_2_2 (c : Dev nD) : recvPay val 2 2 c ⊢ iprop(∃ f : Buf (Elt F) (rM_2_2.view.loc (c : Thread nD τ)), rM_2_2.view.loc (c : Thread nD τ) ↦[rM_2_2.view.set]{fullShare} rM_2_2.view.write (Elt F) f (val 2 2 (peer 2 c)) Finset.univ) := by
  unfold recvPay rPts; exact .rfl
theorem recv_open_3_0 (c : Dev nD) : recvPay val 3 0 c ⊢ iprop(∃ f : Buf (Elt F) (rM_3_0.view.loc (c : Thread nD τ)), rM_3_0.view.loc (c : Thread nD τ) ↦[rM_3_0.view.set]{fullShare} rM_3_0.view.write (Elt F) f (val 3 0 (peer 0 c)) Finset.univ) := by
  unfold recvPay rPts; exact .rfl
theorem recv_open_3_1 (c : Dev nD) : recvPay val 3 1 c ⊢ iprop(∃ f : Buf (Elt F) (rM_3_1.view.loc (c : Thread nD τ)), rM_3_1.view.loc (c : Thread nD τ) ↦[rM_3_1.view.set]{fullShare} rM_3_1.view.write (Elt F) f (val 3 1 (peer 1 c)) Finset.univ) := by
  unfold recvPay rPts; exact .rfl
theorem recv_open_3_2 (c : Dev nD) : recvPay val 3 2 c ⊢ iprop(∃ f : Buf (Elt F) (rM_3_2.view.loc (c : Thread nD τ)), rM_3_2.view.loc (c : Thread nD τ) ↦[rM_3_2.view.set]{fullShare} rM_3_2.view.write (Elt F) f (val 3 2 (peer 2 c)) Finset.univ) := by
  unfold recvPay rPts; exact .rfl

end Cert.KernelIdeal.Pf

end
-- ==== Proof.Lems.lean ====
module
public import proofs.«01_k».proof.Proof.Rules
@[expose] public section
set_option maxRecDepth 16384
noncomputable section
namespace Cert.KernelIdeal.Pf
open Cert.KernelIdeal Cert.KernelIdeal.Gen
open Idealize.ShloMosaic
open Idealize.ShloMosaic.TcCoe
variable {F : FTy → Type} [FloatOps F]

/-! ## Reads of one slot of a scratch, the slot written whole -/

section
variable {sp : Space} {s s' : Shape} {e : EltTy}

omit [FloatOps F] in
theorem reshape_inv {a b : Shape} (h : a.ShapeCasts b) (h' : b.ShapeCasts a) (i : b.Idx) :
    Shape.reshapeEquiv h' (Shape.reshapeEquiv h i) = i := by
  exact (Shape.reshapeEquiv h).symm_apply_apply i

omit [FloatOps F] in
/-- A slot written whole through its squeezed view, read through the scratch at the slot's rectangle. -/
theorem slot_read (m : Memref sig .tc sp s e) (r : Rect s) (h₀ : ∀ a, r.stride a = 1) (hq : r.shape.Squeezes s')
    (f : m.view.ty.Contents (Elt F)) (w : s'.Idx → Elt F e) (hc : s'.ShapeCasts r.shape) :
    m.view.readAt (Elt F) r.toLoadRect (((m.slice r h₀).squeeze s' hq).view.write (Elt F) f w Finset.univ) = shapeCast r.shape w hc := by
  have h := View.read_write_univ (Val := Elt F) (v := ((m.slice r h₀).squeeze s' hq).view) f w
  funext j
  have h2 := congrFun h (Shape.reshapeEquiv hc j)
  unfold shapeCast
  rw [← h2]
  refine Eq.trans ?_ (show (m.slice r h₀).view.read (Elt F) _ (Shape.reshapeEquiv _ (Shape.reshapeEquiv hc j)) = _ from rfl)
  rw [reshape_inv]
  rfl

omit [FloatOps F] in
theorem slot_read_writes (m : Memref sig .tc sp s e) (r : Rect s) (h₀ : ∀ a, r.stride a = 1) (hq : r.shape.Squeezes s')
    (f : m.view.ty.Contents (Elt F)) (w : s'.Idx → Elt F e) (hc : s'.ShapeCasts r.shape) :
    m.view.readAt (Elt F) r.toLoadRect (((m.slice r h₀).squeeze s' hq).view.writes (Elt F) f [⟨Rect.whole s', w⟩]) = shapeCast r.shape w hc := by
  have h := View.read_writes_whole (Val := Elt F) ((m.slice r h₀).squeeze s' hq).view f w
  funext j
  have h2 := congrFun h (Shape.reshapeEquiv hc j)
  unfold shapeCast
  rw [← h2]
  refine Eq.trans ?_ (show (m.slice r h₀).view.read (Elt F) _ (Shape.reshapeEquiv _ (Shape.reshapeEquiv hc j)) = _ from rfl)
  rw [reshape_inv]
  rfl

omit [FloatOps F] in
/-- A slot written through the scratch at its rectangle, read through its squeezed view. -/
theorem slot_back (m : Memref sig .tc sp s e) (r : Rect s) (h₀ : ∀ a, r.stride a = 1) (hq : r.shape.Squeezes s')
    (f : m.view.ty.Contents (Elt F)) (w : r.shape.Idx → Elt F e) (hc : r.shape.ShapeCasts s') :
    ((m.slice r h₀).squeeze s' hq).view.read (Elt F) (View.write (Elt F) (m.access r) f w Finset.univ) = shapeCast s' w hc := by
  have h := View.read_write_univ (Val := Elt F) (v := m.access r) f w
  funext j
  unfold shapeCast
  exact congrFun h (Shape.reshapeEquiv hc j)

omit [FloatOps F] in
theorem shapeCast_back {α : Type} {a b : Shape} (x : a.Idx → α) (h : a.ShapeCasts b) (h' : b.ShapeCasts a) :
    shapeCast a (shapeCast b x h) h' = x := by
  funext i; exact congrArg x (reshape_inv h' h i)
end
end Cert.KernelIdeal.Pf
end
-- ==== Proof.Vals.lean ====
module
public import proofs.«01_k».proof.Proof.Lems
public import Idealize.ShloMosaic.Lib.Pipeline.FrameBody
@[expose] public section
set_option maxRecDepth 16384
noncomputable section
namespace Cert.KernelIdeal.Pf
open Cert.KernelIdeal Cert.KernelIdeal.Gen
open Idealize.ShloMosaic
open Idealize.ShloMosaic.TcCoe
variable {F : FTy → Type} [FloatOps F]

/-! ## What the kernel holds, as closed functions of every device's inputs -/

/-- Every device's inputs as the kernel reads them. -/
structure Inp (F : FTy → Type) where
  x : Dev nD → Vec F S1x256x1024 .f32
  wq : Dev nD → Vec F S1024x1024 .f32
  ks : Dev nD → Vec F S16x4x64x64x128 .f32
  vs : Dev nD → Vec F S16x4x64x64x128 .f32
  wo : Dev nD → Vec F S1024x1024 .f32

theorem inbKv (c : Dev nD) (q : Fin 4) (h : Fin 8) : ∀ a, (![0, q.val, 0, 8 * c.val + h.val, 0] : Fin 5 → Nat) a + S16x1x64x1x128.size a ≤ S16x4x64x64x128.size a := by
  revert c q h; decide +kernel

theorem slicesQ (q : Fin 4) (h : Fin 8) : S256x1024.Slices ![64 * q.val, 128 * h.val] S64x128 := by
  revert q h; decide +kernel

/-- Row block `q`, head `h` of device `c`, of the keys and of the values. -/
def kRd (c : Dev nD) (q : Fin 4) (h : Fin 8) (f : Vec F S16x4x64x64x128 .f32) : Vec F S16x64x128 .f32 :=
  (((Memref.whole main_v1 : Memref sig .tc .hbm S16x4x64x64x128 .f32).slice (Rect.unit (s := S16x4x64x64x128) ![0, q.val, 0, 8 * c.val + h.val, 0] S16x1x64x1x128.size (inbKv c q h)) (fun _ => rfl)).squeeze S16x64x128 squeezes_S16x1x64x1x128_S16x64x128).view.read (Elt F) f
def vRd (c : Dev nD) (q : Fin 4) (h : Fin 8) (f : Vec F S16x4x64x64x128 .f32) : Vec F S16x64x128 .f32 :=
  (((Memref.whole main_v2 : Memref sig .tc .hbm S16x4x64x64x128 .f32).slice (Rect.unit (s := S16x4x64x64x128) ![0, q.val, 0, 8 * c.val + h.val, 0] S16x1x64x1x128.size (inbKv c q h)) (fun _ => rfl)).squeeze S16x64x128 squeezes_S16x1x64x1x128_S16x64x128).view.read (Elt F) f

omit [FloatOps F] in
theorem kRd_of (c : Dev nD) (q : Fin 4) (h : Fin 8) (off : Fin 5 → Nat) (inb) (e : off = ![0, q.val, 0, 8 * c.val + h.val, 0]) (f : Vec F S16x4x64x64x128 .f32) :
    (((Memref.whole main_v1 : Memref sig .tc .hbm S16x4x64x64x128 .f32).slice (Rect.unit (s := S16x4x64x64x128) off S16x1x64x1x128.size inb) (fun _ => rfl)).squeeze S16x64x128 squeezes_S16x1x64x1x128_S16x64x128).view.read (Elt F) f = kRd c q h f := by
  subst e; rfl
omit [FloatOps F] in
theorem vRd_of (c : Dev nD) (q : Fin 4) (h : Fin 8) (off : Fin 5 → Nat) (inb) (e : off = ![0, q.val, 0, 8 * c.val + h.val, 0]) (f : Vec F S16x4x64x64x128 .f32) :
    (((Memref.whole main_v2 : Memref sig .tc .hbm S16x4x64x64x128 .f32).slice (Rect.unit (s := S16x4x64x64x128) off S16x1x64x1x128.size inb) (fun _ => rfl)).squeeze S16x64x128 squeezes_S16x1x64x1x128_S16x64x128).view.read (Elt F) f = vRd c q h f := by
  subst e; rfl

theorem casts5 : S16x64x128.ShapeCasts S1x1x16x64x128 := by decide
theorem casts4 : S64x1024.ShapeCasts S1x1x64x1024 := by decide
theorem casts4' : S1x1x64x1024.ShapeCasts S64x1024 := by decide

/-- One head of one row block: softmax of the scores without a maximum, against the values. -/
def headG (q : FVec F S64x128 .bf16) (k v : Vec F S1x1x16x64x128 .f32) : FVec F S64x128 .bf16 := k0_pay22 q (k0_pay21 k) v

/-- The query projection of device `d`. -/
def qB (I : Inp F) (d : Dev nD) : FVec F S256x1024 .bf16 :=
  k0_pay5 ((Memref.whole cc0_stg0_0).view.readAt (Elt F) (Rect.unit ![0, 0, 0] S1x256x1024.size inb_S1x256x1024_S1x256x1024_0_0_0).toLoadRect (I.x d))
    ((Memref.whole cc0_stg1_0).view.readAt (Elt F) (Rect.unit ![0, 0] S1024x1024.size inb_S1024x1024_S1024x1024_0_0).toLoadRect (I.wq d))

/-- The output weight of device `d`, as the scratch holds it. -/
def woB (I : Inp F) (d : Dev nD) : Vec F S1024x1024 .bf16 :=
  (Memref.whole cc0_scratch2).view.readCov [⟨Rect.unit ![0, 0] S1024x1024.size inb_S1024x1024_S1024x1024_0_0, k0_pay4 (k0_pay3
    ((Memref.whole cc0_stg2_0).view.readAt (Elt F) (Rect.unit ![0, 0] S1024x1024.size inb_S1024x1024_S1024x1024_0_0).toLoadRect (I.wo d)))⟩]
    (Rect.unit ![0, 0] S1024x1024.size inb_S1024x1024_S1024x1024_0_0).toLoadRect

def hd (I : Inp F) (d : Dev nD) (q : Fin 4) (h : Fin 8) : FVec F S64x128 .bf16 :=
  headG (extractStridedSlice S64x128 ![64 * q.val, 128 * h.val] (qB I d) (slicesQ q h))
    (shapeCast S1x1x16x64x128 (kRd d q h (I.ks d)) casts5) (shapeCast S1x1x16x64x128 (vRd d q h (I.vs d)) casts5)

/-- The eight heads of a row block, written side by side. -/
def ctxL (p : Fin 8 → Vec F S64x128 .bf16) : List (View.Piece (Elt F) S64x1024 .bf16) :=
  [⟨Rect.unit ![0, 896] S64x128.size inb_S64x1024_S64x128_0_896, p 7⟩,
   ⟨Rect.unit ![0, 768] S64x128.size inb_S64x1024_S64x128_0_768, p 6⟩,
   ⟨Rect.unit ![0, 640] S64x128.size inb_S64x1024_S64x128_0_640, p 5⟩,
   ⟨Rect.unit ![0, 512] S64x128.size inb_S64x1024_S64x128_0_512, p 4⟩,
   ⟨Rect.unit ![0, 384] S64x128.size inb_S64x1024_S64x128_0_384, p 3⟩,
   ⟨Rect.unit ![0, 256] S64x128.size inb_S64x1024_S64x128_0_256, p 2⟩,
   ⟨Rect.unit ![0, 128] S64x128.size inb_S64x1024_S64x128_0_128, p 1⟩,
   ⟨Rect.unit ![0, 0] S64x128.size inb_S64x1024_S64x128_0_0, p 0⟩]

def ctx (I : Inp F) (d : Dev nD) (q : Fin 4) : Vec F S64x1024 .bf16 :=
  (Memref.whole cc0_scratch1).view.readCov (ctxL (hd I d q)) (Rect.unit ![0, 0] S64x1024.size inb_S64x1024_S64x1024_0_0).toLoadRect

/-- Device `d`'s part of row block `q` of the result. -/
def acc0 (I : Inp F) (q : Fin 4) (d : Dev nD) : FVec F S64x1024 .f32 := k0_pay23 (ctx I d q) (woB I d)
/-- What is sent of a partial sum. -/
def rnd (a : FVec F S64x1024 .f32) : FVec F S64x1024 .bf16 := truncf .bf16 a bitsLt_bf16_f32
/-- A partial sum with the peer's added. -/
def addR (a : FVec F S64x1024 .f32) (b : Vec F S64x1024 .bf16) : FVec F S64x1024 .f32 := k0_pay43 a (shapeCast S1x1x64x1024 b casts4)
def acc1 (I : Inp F) (q : Fin 4) (d : Dev nD) : FVec F S64x1024 .f32 := addR (acc0 I q d) (rnd (acc0 I q (peer 0 d)))
def acc2 (I : Inp F) (q : Fin 4) (d : Dev nD) : FVec F S64x1024 .f32 := addR (acc1 I q d) (rnd (acc1 I q (peer 1 d)))
def acc3 (I : Inp F) (q : Fin 4) (d : Dev nD) : FVec F S64x1024 .f32 := addR (acc2 I q d) (rnd (acc2 I q (peer 2 d)))

/-- What each transfer carries. -/
def valOf (I : Inp F) : Vals F := fun q s d => rnd ((![acc0 I q d, acc1 I q d, acc2 I q d] : Fin 3 → FVec F S64x1024 .f32) s)

def accL (p : Fin 4 → Vec F S64x1024 .f32) : List (View.Piece (Elt F) S256x1024 .f32) :=
  [⟨Rect.unit ![192, 0] S64x1024.size inb_S256x1024_S64x1024_192_0, p 3⟩,
   ⟨Rect.unit ![128, 0] S64x1024.size inb_S256x1024_S64x1024_128_0, p 2⟩,
   ⟨Rect.unit ![64, 0] S64x1024.size inb_S256x1024_S64x1024_64_0, p 1⟩,
   ⟨Rect.unit ![0, 0] S64x1024.size inb_S256x1024_S64x1024_0_0, p 0⟩]

/-- What the kernel leaves on device `d`. -/
def outV (I : Inp F) (d : Dev nD) : FVec F S1x256x1024 .f32 :=
  k0_pay2 ((Memref.whole cc0_scratch3).view.readCov (accL fun q => acc3 I q d) (Rect.unit ![0, 0] S256x1024.size inb_S256x1024_S256x1024_0_0).toLoadRect)

/-! ## Loads over a list of writes -/

section
variable {S : Shape} {e : EltTy}
theorem canon_drop (w' : List (View.Piece (Elt F) S e)) (p : View.Piece (Elt F) S e) (L : List (View.Piece (Elt F) S e)) (h : ∃ p' ∈ w', p'.1 = p.1) :
    View.canon (w' ++ p :: L) = View.canon (w' ++ L) := by
  obtain ⟨p', hm, he⟩ := h
  induction w' with
  | nil => cases hm
  | cons b w ih =>
    funext y
    by_cases hb : y ∈ b.1.set
    · obtain ⟨x, rfl⟩ := b.1.exists_idx_of_mem hb
      rw [List.cons_append, List.cons_append]
      exact (View.canon_cons_emb b.1 b.2 _ x).trans (View.canon_cons_emb b.1 b.2 _ x).symm
    · rw [List.cons_append, List.cons_append, View.canon_cons_of_not_mem _ _ hb, View.canon_cons_of_not_mem _ _ hb]
      rcases List.mem_cons.mp hm with rfl | hm
      · rw [he] at hb
        clear ih
        induction w with
        | nil => exact View.canon_cons_of_not_mem p L hb
        | cons b' w ih =>
          by_cases hb' : y ∈ b'.1.set
          · obtain ⟨x, rfl⟩ := b'.1.exists_idx_of_mem hb'
            rw [List.cons_append, List.cons_append]
            exact (View.canon_cons_emb b'.1 b'.2 _ x).trans (View.canon_cons_emb b'.1 b'.2 _ x).symm
          · rw [List.cons_append, List.cons_append, View.canon_cons_of_not_mem _ _ hb', View.canon_cons_of_not_mem _ _ hb']
            exact ih (by simp)
      · rw [ih hm]

theorem canon_cover (w L : List (View.Piece (Elt F) S e)) (y : S.Idx) (h : ∃ p ∈ w, y ∈ p.1.set) :
    View.canon (w ++ L) y = View.canon w y := by
  induction w with
  | nil => obtain ⟨p, hm, -⟩ := h; cases hm
  | cons b w ih =>
    by_cases hb : y ∈ b.1.set
    · obtain ⟨x, rfl⟩ := b.1.exists_idx_of_mem hb
      rw [List.cons_append]
      exact (View.canon_cons_emb b.1 b.2 _ x).trans (View.canon_cons_emb b.1 b.2 _ x).symm
    · rw [List.cons_append, View.canon_cons_of_not_mem _ _ hb, View.canon_cons_of_not_mem _ _ hb]
      refine ih ?_
      obtain ⟨p, hm, hp⟩ := h
      rcases List.mem_cons.mp hm with rfl | hm
      · exact absurd hp hb
      · exact ⟨p, hm, hp⟩
end

theorem ctxL_cover (p : Fin 8 → Vec F S64x128 .bf16) (y : S64x1024.Idx) : ∃ r ∈ ctxL (F := F) p, y ∈ r.1.set := by
  have h1 : (y 1).val < 1024 := (y 1).isLt
  have h0 : (y 0).val < 64 := (y 0).isLt

  by_cases g0 : 0 ≤ (y 1).val ∧ (y 1).val < 128
  · refine ⟨⟨Rect.unit ![0, 0] S64x128.size inb_S64x1024_S64x128_0_0, p 0⟩, by unfold ctxL; simp, ?_⟩
    rw [Rect.mem_set_unit]
    intro a
    fin_cases a
    · exact ⟨Nat.zero_le _, by show (y 0).val < 0 + 64; omega⟩
    · exact ⟨g0.1, g0.2⟩
  by_cases g1 : 128 ≤ (y 1).val ∧ (y 1).val < 256
  · refine ⟨⟨Rect.unit ![0, 128] S64x128.size inb_S64x1024_S64x128_0_128, p 1⟩, by unfold ctxL; simp, ?_⟩
    rw [Rect.mem_set_unit]
    intro a
    fin_cases a
    · exact ⟨Nat.zero_le _, by show (y 0).val < 0 + 64; omega⟩
    · exact ⟨g1.1, g1.2⟩
  by_cases g2 : 256 ≤ (y 1).val ∧ (y 1).val < 384
  · refine ⟨⟨Rect.unit ![0, 256] S64x128.size inb_S64x1024_S64x128_0_256, p 2⟩, by unfold ctxL; simp, ?_⟩
    rw [Rect.mem_set_unit]
    intro a
    fin_cases a
    · exact ⟨Nat.zero_le _, by show (y 0).val < 0 + 64; omega⟩
    · exact ⟨g2.1, g2.2⟩
  by_cases g3 : 384 ≤ (y 1).val ∧ (y 1).val < 512
  · refine ⟨⟨Rect.unit ![0, 384] S64x128.size inb_S64x1024_S64x128_0_384, p 3⟩, by unfold ctxL; simp, ?_⟩
    rw [Rect.mem_set_unit]
    intro a
    fin_cases a
    · exact ⟨Nat.zero_le _, by show (y 0).val < 0 + 64; omega⟩
    · exact ⟨g3.1, g3.2⟩
  by_cases g4 : 512 ≤ (y 1).val ∧ (y 1).val < 640
  · refine ⟨⟨Rect.unit ![0, 512] S64x128.size inb_S64x1024_S64x128_0_512, p 4⟩, by unfold ctxL; simp, ?_⟩
    rw [Rect.mem_set_unit]
    intro a
    fin_cases a
    · exact ⟨Nat.zero_le _, by show (y 0).val < 0 + 64; omega⟩
    · exact ⟨g4.1, g4.2⟩
  by_cases g5 : 640 ≤ (y 1).val ∧ (y 1).val < 768
  · refine ⟨⟨Rect.unit ![0, 640] S64x128.size inb_S64x1024_S64x128_0_640, p 5⟩, by unfold ctxL; simp, ?_⟩
    rw [Rect.mem_set_unit]
    intro a
    fin_cases a
    · exact ⟨Nat.zero_le _, by show (y 0).val < 0 + 64; omega⟩
    · exact ⟨g5.1, g5.2⟩
  by_cases g6 : 768 ≤ (y 1).val ∧ (y 1).val < 896
  · refine ⟨⟨Rect.unit ![0, 768] S64x128.size inb_S64x1024_S64x128_0_768, p 6⟩, by unfold ctxL; simp, ?_⟩
    rw [Rect.mem_set_unit]
    intro a
    fin_cases a
    · exact ⟨Nat.zero_le _, by show (y 0).val < 0 + 64; omega⟩
    · exact ⟨g6.1, g6.2⟩
  by_cases g7 : 896 ≤ (y 1).val ∧ (y 1).val < 1024
  · refine ⟨⟨Rect.unit ![0, 896] S64x128.size inb_S64x1024_S64x128_0_896, p 7⟩, by unfold ctxL; simp, ?_⟩
    rw [Rect.mem_set_unit]
    intro a
    fin_cases a
    · exact ⟨Nat.zero_le _, by show (y 0).val < 0 + 64; omega⟩
    · exact ⟨g7.1, g7.2⟩
  omega

/-- A row block's columns read back: what was written before does not matter. -/
theorem ctx_read (v : View sig .tc .vmem S64x1024 .bf16) (p : Fin 8 → Vec F S64x128 .bf16) (L : List (View.Piece (Elt F) S64x1024 .bf16)) (B : LoadRect S64x1024) :
    v.readCov (ctxL p ++ L) B = v.readCov (ctxL p) B := by
  rw [View.readCov_eq_canon', View.readCov_eq_canon']
  funext j
  exact canon_cover _ _ _ (ctxL_cover p _)

omit [FloatOps F] in
theorem kLoad (c : Dev nD) (q : Fin 4) (h : Fin 8) {off : Fin 5 → Nat} {inb} (e : off = ![0, q.val, 0, 8 * c.val + h.val, 0])
    {r : Rect S4x8x16x64x128} {h₀ : ∀ a, r.stride a = 1} {hq : r.shape.Squeezes S16x64x128} (hc : S16x64x128.ShapeCasts r.shape) {g L} (f : Vec F S16x4x64x64x128 .f32) :
    (Memref.whole cc0_scratch0 : Memref sig .tc .vmem S4x8x16x64x128 .f32).view.readAt (Elt F) r.toLoadRect
      ((((Memref.whole cc0_scratch0 : Memref sig .tc .vmem S4x8x16x64x128 .f32).slice r h₀).squeeze S16x64x128 hq).view.writes (Elt F) g
        (⟨Rect.whole S16x64x128, ReadAs.same.apply ((((Memref.whole main_v1 : Memref sig .tc .hbm S16x4x64x64x128 .f32).slice (Rect.unit (s := S16x4x64x64x128) off S16x1x64x1x128.size inb) (fun _ => rfl)).squeeze S16x64x128 squeezes_S16x1x64x1x128_S16x64x128).view.read (Elt F) f)⟩ :: L))
      = shapeCast r.shape (kRd c q h f) hc := by
  rw [kRd_of c q h off inb e f]
  exact slot_read_writes _ r h₀ hq (View.writes (((Memref.whole cc0_scratch0 : Memref sig .tc .vmem S4x8x16x64x128 .f32).slice r h₀).squeeze S16x64x128 hq).view (Elt F) g L) _ hc

omit [FloatOps F] in
theorem vLoad (c : Dev nD) (q : Fin 4) (h : Fin 8) {off : Fin 5 → Nat} {inb} (e : off = ![0, q.val, 0, 8 * c.val + h.val, 0])
    {r : Rect S4x8x16x64x128} {h₀ : ∀ a, r.stride a = 1} {hq : r.shape.Squeezes S16x64x128} (hc : S16x64x128.ShapeCasts r.shape) {g L} (f : Vec F S16x4x64x64x128 .f32) :
    (Memref.whole cc0_scratch0 : Memref sig .tc .vmem S4x8x16x64x128 .f32).view.readAt (Elt F) r.toLoadRect
      ((((Memref.whole cc0_scratch0 : Memref sig .tc .vmem S4x8x16x64x128 .f32).slice r h₀).squeeze S16x64x128 hq).view.writes (Elt F) g
        (⟨Rect.whole S16x64x128, ReadAs.same.apply ((((Memref.whole main_v2 : Memref sig .tc .hbm S16x4x64x64x128 .f32).slice (Rect.unit (s := S16x4x64x64x128) off S16x1x64x1x128.size inb) (fun _ => rfl)).squeeze S16x64x128 squeezes_S16x1x64x1x128_S16x64x128).view.read (Elt F) f)⟩ :: L))
      = shapeCast r.shape (vRd c q h f) hc := by
  rw [vRd_of c q h off inb e f]
  exact slot_read_writes _ r h₀ hq (View.writes (((Memref.whole cc0_scratch0 : Memref sig .tc .vmem S4x8x16x64x128 .f32).slice r h₀).squeeze S16x64x128 hq).view (Elt F) g L) _ hc

theorem inbQ (q : Fin 4) : ∀ a, (![64 * q.val, 0] : Fin 2 → Nat) a + S64x1024.size a ≤ S256x1024.size a := by
  revert q; decide

/-- A row block written to the accumulator. -/
def accP (q : Fin 4) (w : Vec F S64x1024 .f32) : View.Piece (Elt F) S256x1024 .f32 :=
  ⟨Rect.unit ![64 * q.val, 0] S64x1024.size (inbQ q), w⟩

theorem rd_same (q : Fin 4) (w : Vec F S64x1024 .f32) (L : List (View.Piece (Elt F) S256x1024 .f32)) {inb} :
    (Memref.whole cc0_scratch3 : Memref sig .tc .vmem S256x1024 .f32).view.readCov (accP q w :: L) (Rect.unit (s := S256x1024) ![64 * q.val, 0] S64x1024.size inb).toLoadRect = w := by
  unfold accP
  exact View.readCov_cons_toLoadRect _ (Rect.unit (s := S256x1024) ![64 * q.val, 0] S64x1024.size (inbQ q)) w L

theorem rd_skip (q q' : Fin 4) (hn : q ≠ q') (w : Vec F S64x1024 .f32) (L : List (View.Piece (Elt F) S256x1024 .f32)) {inb} :
    (Memref.whole cc0_scratch3 : Memref sig .tc .vmem S256x1024 .f32).view.readCov (accP q' w :: L) (Rect.unit (s := S256x1024) ![64 * q.val, 0] S64x1024.size inb).toLoadRect
      = (Memref.whole cc0_scratch3 : Memref sig .tc .vmem S256x1024 .f32).view.readCov L (Rect.unit (s := S256x1024) ![64 * q.val, 0] S64x1024.size inb).toLoadRect := by
  refine View.readCov_cons_of_disjoint _ _ L _ ?_
  rw [Finset.disjoint_left]
  intro y h1 h2
  have h1 : y ∈ (Rect.unit (s := S256x1024) ![64 * q'.val, 0] S64x1024.size (inbQ q')).set := h1
  have h1 := (Rect.mem_set_unit.mp h1) 0
  have h2 := (Rect.mem_set_unit.mp h2) 0
  have e : S64x1024.size 0 = 64 := rfl
  simp only [Matrix.cons_val_zero, e] at h1 h2
  have : q.val ≠ q'.val := fun h => hn (Fin.ext h)
  omega

/-- Two lists of writes with the same row blocks read the same. -/
theorem rows_ext (L L' : List (View.Piece (Elt F) S256x1024 .f32)) (B : LoadRect S256x1024)
    (h : ∀ (q : Fin 4) inb, (Memref.whole cc0_scratch3 : Memref sig .tc .vmem S256x1024 .f32).view.readCov L (Rect.unit (s := S256x1024) ![64 * q.val, 0] S64x1024.size inb).toLoadRect
      = (Memref.whole cc0_scratch3 : Memref sig .tc .vmem S256x1024 .f32).view.readCov L' (Rect.unit (s := S256x1024) ![64 * q.val, 0] S64x1024.size inb).toLoadRect) :
    (Memref.whole cc0_scratch3 : Memref sig .tc .vmem S256x1024 .f32).view.readCov L B = (Memref.whole cc0_scratch3 : Memref sig .tc .vmem S256x1024 .f32).view.readCov L' B := by
  rw [View.readCov_eq_canon', View.readCov_eq_canon']
  funext j
  show View.canon L (B.idx j) = View.canon L' (B.idx j)
  generalize B.idx j = y
  have h0 : (y 0).val < 256 := (y 0).isLt
  have h1 : (y 1).val < 1024 := (y 1).isLt
  have inb : ∀ a, (![64 * ((y 0).val / 64), 0] : Fin 2 → Nat) a + S64x1024.size a ≤ S256x1024.size a := by
    intro a; fin_cases a
    · show 64 * ((y 0).val / 64) + 64 ≤ 256; omega
    · show 0 + 1024 ≤ 1024; omega
  have hy : y ∈ (Rect.unit (s := S256x1024) ![64 * ((y 0).val / 64), 0] S64x1024.size inb).set := by
    rw [Rect.mem_set_unit]; intro a; fin_cases a
    · exact ⟨by show 64 * ((y 0).val / 64) ≤ (y 0).val; omega, by show (y 0).val < 64 * ((y 0).val / 64) + 64; omega⟩
    · exact ⟨Nat.zero_le _, by show (y 1).val < 0 + 1024; omega⟩
  obtain ⟨x, hx⟩ := (Rect.unit (s := S256x1024) ![64 * ((y 0).val / 64), 0] S64x1024.size inb).exists_idx_of_mem hy
  have := congrFun (h ⟨(y 0).val / 64, by omega⟩ inb) x
  rw [View.readCov_eq_canon', View.readCov_eq_canon'] at this
  rw [← hx]; exact this

end Cert.KernelIdeal.Pf
end
-- ==== Proof.Body.lean ====
module
public import proofs.«01_k».proof.Proof.Vals
@[expose] public section
set_option maxRecDepth 16384
noncomputable section
namespace Cert.KernelIdeal.Pf
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MT nD τ sig Unit (Elt F) ℕ UU ℕ
variable (I : Inp F)

/-! ## One device's run -/

omit [FloatOps F] in
theorem write_out3 (f w : Vec F S1x256x1024 .f32) :
    (Memref.whole cc0_stg3_0 : Memref sig .tc .vmem S1x256x1024 .f32).view.writes (Elt F) f [⟨Rect.unit ![0, 0, 0] S1x256x1024.size inb_S1x256x1024_S1x256x1024_0_0_0, w⟩] = w :=
  Memref.write_access_unit_zero_univ (Elt F) cc0_stg3_0 (off := ![0, 0, 0]) (funext fun a => by fin_cases a <;> rfl) inb_S1x256x1024_S1x256x1024_0_0_0 f w

/-- What a device brings to the body. -/
def bodyPre (c : Dev nD) (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (out : Buf (Elt F) ((c : Thread nD τ).loc cc0_stg3_0)) : sProp 𝕄 :=
  iprop(barTok (valOf I) 0 c
    ∗ barTok (valOf I) 1 c
    ∗ barTok (valOf I) 2 c
    ∗ barWait (valOf I) c
    ∗ barPay 0 c
    ∗ barPay 1 c
    ∗ barPay 2 c
    ∗ sendPre (valOf I) 0 0 c
    ∗ sendWait (valOf I) 0 0 c
    ∗ recvWait (valOf I) 0 0 c
    ∗ sendPre (valOf I) 0 1 c
    ∗ sendWait (valOf I) 0 1 c
    ∗ recvWait (valOf I) 0 1 c
    ∗ sendPre (valOf I) 0 2 c
    ∗ sendWait (valOf I) 0 2 c
    ∗ recvWait (valOf I) 0 2 c
    ∗ sendPre (valOf I) 1 0 c
    ∗ sendWait (valOf I) 1 0 c
    ∗ recvWait (valOf I) 1 0 c
    ∗ sendPre (valOf I) 1 1 c
    ∗ sendWait (valOf I) 1 1 c
    ∗ recvWait (valOf I) 1 1 c
    ∗ sendPre (valOf I) 1 2 c
    ∗ sendWait (valOf I) 1 2 c
    ∗ recvWait (valOf I) 1 2 c
    ∗ sendPre (valOf I) 2 0 c
    ∗ sendWait (valOf I) 2 0 c
    ∗ recvWait (valOf I) 2 0 c
    ∗ sendPre (valOf I) 2 1 c
    ∗ sendWait (valOf I) 2 1 c
    ∗ recvWait (valOf I) 2 1 c
    ∗ sendPre (valOf I) 2 2 c
    ∗ sendWait (valOf I) 2 2 c
    ∗ recvWait (valOf I) 2 2 c
    ∗ sendPre (valOf I) 3 0 c
    ∗ sendWait (valOf I) 3 0 c
    ∗ recvWait (valOf I) 3 0 c
    ∗ sendPre (valOf I) 3 1 c
    ∗ sendWait (valOf I) 3 1 c
    ∗ recvWait (valOf I) 3 1 c
    ∗ sendPre (valOf I) 3 2 c
    ∗ sendWait (valOf I) 3 2 c
    ∗ recvWait (valOf I) 3 2 c
    ∗ owes (c : Thread nD τ) (owedB_0 c) W
    ∗ ((Memref.whole main_v1).view.loc (c : Thread nD τ) ↦[Finset.univ]{Transfers.shareTokN fullShare 4} (I.ks c))
    ∗ semVal ((c : Thread nD τ), .dma cS_0_0) 0
    ∗ (gM_0_0.view.loc (c : Thread nD τ) ↦[gM_0_0.view.set]{fullShare} f6)
    ∗ ((Memref.whole main_v1).view.loc (c : Thread nD τ) ↦[Finset.univ]{Transfers.shareTokN fullShare 5} (I.ks c))
    ∗ semVal ((c : Thread nD τ), .dma cS_0_1) 0
    ∗ (gM_0_1.view.loc (c : Thread nD τ) ↦[gM_0_1.view.set]{fullShare} f6)
    ∗ ((Memref.whole main_v1).view.loc (c : Thread nD τ) ↦[Finset.univ]{Transfers.shareTokN fullShare 6} (I.ks c))
    ∗ semVal ((c : Thread nD τ), .dma cS_0_2) 0
    ∗ (gM_0_2.view.loc (c : Thread nD τ) ↦[gM_0_2.view.set]{fullShare} f6)
    ∗ ((Memref.whole main_v1).view.loc (c : Thread nD τ) ↦[Finset.univ]{Transfers.shareTokN fullShare 7} (I.ks c))
    ∗ semVal ((c : Thread nD τ), .dma cS_0_3) 0
    ∗ (gM_0_3.view.loc (c : Thread nD τ) ↦[gM_0_3.view.set]{fullShare} f6)
    ∗ ((Memref.whole main_v1).view.loc (c : Thread nD τ) ↦[Finset.univ]{Transfers.shareTokN fullShare 8} (I.ks c))
    ∗ semVal ((c : Thread nD τ), .dma cS_0_4) 0
    ∗ (gM_0_4.view.loc (c : Thread nD τ) ↦[gM_0_4.view.set]{fullShare} f6)
    ∗ ((Memref.whole main_v1).view.loc (c : Thread nD τ) ↦[Finset.univ]{Transfers.shareTokN fullShare 9} (I.ks c))
    ∗ semVal ((c : Thread nD τ), .dma cS_0_5) 0
    ∗ (gM_0_5.view.loc (c : Thread nD τ) ↦[gM_0_5.view.set]{fullShare} f6)
    ∗ ((Memref.whole main_v1).view.loc (c : Thread nD τ) ↦[Finset.univ]{Transfers.shareTokN fullShare 10} (I.ks c))
    ∗ semVal ((c : Thread nD τ), .dma cS_0_6) 0
    ∗ (gM_0_6.view.loc (c : Thread nD τ) ↦[gM_0_6.view.set]{fullShare} f6)
    ∗ ((Memref.whole main_v1).view.loc (c : Thread nD τ) ↦[Finset.univ]{Transfers.shareTokN fullShare 11} (I.ks c))
    ∗ semVal ((c : Thread nD τ), .dma cS_0_7) 0
    ∗ (gM_0_7.view.loc (c : Thread nD τ) ↦[gM_0_7.view.set]{fullShare} f6)
    ∗ ((Memref.whole main_v2).view.loc (c : Thread nD τ) ↦[Finset.univ]{Transfers.shareTokN fullShare 12} (I.vs c))
    ∗ semVal ((c : Thread nD τ), .dma cS_1_0) 0
    ∗ (gM_1_0.view.loc (c : Thread nD τ) ↦[gM_1_0.view.set]{fullShare} f6)
    ∗ ((Memref.whole main_v2).view.loc (c : Thread nD τ) ↦[Finset.univ]{Transfers.shareTokN fullShare 13} (I.vs c))
    ∗ semVal ((c : Thread nD τ), .dma cS_1_1) 0
    ∗ (gM_1_1.view.loc (c : Thread nD τ) ↦[gM_1_1.view.set]{fullShare} f6)
    ∗ ((Memref.whole main_v2).view.loc (c : Thread nD τ) ↦[Finset.univ]{Transfers.shareTokN fullShare 14} (I.vs c))
    ∗ semVal ((c : Thread nD τ), .dma cS_1_2) 0
    ∗ (gM_1_2.view.loc (c : Thread nD τ) ↦[gM_1_2.view.set]{fullShare} f6)
    ∗ ((Memref.whole main_v2).view.loc (c : Thread nD τ) ↦[Finset.univ]{Transfers.shareTokN fullShare 15} (I.vs c))
    ∗ semVal ((c : Thread nD τ), .dma cS_1_3) 0
    ∗ (gM_1_3.view.loc (c : Thread nD τ) ↦[gM_1_3.view.set]{fullShare} f6)
    ∗ ((Memref.whole main_v2).view.loc (c : Thread nD τ) ↦[Finset.univ]{Transfers.shareTokN fullShare 16} (I.vs c))
    ∗ semVal ((c : Thread nD τ), .dma cS_1_4) 0
    ∗ (gM_1_4.view.loc (c : Thread nD τ) ↦[gM_1_4.view.set]{fullShare} f6)
    ∗ ((Memref.whole main_v2).view.loc (c : Thread nD τ) ↦[Finset.univ]{Transfers.shareTokN fullShare 17} (I.vs c))
    ∗ semVal ((c : Thread nD τ), .dma cS_1_5) 0
    ∗ (gM_1_5.view.loc (c : Thread nD τ) ↦[gM_1_5.view.set]{fullShare} f6)
    ∗ ((Memref.whole main_v2).view.loc (c : Thread nD τ) ↦[Finset.univ]{Transfers.shareTokN fullShare 18} (I.vs c))
    ∗ semVal ((c : Thread nD τ), .dma cS_1_6) 0
    ∗ (gM_1_6.view.loc (c : Thread nD τ) ↦[gM_1_6.view.set]{fullShare} f6)
    ∗ ((Memref.whole main_v2).view.loc (c : Thread nD τ) ↦[Finset.univ]{Transfers.shareTokN fullShare 19} (I.vs c))
    ∗ semVal ((c : Thread nD τ), .dma cS_1_7) 0
    ∗ (gM_1_7.view.loc (c : Thread nD τ) ↦[gM_1_7.view.set]{fullShare} f6)
    ∗ ((Memref.whole main_v1).view.loc (c : Thread nD τ) ↦[Finset.univ]{Transfers.shareTokN fullShare 20} (I.ks c))
    ∗ semVal ((c : Thread nD τ), .dma cS_2_0) 0
    ∗ (gM_2_0.view.loc (c : Thread nD τ) ↦[gM_2_0.view.set]{fullShare} f6)
    ∗ ((Memref.whole main_v1).view.loc (c : Thread nD τ) ↦[Finset.univ]{Transfers.shareTokN fullShare 21} (I.ks c))
    ∗ semVal ((c : Thread nD τ), .dma cS_2_1) 0
    ∗ (gM_2_1.view.loc (c : Thread nD τ) ↦[gM_2_1.view.set]{fullShare} f6)
    ∗ ((Memref.whole main_v1).view.loc (c : Thread nD τ) ↦[Finset.univ]{Transfers.shareTokN fullShare 22} (I.ks c))
    ∗ semVal ((c : Thread nD τ), .dma cS_2_2) 0
    ∗ (gM_2_2.view.loc (c : Thread nD τ) ↦[gM_2_2.view.set]{fullShare} f6)
    ∗ ((Memref.whole main_v1).view.loc (c : Thread nD τ) ↦[Finset.univ]{Transfers.shareTokN fullShare 23} (I.ks c))
    ∗ semVal ((c : Thread nD τ), .dma cS_2_3) 0
    ∗ (gM_2_3.view.loc (c : Thread nD τ) ↦[gM_2_3.view.set]{fullShare} f6)
    ∗ ((Memref.whole main_v1).view.loc (c : Thread nD τ) ↦[Finset.univ]{Transfers.shareTokN fullShare 24} (I.ks c))
    ∗ semVal ((c : Thread nD τ), .dma cS_2_4) 0
    ∗ (gM_2_4.view.loc (c : Thread nD τ) ↦[gM_2_4.view.set]{fullShare} f6)
    ∗ ((Memref.whole main_v1).view.loc (c : Thread nD τ) ↦[Finset.univ]{Transfers.shareTokN fullShare 25} (I.ks c))
    ∗ semVal ((c : Thread nD τ), .dma cS_2_5) 0
    ∗ (gM_2_5.view.loc (c : Thread nD τ) ↦[gM_2_5.view.set]{fullShare} f6)
    ∗ ((Memref.whole main_v1).view.loc (c : Thread nD τ) ↦[Finset.univ]{Transfers.shareTokN fullShare 26} (I.ks c))
    ∗ semVal ((c : Thread nD τ), .dma cS_2_6) 0
    ∗ (gM_2_6.view.loc (c : Thread nD τ) ↦[gM_2_6.view.set]{fullShare} f6)
    ∗ ((Memref.whole main_v1).view.loc (c : Thread nD τ) ↦[Finset.univ]{Transfers.shareTokN fullShare 27} (I.ks c))
    ∗ semVal ((c : Thread nD τ), .dma cS_2_7) 0
    ∗ (gM_2_7.view.loc (c : Thread nD τ) ↦[gM_2_7.view.set]{fullShare} f6)
    ∗ ((Memref.whole main_v2).view.loc (c : Thread nD τ) ↦[Finset.univ]{Transfers.shareTokN fullShare 28} (I.vs c))
    ∗ semVal ((c : Thread nD τ), .dma cS_3_0) 0
    ∗ (gM_3_0.view.loc (c : Thread nD τ) ↦[gM_3_0.view.set]{fullShare} f6)
    ∗ ((Memref.whole main_v2).view.loc (c : Thread nD τ) ↦[Finset.univ]{Transfers.shareTokN fullShare 29} (I.vs c))
    ∗ semVal ((c : Thread nD τ), .dma cS_3_1) 0
    ∗ (gM_3_1.view.loc (c : Thread nD τ) ↦[gM_3_1.view.set]{fullShare} f6)
    ∗ ((Memref.whole main_v2).view.loc (c : Thread nD τ) ↦[Finset.univ]{Transfers.shareTokN fullShare 30} (I.vs c))
    ∗ semVal ((c : Thread nD τ), .dma cS_3_2) 0
    ∗ (gM_3_2.view.loc (c : Thread nD τ) ↦[gM_3_2.view.set]{fullShare} f6)
    ∗ ((Memref.whole main_v2).view.loc (c : Thread nD τ) ↦[Finset.univ]{Transfers.shareTokN fullShare 31} (I.vs c))
    ∗ semVal ((c : Thread nD τ), .dma cS_3_3) 0
    ∗ (gM_3_3.view.loc (c : Thread nD τ) ↦[gM_3_3.view.set]{fullShare} f6)
    ∗ ((Memref.whole main_v2).view.loc (c : Thread nD τ) ↦[Finset.univ]{Transfers.shareTokN fullShare 32} (I.vs c))
    ∗ semVal ((c : Thread nD τ), .dma cS_3_4) 0
    ∗ (gM_3_4.view.loc (c : Thread nD τ) ↦[gM_3_4.view.set]{fullShare} f6)
    ∗ ((Memref.whole main_v2).view.loc (c : Thread nD τ) ↦[Finset.univ]{Transfers.shareTokN fullShare 33} (I.vs c))
    ∗ semVal ((c : Thread nD τ), .dma cS_3_5) 0
    ∗ (gM_3_5.view.loc (c : Thread nD τ) ↦[gM_3_5.view.set]{fullShare} f6)
    ∗ ((Memref.whole main_v2).view.loc (c : Thread nD τ) ↦[Finset.univ]{Transfers.shareTokN fullShare 34} (I.vs c))
    ∗ semVal ((c : Thread nD τ), .dma cS_3_6) 0
    ∗ (gM_3_6.view.loc (c : Thread nD τ) ↦[gM_3_6.view.set]{fullShare} f6)
    ∗ ((Memref.whole main_v2).view.loc (c : Thread nD τ) ↦[Finset.univ]{Transfers.shareTokN fullShare 35} (I.vs c))
    ∗ semVal ((c : Thread nD τ), .dma cS_3_7) 0
    ∗ (gM_3_7.view.loc (c : Thread nD τ) ↦[gM_3_7.view.set]{fullShare} f6)
    ∗ (sM_0_0.view.loc (c : Thread nD τ) ↦[sM_0_0.view.set]{fullShare} f10)
    ∗ (sM_0_1.view.loc (c : Thread nD τ) ↦[sM_0_1.view.set]{fullShare} f10)
    ∗ (sM_0_2.view.loc (c : Thread nD τ) ↦[sM_0_2.view.set]{fullShare} f10)
    ∗ (sM_1_0.view.loc (c : Thread nD τ) ↦[sM_1_0.view.set]{fullShare} f10)
    ∗ (sM_1_1.view.loc (c : Thread nD τ) ↦[sM_1_1.view.set]{fullShare} f10)
    ∗ (sM_1_2.view.loc (c : Thread nD τ) ↦[sM_1_2.view.set]{fullShare} f10)
    ∗ (sM_2_0.view.loc (c : Thread nD τ) ↦[sM_2_0.view.set]{fullShare} f10)
    ∗ (sM_2_1.view.loc (c : Thread nD τ) ↦[sM_2_1.view.set]{fullShare} f10)
    ∗ (sM_2_2.view.loc (c : Thread nD τ) ↦[sM_2_2.view.set]{fullShare} f10)
    ∗ (sM_3_0.view.loc (c : Thread nD τ) ↦[sM_3_0.view.set]{fullShare} f10)
    ∗ (sM_3_1.view.loc (c : Thread nD τ) ↦[sM_3_1.view.set]{fullShare} f10)
    ∗ (sM_3_2.view.loc (c : Thread nD τ) ↦[sM_3_2.view.set]{fullShare} f10)
    ∗ ((Memref.whole cc0_stg0_0).view.loc (c : Thread nD τ) ↦[Finset.univ]{fullShare} (I.x c))
    ∗ ((Memref.whole cc0_stg1_0).view.loc (c : Thread nD τ) ↦[Finset.univ]{fullShare} (I.wq c))
    ∗ ((Memref.whole cc0_stg2_0).view.loc (c : Thread nD τ) ↦[Finset.univ]{fullShare} (I.wo c))
    ∗ ((Memref.whole cc0_stg3_0).view.loc (c : Thread nD τ) ↦[Finset.univ]{fullShare} out)
    ∗ ((Memref.whole cc0_scratch1).view.loc (c : Thread nD τ) ↦[Finset.univ]{fullShare} f7)
    ∗ ((Memref.whole cc0_scratch2).view.loc (c : Thread nD τ) ↦[Finset.univ]{fullShare} f8)
    ∗ ((Memref.whole cc0_scratch3).view.loc (c : Thread nD τ) ↦[Finset.univ]{fullShare} f9))

/-- What it leaves with. -/
def bodyPost (c : Dev nD) : sProp 𝕄 :=
  iprop(((Memref.whole cc0_stg0_0).view.loc (c : Thread nD τ) ↦[Finset.univ]{fullShare} (I.x c))
    ∗ ((Memref.whole cc0_stg1_0).view.loc (c : Thread nD τ) ↦[Finset.univ]{fullShare} (I.wq c))
    ∗ ((Memref.whole cc0_stg2_0).view.loc (c : Thread nD τ) ↦[Finset.univ]{fullShare} (I.wo c))
    ∗ ((Memref.whole cc0_stg3_0).view.loc (c : Thread nD τ) ↦[Finset.univ]{fullShare} (outV I c))
    ∗ (∃ f, (Memref.whole cc0_scratch1).view.loc (c : Thread nD τ) ↦[Finset.univ]{fullShare} f)
    ∗ (∃ f, (Memref.whole cc0_scratch2).view.loc (c : Thread nD τ) ↦[Finset.univ]{fullShare} f)
    ∗ (∃ f, (Memref.whole cc0_scratch3).view.loc (c : Thread nD τ) ↦[Finset.univ]{fullShare} f)
    ∗ cellDone (valOf I) (barCell c)
    ∗ cellDone (valOf I) (sCell 0 0 c)
    ∗ cellDone (valOf I) (rCell 0 0 c)
    ∗ (∃ f, sPts (F := F) c 0 0 f)
    ∗ (∃ f, rPts (F := F) c 0 0 f)
    ∗ cellDone (valOf I) (sCell 0 1 c)
    ∗ cellDone (valOf I) (rCell 0 1 c)
    ∗ (∃ f, sPts (F := F) c 0 1 f)
    ∗ (∃ f, rPts (F := F) c 0 1 f)
    ∗ cellDone (valOf I) (sCell 0 2 c)
    ∗ cellDone (valOf I) (rCell 0 2 c)
    ∗ (∃ f, sPts (F := F) c 0 2 f)
    ∗ (∃ f, rPts (F := F) c 0 2 f)
    ∗ cellDone (valOf I) (sCell 1 0 c)
    ∗ cellDone (valOf I) (rCell 1 0 c)
    ∗ (∃ f, sPts (F := F) c 1 0 f)
    ∗ (∃ f, rPts (F := F) c 1 0 f)
    ∗ cellDone (valOf I) (sCell 1 1 c)
    ∗ cellDone (valOf I) (rCell 1 1 c)
    ∗ (∃ f, sPts (F := F) c 1 1 f)
    ∗ (∃ f, rPts (F := F) c 1 1 f)
    ∗ cellDone (valOf I) (sCell 1 2 c)
    ∗ cellDone (valOf I) (rCell 1 2 c)
    ∗ (∃ f, sPts (F := F) c 1 2 f)
    ∗ (∃ f, rPts (F := F) c 1 2 f)
    ∗ cellDone (valOf I) (sCell 2 0 c)
    ∗ cellDone (valOf I) (rCell 2 0 c)
    ∗ (∃ f, sPts (F := F) c 2 0 f)
    ∗ (∃ f, rPts (F := F) c 2 0 f)
    ∗ cellDone (valOf I) (sCell 2 1 c)
    ∗ cellDone (valOf I) (rCell 2 1 c)
    ∗ (∃ f, sPts (F := F) c 2 1 f)
    ∗ (∃ f, rPts (F := F) c 2 1 f)
    ∗ cellDone (valOf I) (sCell 2 2 c)
    ∗ cellDone (valOf I) (rCell 2 2 c)
    ∗ (∃ f, sPts (F := F) c 2 2 f)
    ∗ (∃ f, rPts (F := F) c 2 2 f)
    ∗ cellDone (valOf I) (sCell 3 0 c)
    ∗ cellDone (valOf I) (rCell 3 0 c)
    ∗ (∃ f, sPts (F := F) c 3 0 f)
    ∗ (∃ f, rPts (F := F) c 3 0 f)
    ∗ cellDone (valOf I) (sCell 3 1 c)
    ∗ cellDone (valOf I) (rCell 3 1 c)
    ∗ (∃ f, sPts (F := F) c 3 1 f)
    ∗ (∃ f, rPts (F := F) c 3 1 f)
    ∗ cellDone (valOf I) (sCell 3 2 c)
    ∗ cellDone (valOf I) (rCell 3 2 c)
    ∗ (∃ f, sPts (F := F) c 3 2 f)
    ∗ (∃ f, rPts (F := F) c 3 2 f)
    ∗ ((Memref.whole main_v1).view.loc (c : Thread nD τ) ↦[Finset.univ]{Transfers.shareTokN fullShare 4} (I.ks c))
    ∗ semVal ((c : Thread nD τ), .dma cS_0_0) 0
    ∗ (∃ f, gM_0_0.view.loc (c : Thread nD τ) ↦[gM_0_0.view.set]{fullShare} f)
    ∗ ((Memref.whole main_v1).view.loc (c : Thread nD τ) ↦[Finset.univ]{Transfers.shareTokN fullShare 5} (I.ks c))
    ∗ semVal ((c : Thread nD τ), .dma cS_0_1) 0
    ∗ (∃ f, gM_0_1.view.loc (c : Thread nD τ) ↦[gM_0_1.view.set]{fullShare} f)
    ∗ ((Memref.whole main_v1).view.loc (c : Thread nD τ) ↦[Finset.univ]{Transfers.shareTokN fullShare 6} (I.ks c))
    ∗ semVal ((c : Thread nD τ), .dma cS_0_2) 0
    ∗ (∃ f, gM_0_2.view.loc (c : Thread nD τ) ↦[gM_0_2.view.set]{fullShare} f)
    ∗ ((Memref.whole main_v1).view.loc (c : Thread nD τ) ↦[Finset.univ]{Transfers.shareTokN fullShare 7} (I.ks c))
    ∗ semVal ((c : Thread nD τ), .dma cS_0_3) 0
    ∗ (∃ f, gM_0_3.view.loc (c : Thread nD τ) ↦[gM_0_3.view.set]{fullShare} f)
    ∗ ((Memref.whole main_v1).view.loc (c : Thread nD τ) ↦[Finset.univ]{Transfers.shareTokN fullShare 8} (I.ks c))
    ∗ semVal ((c : Thread nD τ), .dma cS_0_4) 0
    ∗ (∃ f, gM_0_4.view.loc (c : Thread nD τ) ↦[gM_0_4.view.set]{fullShare} f)
    ∗ ((Memref.whole main_v1).view.loc (c : Thread nD τ) ↦[Finset.univ]{Transfers.shareTokN fullShare 9} (I.ks c))
    ∗ semVal ((c : Thread nD τ), .dma cS_0_5) 0
    ∗ (∃ f, gM_0_5.view.loc (c : Thread nD τ) ↦[gM_0_5.view.set]{fullShare} f)
    ∗ ((Memref.whole main_v1).view.loc (c : Thread nD τ) ↦[Finset.univ]{Transfers.shareTokN fullShare 10} (I.ks c))
    ∗ semVal ((c : Thread nD τ), .dma cS_0_6) 0
    ∗ (∃ f, gM_0_6.view.loc (c : Thread nD τ) ↦[gM_0_6.view.set]{fullShare} f)
    ∗ ((Memref.whole main_v1).view.loc (c : Thread nD τ) ↦[Finset.univ]{Transfers.shareTokN fullShare 11} (I.ks c))
    ∗ semVal ((c : Thread nD τ), .dma cS_0_7) 0
    ∗ (∃ f, gM_0_7.view.loc (c : Thread nD τ) ↦[gM_0_7.view.set]{fullShare} f)
    ∗ ((Memref.whole main_v2).view.loc (c : Thread nD τ) ↦[Finset.univ]{Transfers.shareTokN fullShare 12} (I.vs c))
    ∗ semVal ((c : Thread nD τ), .dma cS_1_0) 0
    ∗ (∃ f, gM_1_0.view.loc (c : Thread nD τ) ↦[gM_1_0.view.set]{fullShare} f)
    ∗ ((Memref.whole main_v2).view.loc (c : Thread nD τ) ↦[Finset.univ]{Transfers.shareTokN fullShare 13} (I.vs c))
    ∗ semVal ((c : Thread nD τ), .dma cS_1_1) 0
    ∗ (∃ f, gM_1_1.view.loc (c : Thread nD τ) ↦[gM_1_1.view.set]{fullShare} f)
    ∗ ((Memref.whole main_v2).view.loc (c : Thread nD τ) ↦[Finset.univ]{Transfers.shareTokN fullShare 14} (I.vs c))
    ∗ semVal ((c : Thread nD τ), .dma cS_1_2) 0
    ∗ (∃ f, gM_1_2.view.loc (c : Thread nD τ) ↦[gM_1_2.view.set]{fullShare} f)
    ∗ ((Memref.whole main_v2).view.loc (c : Thread nD τ) ↦[Finset.univ]{Transfers.shareTokN fullShare 15} (I.vs c))
    ∗ semVal ((c : Thread nD τ), .dma cS_1_3) 0
    ∗ (∃ f, gM_1_3.view.loc (c : Thread nD τ) ↦[gM_1_3.view.set]{fullShare} f)
    ∗ ((Memref.whole main_v2).view.loc (c : Thread nD τ) ↦[Finset.univ]{Transfers.shareTokN fullShare 16} (I.vs c))
    ∗ semVal ((c : Thread nD τ), .dma cS_1_4) 0
    ∗ (∃ f, gM_1_4.view.loc (c : Thread nD τ) ↦[gM_1_4.view.set]{fullShare} f)
    ∗ ((Memref.whole main_v2).view.loc (c : Thread nD τ) ↦[Finset.univ]{Transfers.shareTokN fullShare 17} (I.vs c))
    ∗ semVal ((c : Thread nD τ), .dma cS_1_5) 0
    ∗ (∃ f, gM_1_5.view.loc (c : Thread nD τ) ↦[gM_1_5.view.set]{fullShare} f)
    ∗ ((Memref.whole main_v2).view.loc (c : Thread nD τ) ↦[Finset.univ]{Transfers.shareTokN fullShare 18} (I.vs c))
    ∗ semVal ((c : Thread nD τ), .dma cS_1_6) 0
    ∗ (∃ f, gM_1_6.view.loc (c : Thread nD τ) ↦[gM_1_6.view.set]{fullShare} f)
    ∗ ((Memref.whole main_v2).view.loc (c : Thread nD τ) ↦[Finset.univ]{Transfers.shareTokN fullShare 19} (I.vs c))
    ∗ semVal ((c : Thread nD τ), .dma cS_1_7) 0
    ∗ (∃ f, gM_1_7.view.loc (c : Thread nD τ) ↦[gM_1_7.view.set]{fullShare} f)
    ∗ ((Memref.whole main_v1).view.loc (c : Thread nD τ) ↦[Finset.univ]{Transfers.shareTokN fullShare 20} (I.ks c))
    ∗ semVal ((c : Thread nD τ), .dma cS_2_0) 0
    ∗ (∃ f, gM_2_0.view.loc (c : Thread nD τ) ↦[gM_2_0.view.set]{fullShare} f)
    ∗ ((Memref.whole main_v1).view.loc (c : Thread nD τ) ↦[Finset.univ]{Transfers.shareTokN fullShare 21} (I.ks c))
    ∗ semVal ((c : Thread nD τ), .dma cS_2_1) 0
    ∗ (∃ f, gM_2_1.view.loc (c : Thread nD τ) ↦[gM_2_1.view.set]{fullShare} f)
    ∗ ((Memref.whole main_v1).view.loc (c : Thread nD τ) ↦[Finset.univ]{Transfers.shareTokN fullShare 22} (I.ks c))
    ∗ semVal ((c : Thread nD τ), .dma cS_2_2) 0
    ∗ (∃ f, gM_2_2.view.loc (c : Thread nD τ) ↦[gM_2_2.view.set]{fullShare} f)
    ∗ ((Memref.whole main_v1).view.loc (c : Thread nD τ) ↦[Finset.univ]{Transfers.shareTokN fullShare 23} (I.ks c))
    ∗ semVal ((c : Thread nD τ), .dma cS_2_3) 0
    ∗ (∃ f, gM_2_3.view.loc (c : Thread nD τ) ↦[gM_2_3.view.set]{fullShare} f)
    ∗ ((Memref.whole main_v1).view.loc (c : Thread nD τ) ↦[Finset.univ]{Transfers.shareTokN fullShare 24} (I.ks c))
    ∗ semVal ((c : Thread nD τ), .dma cS_2_4) 0
    ∗ (∃ f, gM_2_4.view.loc (c : Thread nD τ) ↦[gM_2_4.view.set]{fullShare} f)
    ∗ ((Memref.whole main_v1).view.loc (c : Thread nD τ) ↦[Finset.univ]{Transfers.shareTokN fullShare 25} (I.ks c))
    ∗ semVal ((c : Thread nD τ), .dma cS_2_5) 0
    ∗ (∃ f, gM_2_5.view.loc (c : Thread nD τ) ↦[gM_2_5.view.set]{fullShare} f)
    ∗ ((Memref.whole main_v1).view.loc (c : Thread nD τ) ↦[Finset.univ]{Transfers.shareTokN fullShare 26} (I.ks c))
    ∗ semVal ((c : Thread nD τ), .dma cS_2_6) 0
    ∗ (∃ f, gM_2_6.view.loc (c : Thread nD τ) ↦[gM_2_6.view.set]{fullShare} f)
    ∗ ((Memref.whole main_v1).view.loc (c : Thread nD τ) ↦[Finset.univ]{Transfers.shareTokN fullShare 27} (I.ks c))
    ∗ semVal ((c : Thread nD τ), .dma cS_2_7) 0
    ∗ (∃ f, gM_2_7.view.loc (c : Thread nD τ) ↦[gM_2_7.view.set]{fullShare} f)
    ∗ ((Memref.whole main_v2).view.loc (c : Thread nD τ) ↦[Finset.univ]{Transfers.shareTokN fullShare 28} (I.vs c))
    ∗ semVal ((c : Thread nD τ), .dma cS_3_0) 0
    ∗ (∃ f, gM_3_0.view.loc (c : Thread nD τ) ↦[gM_3_0.view.set]{fullShare} f)
    ∗ ((Memref.whole main_v2).view.loc (c : Thread nD τ) ↦[Finset.univ]{Transfers.shareTokN fullShare 29} (I.vs c))
    ∗ semVal ((c : Thread nD τ), .dma cS_3_1) 0
    ∗ (∃ f, gM_3_1.view.loc (c : Thread nD τ) ↦[gM_3_1.view.set]{fullShare} f)
    ∗ ((Memref.whole main_v2).view.loc (c : Thread nD τ) ↦[Finset.univ]{Transfers.shareTokN fullShare 30} (I.vs c))
    ∗ semVal ((c : Thread nD τ), .dma cS_3_2) 0
    ∗ (∃ f, gM_3_2.view.loc (c : Thread nD τ) ↦[gM_3_2.view.set]{fullShare} f)
    ∗ ((Memref.whole main_v2).view.loc (c : Thread nD τ) ↦[Finset.univ]{Transfers.shareTokN fullShare 31} (I.vs c))
    ∗ semVal ((c : Thread nD τ), .dma cS_3_3) 0
    ∗ (∃ f, gM_3_3.view.loc (c : Thread nD τ) ↦[gM_3_3.view.set]{fullShare} f)
    ∗ ((Memref.whole main_v2).view.loc (c : Thread nD τ) ↦[Finset.univ]{Transfers.shareTokN fullShare 32} (I.vs c))
    ∗ semVal ((c : Thread nD τ), .dma cS_3_4) 0
    ∗ (∃ f, gM_3_4.view.loc (c : Thread nD τ) ↦[gM_3_4.view.set]{fullShare} f)
    ∗ ((Memref.whole main_v2).view.loc (c : Thread nD τ) ↦[Finset.univ]{Transfers.shareTokN fullShare 33} (I.vs c))
    ∗ semVal ((c : Thread nD τ), .dma cS_3_5) 0
    ∗ (∃ f, gM_3_5.view.loc (c : Thread nD τ) ↦[gM_3_5.view.set]{fullShare} f)
    ∗ ((Memref.whole main_v2).view.loc (c : Thread nD τ) ↦[Finset.univ]{Transfers.shareTokN fullShare 34} (I.vs c))
    ∗ semVal ((c : Thread nD τ), .dma cS_3_6) 0
    ∗ (∃ f, gM_3_6.view.loc (c : Thread nD τ) ↦[gM_3_6.view.set]{fullShare} f)
    ∗ ((Memref.whole main_v2).view.loc (c : Thread nD τ) ↦[Finset.univ]{Transfers.shareTokN fullShare 35} (I.vs c))
    ∗ semVal ((c : Thread nD τ), .dma cS_3_7) 0
    ∗ (∃ f, gM_3_7.view.loc (c : Thread nD τ) ↦[gM_3_7.view.set]{fullShare} f)
    ∗ (∃ W, owes (c : Thread nD τ) (owed_12 c) W))

set_option maxHeartbeats 40000000 in
theorem run1 (c : Dev nD) (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (out : Buf (Elt F) ((c : Thread nD τ).loc cc0_stg3_0))
  (hp2 : owedB_0 c = owedB_1 c + tallyAt (barCell (peer 0 c)) () 1) (hp1 : owedB_1 c = owedB_2 c + tallyAt (barCell (peer 1 c)) () 1) (hp0 : owedB_2 c = owed_0 c + tallyAt (barCell (peer 2 c)) () 1)
  (he1 : (⟨k0_dev1 c, k0_dev1_lt c⟩ : Dev nD) = peer 0 c) (he2 : (⟨k0_dev2 c, k0_dev2_lt c⟩ : Dev nD) = peer 1 c) (he3 : (⟨k0_dev3 c, k0_dev3_lt c⟩ : Dev nD) = peer 2 c)
  (hmw0 : ∀ (sm : SemLoc sig), isRecvLoc sm = false → ((levAts L lv : sProp 𝕄) ⊢ MayWait (c : Thread nD τ) sm () (owed_0 c)))
  (hmw1 : ∀ (sm : SemLoc sig), isRecvLoc sm = false → ((levAts L lv : sProp 𝕄) ⊢ MayWait (c : Thread nD τ) sm () (owed_1 c)))
  (hmw2 : ∀ (sm : SemLoc sig), isRecvLoc sm = false → ((levAts L lv : sProp 𝕄) ⊢ MayWait (c : Thread nD τ) sm () (owed_2 c)))
  (hmw3 : ∀ (sm : SemLoc sig), isRecvLoc sm = false → ((levAts L lv : sProp 𝕄) ⊢ MayWait (c : Thread nD τ) sm () (owed_3 c)))
  (hmw4 : ∀ (sm : SemLoc sig), isRecvLoc sm = false → ((levAts L lv : sProp 𝕄) ⊢ MayWait (c : Thread nD τ) sm () (owed_4 c)))
  (hmw5 : ∀ (sm : SemLoc sig), isRecvLoc sm = false → ((levAts L lv : sProp 𝕄) ⊢ MayWait (c : Thread nD τ) sm () (owed_5 c)))
  (hmw6 : ∀ (sm : SemLoc sig), isRecvLoc sm = false → ((levAts L lv : sProp 𝕄) ⊢ MayWait (c : Thread nD τ) sm () (owed_6 c)))
  (hmw7 : ∀ (sm : SemLoc sig), isRecvLoc sm = false → ((levAts L lv : sProp 𝕄) ⊢ MayWait (c : Thread nD τ) sm () (owed_7 c)))
  (hmw8 : ∀ (sm : SemLoc sig), isRecvLoc sm = false → ((levAts L lv : sProp 𝕄) ⊢ MayWait (c : Thread nD τ) sm () (owed_8 c)))
  (hmw9 : ∀ (sm : SemLoc sig), isRecvLoc sm = false → ((levAts L lv : sProp 𝕄) ⊢ MayWait (c : Thread nD τ) sm () (owed_9 c)))
  (hmw10 : ∀ (sm : SemLoc sig), isRecvLoc sm = false → ((levAts L lv : sProp 𝕄) ⊢ MayWait (c : Thread nD τ) sm () (owed_10 c)))
  (hmw11 : ∀ (sm : SemLoc sig), isRecvLoc sm = false → ((levAts L lv : sProp 𝕄) ⊢ MayWait (c : Thread nD τ) sm () (owed_11 c)))
  (hmw12 : ∀ (sm : SemLoc sig), isRecvLoc sm = false → ((levAts L lv : sProp 𝕄) ⊢ MayWait (c : Thread nD τ) sm () (owed_12 c)))
  (hd0 : (⟨k0_dev4 c, k0_dev4_lt c⟩ : Dev nD) = peer 0 c)
  (hd1 : (⟨k0_dev5 c, k0_dev5_lt c⟩ : Dev nD) = peer 1 c)
  (hd2 : (⟨k0_dev6 c, k0_dev6_lt c⟩ : Dev nD) = peer 0 c)
  (hd3 : (⟨k0_dev7 c, k0_dev7_lt c⟩ : Dev nD) = peer 2 c)
  (hd4 : (⟨k0_dev8 c, k0_dev8_lt c⟩ : Dev nD) = peer 1 c)
  (hd5 : (⟨k0_dev9 c, k0_dev9_lt c⟩ : Dev nD) = peer 0 c)
  (hd6 : (⟨k0_dev10 c, k0_dev10_lt c⟩ : Dev nD) = peer 2 c)
  (hd7 : (⟨k0_dev11 c, k0_dev11_lt c⟩ : Dev nD) = peer 1 c)
  (hd8 : (⟨k0_dev12 c, k0_dev12_lt c⟩ : Dev nD) = peer 0 c)
  (hd9 : (⟨k0_dev13 c, k0_dev13_lt c⟩ : Dev nD) = peer 2 c)
  (hd10 : (⟨k0_dev14 c, k0_dev14_lt c⟩ : Dev nD) = peer 1 c)
  (hd11 : (⟨k0_dev15 c, k0_dev15_lt c⟩ : Dev nD) = peer 2 c)
 :
  iprop(levAts L lv ∗ bodyPre I c W f6 f7 f8 f9 f10 out)
  ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => bodyPost I c) := by
  rw [cc0__body_eq_skeleton]
  unfold bodyPre
  iintro ⟨#Hlev, Hbt0, Hbt1, Hbt2, Hbw, Hbp0, Hbp1, Hbp2, Hst00, Hsw00, Hrw00, Hst01, Hsw01, Hrw01, Hst02, Hsw02, Hrw02, Hst10, Hsw10, Hrw10, Hst11, Hsw11, Hrw11, Hst12, Hsw12, Hrw12, Hst20, Hsw20, Hrw20, Hst21, Hsw21, Hrw21, Hst22, Hsw22, Hrw22, Hst30, Hsw30, Hrw30, Hst31, Hsw31, Hrw31, Hst32, Hsw32, Hrw32, HO, Hk00, Hz00, Hg00, Hk01, Hz01, Hg01, Hk02, Hz02, Hg02, Hk03, Hz03, Hg03, Hk04, Hz04, Hg04, Hk05, Hz05, Hg05, Hk06, Hz06, Hg06, Hk07, Hz07, Hg07, Hk10, Hz10, Hg10, Hk11, Hz11, Hg11, Hk12, Hz12, Hg12, Hk13, Hz13, Hg13, Hk14, Hz14, Hg14, Hk15, Hz15, Hg15, Hk16, Hz16, Hg16, Hk17, Hz17, Hg17, Hk20, Hz20, Hg20, Hk21, Hz21, Hg21, Hk22, Hz22, Hg22, Hk23, Hz23, Hg23, Hk24, Hz24, Hg24, Hk25, Hz25, Hg25, Hk26, Hz26, Hg26, Hk27, Hz27, Hg27, Hk30, Hz30, Hg30, Hk31, Hz31, Hg31, Hk32, Hz32, Hg32, Hk33, Hz33, Hg33, Hk34, Hz34, Hg34, Hk35, Hz35, Hg35, Hk36, Hz36, Hg36, Hk37, Hz37, Hg37, Hs00, Hs01, Hs02, Hs10, Hs11, Hs12, Hs20, Hs21, Hs22, Hs30, Hs31, Hs32, H_x, H_wq, H_wo, H_out, H_f7, H_f8, H_f9⟩
  unfold cc0__body_skel
  sl_exec_parts
  iapply (sig_step (valOf I) 0 c _ he1 (owedB_0 c) (owedB_1 c) hp2) $$ [HO Hbt0 Hbp0]
  · isplitl [Hbt0]; · iexact Hbt0
    isplitl [HO]; · iexact HO
    iexact Hbp0
  iintro HO
  sl_exec_parts
  iapply (sig_step (valOf I) 1 c _ he2 (owedB_1 c) (owedB_2 c) hp1) $$ [HO Hbt1 Hbp1]
  · isplitl [Hbt1]; · iexact Hbt1
    isplitl [HO]; · iexact HO
    iexact Hbp1
  iintro HO
  sl_exec_parts
  iapply (sig_step (valOf I) 2 c _ he3 (owedB_2 c) (owed_0 c) hp0) $$ [HO Hbt2 Hbp2]
  · isplitl [Hbt2]; · iexact Hbt2
    isplitl [HO]; · iexact HO
    iexact Hbp2
  iintro HO
  sl_exec_parts
  iapply (bar_step (valOf I) c (owed_0 c) (owesFrom_0 c)) $$ [HO Hbw]
  · isplitl [Hbw]; · iexact Hbw
    isplitl [HO]; · iexact HO
    iexact Hlev
  iintro ⟨HO, Hbd, Hq0, Hq1, Hq2⟩
  unfold barPay
  icases Hq0 with ⟨Hd00, Hd10, Hd20, Hd30, Hr00, Hr10, Hr20, Hr30⟩
  ihave Hst00 := (sendTok_of (valOf I) 0 0 c) $$ [Hst00 Hr00]
  · isplitl [Hst00]; · iexact Hst00
    iexact Hr00
  ihave Hst10 := (sendTok_of (valOf I) 1 0 c) $$ [Hst10 Hr10]
  · isplitl [Hst10]; · iexact Hst10
    iexact Hr10
  ihave Hst20 := (sendTok_of (valOf I) 2 0 c) $$ [Hst20 Hr20]
  · isplitl [Hst20]; · iexact Hst20
    iexact Hr20
  ihave Hst30 := (sendTok_of (valOf I) 3 0 c) $$ [Hst30 Hr30]
  · isplitl [Hst30]; · iexact Hst30
    iexact Hr30
  icases Hq1 with ⟨Hd01, Hd11, Hd21, Hd31, Hr01, Hr11, Hr21, Hr31⟩
  ihave Hst01 := (sendTok_of (valOf I) 0 1 c) $$ [Hst01 Hr01]
  · isplitl [Hst01]; · iexact Hst01
    iexact Hr01
  ihave Hst11 := (sendTok_of (valOf I) 1 1 c) $$ [Hst11 Hr11]
  · isplitl [Hst11]; · iexact Hst11
    iexact Hr11
  ihave Hst21 := (sendTok_of (valOf I) 2 1 c) $$ [Hst21 Hr21]
  · isplitl [Hst21]; · iexact Hst21
    iexact Hr21
  ihave Hst31 := (sendTok_of (valOf I) 3 1 c) $$ [Hst31 Hr31]
  · isplitl [Hst31]; · iexact Hst31
    iexact Hr31
  icases Hq2 with ⟨Hd02, Hd12, Hd22, Hd32, Hr02, Hr12, Hr22, Hr32⟩
  ihave Hst02 := (sendTok_of (valOf I) 0 2 c) $$ [Hst02 Hr02]
  · isplitl [Hst02]; · iexact Hst02
    iexact Hr02
  ihave Hst12 := (sendTok_of (valOf I) 1 2 c) $$ [Hst12 Hr12]
  · isplitl [Hst12]; · iexact Hst12
    iexact Hr12
  ihave Hst22 := (sendTok_of (valOf I) 2 2 c) $$ [Hst22 Hr22]
  · isplitl [Hst22]; · iexact Hst22
    iexact Hr22
  ihave Hst32 := (sendTok_of (valOf I) 3 2 c) $$ [Hst32 Hr32]
  · isplitl [Hst32]; · iexact Hst32
    iexact Hr32
  sl_exec_parts
  have eC0 : run1.sl.v518 I c = ctx I c 0 := by
    have eh7 : k0_pay22 (run1.sl.r_7 I c) (run1.sl.r_8 I c) (run1.sl.v506 I c) = hd I c 0 7 := by
      have ev498 : run1.sl.v498 I c = shapeCast S1x1x16x64x128 (kRd c 0 7 (I.ks c)) casts5 := kLoad c 0 7 (k0_off1_eq c 7) casts5 _
      have ev506 : run1.sl.v506 I c = shapeCast S1x1x16x64x128 (vRd c 0 7 (I.vs c)) casts5 := vLoad c 0 7 (k0_off1_eq c 7) casts5 _
      unfold run1.sl.r_7 run1.sl.r_8
      rw [ev498, ev506]; rfl
    have eh6 : k0_pay19 (run1.sl.r I c) (run1.sl.v477 I c) (run1.sl.v485 I c) = hd I c 0 6 := by
      have ev477 : run1.sl.v477 I c = shapeCast S1x1x16x64x128 (kRd c 0 6 (I.ks c)) casts5 := kLoad c 0 6 (k0_off1_eq c 6) casts5 _
      have ev485 : run1.sl.v485 I c = shapeCast S1x1x16x64x128 (vRd c 0 6 (I.vs c)) casts5 := vLoad c 0 6 (k0_off1_eq c 6) casts5 _
      rw [ev477, ev485]; rfl
    have eh5 : k0_pay18 (run1.sl.r_4 I c) (run1.sl.r_5 I c) (run1.sl.r_6 I c) = hd I c 0 5 := by
      have ev456 : run1.sl.v456 I c = shapeCast S1x1x16x64x128 (kRd c 0 5 (I.ks c)) casts5 := kLoad c 0 5 (k0_off1_eq c 5) casts5 _
      have ev464 : run1.sl.v464 I c = shapeCast S1x1x16x64x128 (vRd c 0 5 (I.vs c)) casts5 := vLoad c 0 5 (k0_off1_eq c 5) casts5 _
      unfold run1.sl.r_4 run1.sl.r_5 run1.sl.r_6
      rw [ev456, ev464]; rfl
    have eh4 : k0_pay14 (run1.sl.r I c) (run1.sl.v435 I c) (run1.sl.v443 I c) = hd I c 0 4 := by
      have ev435 : run1.sl.v435 I c = shapeCast S1x1x16x64x128 (kRd c 0 4 (I.ks c)) casts5 := kLoad c 0 4 (k0_off1_eq c 4) casts5 _
      have ev443 : run1.sl.v443 I c = shapeCast S1x1x16x64x128 (vRd c 0 4 (I.vs c)) casts5 := vLoad c 0 4 (k0_off1_eq c 4) casts5 _
      rw [ev435, ev443]; rfl
    have eh3 : k0_pay13 (run1.sl.r I c) (run1.sl.v414 I c) (run1.sl.v422 I c) = hd I c 0 3 := by
      have ev414 : run1.sl.v414 I c = shapeCast S1x1x16x64x128 (kRd c 0 3 (I.ks c)) casts5 := kLoad c 0 3 (k0_off1_eq c 3) casts5 _
      have ev422 : run1.sl.v422 I c = shapeCast S1x1x16x64x128 (vRd c 0 3 (I.vs c)) casts5 := vLoad c 0 3 (k0_off1_eq c 3) casts5 _
      rw [ev414, ev422]; rfl
    have eh2 : k0_pay12 (run1.sl.r_3 I c) (run1.sl.v401 I c) = hd I c 0 2 := by
      have ev393 : run1.sl.v393 I c = shapeCast S1x1x16x64x128 (kRd c 0 2 (I.ks c)) casts5 := kLoad c 0 2 (k0_off1_eq c 2) casts5 _
      have ev401 : run1.sl.v401 I c = shapeCast S1x1x16x64x128 (vRd c 0 2 (I.vs c)) casts5 := vLoad c 0 2 (k0_off1_eq c 2) casts5 _
      unfold run1.sl.r_3
      rw [ev393, ev401]; rfl
    have eh1 : k0_pay10 (run1.sl.r I c) (run1.sl.v372 I c) (run1.sl.v380 I c) = hd I c 0 1 := by
      have ev372 : run1.sl.v372 I c = shapeCast S1x1x16x64x128 (kRd c 0 1 (I.ks c)) casts5 := kLoad c 0 1 (k0_off1_eq c 1) casts5 _
      have ev380 : run1.sl.v380 I c = shapeCast S1x1x16x64x128 (vRd c 0 1 (I.vs c)) casts5 := vLoad c 0 1 (k0_off1_eq c 1) casts5 _
      rw [ev372, ev380]; rfl
    have eh0 : k0_pay9 (run1.sl.r_1 I c) (run1.sl.r_2 I c) = hd I c 0 0 := by
      have ev351 : run1.sl.v351 I c = shapeCast S1x1x16x64x128 (kRd c 0 0 (I.ks c)) casts5 := kLoad c 0 0 (k0_off1_eq c 0) casts5 _
      have ev359 : run1.sl.v359 I c = shapeCast S1x1x16x64x128 (vRd c 0 0 (I.vs c)) casts5 := vLoad c 0 0 (k0_off1_eq c 0) casts5 _
      unfold run1.sl.r_1 run1.sl.r_2
      rw [ev351, ev359]; rfl
    unfold run1.sl.v518 run1.sl.H_f7_8 run1.sl.H_f7_7 run1.sl.H_f7_5 run1.sl.H_f7_4 run1.sl.H_f7_2
    rw [eh7, eh6, eh5, eh4, eh3, eh2, eh1, eh0]
    rfl
  have eH_f9_1 : run1.sl.H_f9_1 I c = [accP 0 (acc0 I 0 c)] := by
    unfold run1.sl.H_f9_1
    rw [eC0, show run1.sl.v519 I c = woB I c from rfl]; rfl
  have ev525 : run1.sl.v525 I c = acc0 I 0 c := by unfold run1.sl.v525; rw [eH_f9_1]; exact rd_same 0 _ _
  iapply (issue_step (valOf I) 0 0 c _ hd0 (owed_0 c) (owed_1 c) rfl) $$ [HO Hst00 Hs00 Hd00]
  · isplitl [Hst00]; · iexact Hst00
    isplitl [HO]; · iexact HO
    isplitl [Hs00]
    · unfold sReady; iexists _; isplitl [Hs00]; · unfold sPts; iexact Hs00
      ipureintro; exact (slot_back (Memref.whole cc0_scratch4) _ _ _ _ _ casts4').trans ((shapeCast_back _ _ _).trans (congrArg rnd ev525))
    iexact Hd00
  iintro ⟨HO, Hsd00⟩
  sl_exec_parts
  iapply (sent_step (valOf I) 0 0 c 1 (owed_1 c) (owesFrom_1 c)) $$ [HO Hsw00 Hsd00]
  · isplitl [Hsw00]; · iexact Hsw00
    isplitl [Hsd00]; · iexact Hsd00
    isplitl [HO]; · iexact HO
    iexact Hlev
  iintro ⟨HO, Hsc00, Hss00⟩
  sl_exec_parts
  iapply (recv_step (valOf I) 0 0 c 1 (owed_1 c) (owesFrom_1 c) (by decide)) $$ [HO Hrw00]
  · isplitl [Hrw00]; · iexact Hrw00
    isplitl [HO]; · iexact HO
    iexact Hlev
  iintro ⟨HO, Hrc00, Hrv00⟩
  ihave Hrv00 := recv_open_0_0 (valOf I) c $$ Hrv00
  icases Hrv00 with ⟨%fr00, Hrv00⟩
  sl_exec_parts
  have ev936 : run1.sl.v936 I c = acc0 I 0 c := by unfold run1.sl.v936; rw [eH_f9_1]; exact (rd_skip 0 1 (by decide) _ _).trans (rd_same 0 _ _)
  have eR00 : run1.sl.v937 I c fr00 = shapeCast S1x1x64x1024 (rnd (acc0 I 0 (peer 0 c))) casts4 := slot_read (Memref.whole cc0_scratch5) _ _ _ _ _ casts4
  have eC1 : run1.sl.v916 I c = ctx I c 1 := by
    have eh7 : k0_pay41 (run1.sl.r_16 I c) (run1.sl.v904 I c) = hd I c 1 7 := by
      have ev896 : run1.sl.v896 I c = shapeCast S1x1x16x64x128 (kRd c 1 7 (I.ks c)) casts5 := kLoad c 1 7 (k0_off2_eq c 7) casts5 _
      have ev904 : run1.sl.v904 I c = shapeCast S1x1x16x64x128 (vRd c 1 7 (I.vs c)) casts5 := vLoad c 1 7 (k0_off2_eq c 7) casts5 _
      unfold run1.sl.r_16
      rw [ev896, ev904]; rfl
    have eh6 : k0_pay39 (run1.sl.r I c) (run1.sl.v875 I c) (run1.sl.v883 I c) = hd I c 1 6 := by
      have ev875 : run1.sl.v875 I c = shapeCast S1x1x16x64x128 (kRd c 1 6 (I.ks c)) casts5 := kLoad c 1 6 (k0_off2_eq c 6) casts5 _
      have ev883 : run1.sl.v883 I c = shapeCast S1x1x16x64x128 (vRd c 1 6 (I.vs c)) casts5 := vLoad c 1 6 (k0_off2_eq c 6) casts5 _
      rw [ev875, ev883]; rfl
    have eh5 : k0_pay38 (run1.sl.r_13 I c) (run1.sl.r_14 I c) (run1.sl.r_15 I c) = hd I c 1 5 := by
      have ev854 : run1.sl.v854 I c = shapeCast S1x1x16x64x128 (kRd c 1 5 (I.ks c)) casts5 := kLoad c 1 5 (k0_off2_eq c 5) casts5 _
      have ev862 : run1.sl.v862 I c = shapeCast S1x1x16x64x128 (vRd c 1 5 (I.vs c)) casts5 := vLoad c 1 5 (k0_off2_eq c 5) casts5 _
      unfold run1.sl.r_13 run1.sl.r_14 run1.sl.r_15
      rw [ev854, ev862]; rfl
    have eh4 : k0_pay33 (run1.sl.r_12 I c) (run1.sl.v833 I c) (run1.sl.v841 I c) = hd I c 1 4 := by
      have ev833 : run1.sl.v833 I c = shapeCast S1x1x16x64x128 (kRd c 1 4 (I.ks c)) casts5 := kLoad c 1 4 (k0_off2_eq c 4) casts5 _
      have ev841 : run1.sl.v841 I c = shapeCast S1x1x16x64x128 (vRd c 1 4 (I.vs c)) casts5 := vLoad c 1 4 (k0_off2_eq c 4) casts5 _
      unfold run1.sl.r_12
      rw [ev833, ev841]; rfl
    have eh3 : k0_pay31 (run1.sl.r I c) (run1.sl.v812 I c) (run1.sl.v820 I c) = hd I c 1 3 := by
      have ev812 : run1.sl.v812 I c = shapeCast S1x1x16x64x128 (kRd c 1 3 (I.ks c)) casts5 := kLoad c 1 3 (k0_off2_eq c 3) casts5 _
      have ev820 : run1.sl.v820 I c = shapeCast S1x1x16x64x128 (vRd c 1 3 (I.vs c)) casts5 := vLoad c 1 3 (k0_off2_eq c 3) casts5 _
      rw [ev812, ev820]; rfl
    have eh2 : k0_pay30 (run1.sl.r_10 I c) (run1.sl.r_11 I c) (run1.sl.v799 I c) = hd I c 1 2 := by
      have ev791 : run1.sl.v791 I c = shapeCast S1x1x16x64x128 (kRd c 1 2 (I.ks c)) casts5 := kLoad c 1 2 (k0_off2_eq c 2) casts5 _
      have ev799 : run1.sl.v799 I c = shapeCast S1x1x16x64x128 (vRd c 1 2 (I.vs c)) casts5 := vLoad c 1 2 (k0_off2_eq c 2) casts5 _
      unfold run1.sl.r_10 run1.sl.r_11
      rw [ev791, ev799]; rfl
    have eh1 : k0_pay27 (run1.sl.r I c) (run1.sl.v770 I c) (run1.sl.v778 I c) = hd I c 1 1 := by
      have ev770 : run1.sl.v770 I c = shapeCast S1x1x16x64x128 (kRd c 1 1 (I.ks c)) casts5 := kLoad c 1 1 (k0_off2_eq c 1) casts5 _
      have ev778 : run1.sl.v778 I c = shapeCast S1x1x16x64x128 (vRd c 1 1 (I.vs c)) casts5 := vLoad c 1 1 (k0_off2_eq c 1) casts5 _
      rw [ev770, ev778]; rfl
    have eh0 : k0_pay26 (run1.sl.r_9 I c) = hd I c 1 0 := by
      have ev749 : run1.sl.v749 I c = shapeCast S1x1x16x64x128 (kRd c 1 0 (I.ks c)) casts5 := kLoad c 1 0 (k0_off2_eq c 0) casts5 _
      have ev757 : run1.sl.v757 I c = shapeCast S1x1x16x64x128 (vRd c 1 0 (I.vs c)) casts5 := vLoad c 1 0 (k0_off2_eq c 0) casts5 _
      unfold run1.sl.r_9
      rw [ev749, ev757]; rfl
    unfold run1.sl.v916 run1.sl.H_f7_16 run1.sl.H_f7_15 run1.sl.H_f7_13 run1.sl.H_f7_12 run1.sl.H_f7_10
    rw [eh7, eh6, eh5, eh4, eh3, eh2, eh1, eh0]
    exact ctx_read _ (hd I c 1) (run1.sl.H_f7_8 I c) _
  have eH_f9_3 : run1.sl.H_f9_3 I c fr00 = [accP 0 (acc1 I 0 c), accP 1 (acc0 I 1 c), accP 0 (acc0 I 0 c)] := by
    unfold run1.sl.H_f9_3
    rw [eH_f9_1, ev936, eR00, eC1, show run1.sl.v917 I c = woB I c from rfl]; rfl
  have ev945 : run1.sl.v945 I c fr00 = acc1 I 0 c := by unfold run1.sl.v945; rw [eH_f9_3]; exact rd_same 0 _ _
  iapply (issue_step (valOf I) 0 1 c _ hd1 (owed_1 c) (owed_2 c) rfl) $$ [HO Hst01 Hs01 Hd01]
  · isplitl [Hst01]; · iexact Hst01
    isplitl [HO]; · iexact HO
    isplitl [Hs01]
    · unfold sReady; iexists _; isplitl [Hs01]; · unfold sPts; iexact Hs01
      ipureintro; exact (slot_back (Memref.whole cc0_scratch4) _ _ _ _ _ casts4').trans ((shapeCast_back _ _ _).trans (congrArg rnd ev945))
    iexact Hd01
  iintro ⟨HO, Hsd01⟩
  sl_exec_parts
  have ev961 : run1.sl.v961 I c fr00 = acc0 I 1 c := by unfold run1.sl.v961; rw [eH_f9_3]; exact (rd_skip 1 0 (by decide) _ _).trans (rd_same 1 _ _)
  iapply (issue_step (valOf I) 1 0 c _ hd2 (owed_2 c) (owed_3 c) rfl) $$ [HO Hst10 Hs10 Hd10]
  · isplitl [Hst10]; · iexact Hst10
    isplitl [HO]; · iexact HO
    isplitl [Hs10]
    · unfold sReady; iexists _; isplitl [Hs10]; · unfold sPts; iexact Hs10
      ipureintro; exact (slot_back (Memref.whole cc0_scratch4) _ _ _ _ _ casts4').trans ((shapeCast_back _ _ _).trans (congrArg rnd ev961))
    iexact Hd10
  iintro ⟨HO, Hsd10⟩
  sl_exec_parts
  iapply (sent_step (valOf I) 0 1 c 3 (owed_3 c) (owesFrom_3 c)) $$ [HO Hsw01 Hsd01]
  · isplitl [Hsw01]; · iexact Hsw01
    isplitl [Hsd01]; · iexact Hsd01
    isplitl [HO]; · iexact HO
    iexact Hlev
  iintro ⟨HO, Hsc01, Hss01⟩
  sl_exec_parts
  iapply (recv_step (valOf I) 0 1 c 3 (owed_3 c) (owesFrom_3 c) (by decide)) $$ [HO Hrw01]
  · isplitl [Hrw01]; · iexact Hrw01
    isplitl [HO]; · iexact HO
    iexact Hlev
  iintro ⟨HO, Hrc01, Hrv01⟩
  ihave Hrv01 := recv_open_0_1 (valOf I) c $$ Hrv01
  icases Hrv01 with ⟨%fr01, Hrv01⟩
  sl_exec_parts
  have ev1372 : run1.sl.v1372 I c fr00 = acc1 I 0 c := by unfold run1.sl.v1372; rw [eH_f9_3]; exact (rd_skip 0 2 (by decide) _ _).trans (rd_same 0 _ _)
  have eR01 : run1.sl.v1373 I c fr01 = shapeCast S1x1x64x1024 (rnd (acc1 I 0 (peer 1 c))) casts4 := slot_read (Memref.whole cc0_scratch5) _ _ _ _ _ casts4
  have eC2 : run1.sl.v1352 I c = ctx I c 2 := by
    have eh7 : run1.sl.r_24 I c = hd I c 2 7 := by
      have ev1332 : run1.sl.v1332 I c = shapeCast S1x1x16x64x128 (kRd c 2 7 (I.ks c)) casts5 := kLoad c 2 7 (k0_off3_eq c 7) casts5 _
      have ev1340 : run1.sl.v1340 I c = shapeCast S1x1x16x64x128 (vRd c 2 7 (I.vs c)) casts5 := vLoad c 2 7 (k0_off3_eq c 7) casts5 _
      unfold run1.sl.r_24
      rw [ev1332, ev1340]; rfl
    have eh6 : k0_pay60 (run1.sl.r_23 I c) (run1.sl.v1319 I c) = hd I c 2 6 := by
      have ev1311 : run1.sl.v1311 I c = shapeCast S1x1x16x64x128 (kRd c 2 6 (I.ks c)) casts5 := kLoad c 2 6 (k0_off3_eq c 6) casts5 _
      have ev1319 : run1.sl.v1319 I c = shapeCast S1x1x16x64x128 (vRd c 2 6 (I.vs c)) casts5 := vLoad c 2 6 (k0_off3_eq c 6) casts5 _
      unfold run1.sl.r_23
      rw [ev1311, ev1319]; rfl
    have eh5 : k0_pay58 (run1.sl.r I c) (run1.sl.v1290 I c) (run1.sl.v1298 I c) = hd I c 2 5 := by
      have ev1290 : run1.sl.v1290 I c = shapeCast S1x1x16x64x128 (kRd c 2 5 (I.ks c)) casts5 := kLoad c 2 5 (k0_off3_eq c 5) casts5 _
      have ev1298 : run1.sl.v1298 I c = shapeCast S1x1x16x64x128 (vRd c 2 5 (I.vs c)) casts5 := vLoad c 2 5 (k0_off3_eq c 5) casts5 _
      rw [ev1290, ev1298]; rfl
    have eh4 : k0_pay57 (run1.sl.r_20 I c) (run1.sl.r_21 I c) (run1.sl.r_22 I c) run1.sl.cst_1721 = hd I c 2 4 := by
      have ev1269 : run1.sl.v1269 I c = shapeCast S1x1x16x64x128 (kRd c 2 4 (I.ks c)) casts5 := kLoad c 2 4 (k0_off3_eq c 4) casts5 _
      have ev1277 : run1.sl.v1277 I c = shapeCast S1x1x16x64x128 (vRd c 2 4 (I.vs c)) casts5 := vLoad c 2 4 (k0_off3_eq c 4) casts5 _
      unfold run1.sl.r_20 run1.sl.r_21 run1.sl.r_22 run1.sl.cst_1721
      rw [ev1269, ev1277]; rfl
    have eh3 : k0_pay52 (run1.sl.r_19 I c) (run1.sl.v1248 I c) (run1.sl.v1256 I c) = hd I c 2 3 := by
      have ev1248 : run1.sl.v1248 I c = shapeCast S1x1x16x64x128 (kRd c 2 3 (I.ks c)) casts5 := kLoad c 2 3 (k0_off3_eq c 3) casts5 _
      have ev1256 : run1.sl.v1256 I c = shapeCast S1x1x16x64x128 (vRd c 2 3 (I.vs c)) casts5 := vLoad c 2 3 (k0_off3_eq c 3) casts5 _
      unfold run1.sl.r_19
      rw [ev1248, ev1256]; rfl
    have eh2 : k0_pay50 (run1.sl.r I c) (run1.sl.v1227 I c) (run1.sl.v1235 I c) = hd I c 2 2 := by
      have ev1227 : run1.sl.v1227 I c = shapeCast S1x1x16x64x128 (kRd c 2 2 (I.ks c)) casts5 := kLoad c 2 2 (k0_off3_eq c 2) casts5 _
      have ev1235 : run1.sl.v1235 I c = shapeCast S1x1x16x64x128 (vRd c 2 2 (I.vs c)) casts5 := vLoad c 2 2 (k0_off3_eq c 2) casts5 _
      rw [ev1227, ev1235]; rfl
    have eh1 : k0_pay49 (run1.sl.r_17 I c) (run1.sl.r_18 I c) (run1.sl.v1214 I c) = hd I c 2 1 := by
      have ev1206 : run1.sl.v1206 I c = shapeCast S1x1x16x64x128 (kRd c 2 1 (I.ks c)) casts5 := kLoad c 2 1 (k0_off3_eq c 1) casts5 _
      have ev1214 : run1.sl.v1214 I c = shapeCast S1x1x16x64x128 (vRd c 2 1 (I.vs c)) casts5 := vLoad c 2 1 (k0_off3_eq c 1) casts5 _
      unfold run1.sl.r_17 run1.sl.r_18
      rw [ev1206, ev1214]; rfl
    have eh0 : k0_pay46 (run1.sl.r I c) (run1.sl.v1185 I c) (run1.sl.v1193 I c) = hd I c 2 0 := by
      have ev1185 : run1.sl.v1185 I c = shapeCast S1x1x16x64x128 (kRd c 2 0 (I.ks c)) casts5 := kLoad c 2 0 (k0_off3_eq c 0) casts5 _
      have ev1193 : run1.sl.v1193 I c = shapeCast S1x1x16x64x128 (vRd c 2 0 (I.vs c)) casts5 := vLoad c 2 0 (k0_off3_eq c 0) casts5 _
      rw [ev1185, ev1193]; rfl
    unfold run1.sl.v1352 run1.sl.H_f7_24 run1.sl.H_f7_23 run1.sl.H_f7_22 run1.sl.H_f7_20 run1.sl.H_f7_19 run1.sl.H_f7_17
    rw [eh7, eh6, eh5, eh4, eh3, eh2, eh1, eh0]
    exact ctx_read _ (hd I c 2) (run1.sl.H_f7_16 I c) _
  have eH_f9_5 : run1.sl.H_f9_5 I c fr00 fr01 = [accP 0 (acc2 I 0 c), accP 2 (acc0 I 2 c), accP 0 (acc1 I 0 c), accP 1 (acc0 I 1 c), accP 0 (acc0 I 0 c)] := by
    unfold run1.sl.H_f9_5
    rw [eH_f9_3, ev1372, eR01, eC2, show run1.sl.v1353 I c = woB I c from rfl]; rfl
  have ev1381 : run1.sl.v1381 I c fr00 fr01 = acc2 I 0 c := by unfold run1.sl.v1381; rw [eH_f9_5]; exact rd_same 0 _ _
  iapply (issue_step (valOf I) 0 2 c _ hd3 (owed_3 c) (owed_4 c) rfl) $$ [HO Hst02 Hs02 Hd02]
  · isplitl [Hst02]; · iexact Hst02
    isplitl [HO]; · iexact HO
    isplitl [Hs02]
    · unfold sReady; iexists _; isplitl [Hs02]; · unfold sPts; iexact Hs02
      ipureintro; exact (slot_back (Memref.whole cc0_scratch4) _ _ _ _ _ casts4').trans ((shapeCast_back _ _ _).trans (congrArg rnd ev1381))
    iexact Hd02
  iintro ⟨HO, Hsd02⟩
  sl_exec_parts
  iapply (sent_step (valOf I) 1 0 c 4 (owed_4 c) (owesFrom_4 c)) $$ [HO Hsw10 Hsd10]
  · isplitl [Hsw10]; · iexact Hsw10
    isplitl [Hsd10]; · iexact Hsd10
    isplitl [HO]; · iexact HO
    iexact Hlev
  iintro ⟨HO, Hsc10, Hss10⟩
  sl_exec_parts
  iapply (recv_step (valOf I) 1 0 c 4 (owed_4 c) (owesFrom_4 c) (by decide)) $$ [HO Hrw10]
  · isplitl [Hrw10]; · iexact Hrw10
    isplitl [HO]; · iexact HO
    iexact Hlev
  iintro ⟨HO, Hrc10, Hrv10⟩
  ihave Hrv10 := recv_open_1_0 (valOf I) c $$ Hrv10
  icases Hrv10 with ⟨%fr10, Hrv10⟩
  sl_exec_parts
  have ev1410 : run1.sl.v1410 I c fr00 fr01 = acc0 I 1 c := by unfold run1.sl.v1410; rw [eH_f9_5]; exact (rd_skip 1 0 (by decide) _ _).trans ((rd_skip 1 2 (by decide) _ _).trans ((rd_skip 1 0 (by decide) _ _).trans (rd_same 1 _ _)))
  have eR10 : run1.sl.v1411 I c fr10 = shapeCast S1x1x64x1024 (rnd (acc0 I 1 (peer 0 c))) casts4 := slot_read (Memref.whole cc0_scratch5) _ _ _ _ _ casts4
  have eH_f9_6 : run1.sl.H_f9_6 I c fr00 fr01 fr10 = [accP 1 (acc1 I 1 c), accP 0 (acc2 I 0 c), accP 2 (acc0 I 2 c), accP 0 (acc1 I 0 c), accP 1 (acc0 I 1 c), accP 0 (acc0 I 0 c)] := by
    unfold run1.sl.H_f9_6
    rw [eH_f9_5, ev1410, eR10]; rfl
  have ev1419 : run1.sl.v1419 I c fr00 fr01 fr10 = acc1 I 1 c := by unfold run1.sl.v1419; rw [eH_f9_6]; exact rd_same 1 _ _
  iapply (issue_step (valOf I) 1 1 c _ hd4 (owed_4 c) (owed_5 c) rfl) $$ [HO Hst11 Hs11 Hd11]
  · isplitl [Hst11]; · iexact Hst11
    isplitl [HO]; · iexact HO
    isplitl [Hs11]
    · unfold sReady; iexists _; isplitl [Hs11]; · unfold sPts; iexact Hs11
      ipureintro; exact (slot_back (Memref.whole cc0_scratch4) _ _ _ _ _ casts4').trans ((shapeCast_back _ _ _).trans (congrArg rnd ev1419))
    iexact Hd11
  iintro ⟨HO, Hsd11⟩
  sl_exec_parts
  have ev1435 : run1.sl.v1435 I c fr00 fr01 fr10 = acc0 I 2 c := by unfold run1.sl.v1435; rw [eH_f9_6]; exact (rd_skip 2 1 (by decide) _ _).trans ((rd_skip 2 0 (by decide) _ _).trans (rd_same 2 _ _))
  iapply (issue_step (valOf I) 2 0 c _ hd5 (owed_5 c) (owed_6 c) rfl) $$ [HO Hst20 Hs20 Hd20]
  · isplitl [Hst20]; · iexact Hst20
    isplitl [HO]; · iexact HO
    isplitl [Hs20]
    · unfold sReady; iexists _; isplitl [Hs20]; · unfold sPts; iexact Hs20
      ipureintro; exact (slot_back (Memref.whole cc0_scratch4) _ _ _ _ _ casts4').trans ((shapeCast_back _ _ _).trans (congrArg rnd ev1435))
    iexact Hd20
  iintro ⟨HO, Hsd20⟩
  sl_exec_parts
  iapply (sent_step (valOf I) 0 2 c 6 (owed_6 c) (owesFrom_6 c)) $$ [HO Hsw02 Hsd02]
  · isplitl [Hsw02]; · iexact Hsw02
    isplitl [Hsd02]; · iexact Hsd02
    isplitl [HO]; · iexact HO
    iexact Hlev
  iintro ⟨HO, Hsc02, Hss02⟩
  sl_exec_parts
  iapply (recv_step (valOf I) 0 2 c 6 (owed_6 c) (owesFrom_6 c) (by decide)) $$ [HO Hrw02]
  · isplitl [Hrw02]; · iexact Hrw02
    isplitl [HO]; · iexact HO
    iexact Hlev
  iintro ⟨HO, Hrc02, Hrv02⟩
  ihave Hrv02 := recv_open_0_2 (valOf I) c $$ Hrv02
  icases Hrv02 with ⟨%fr02, Hrv02⟩
  sl_exec_parts
  iapply (sent_step (valOf I) 1 1 c 6 (owed_6 c) (owesFrom_6 c)) $$ [HO Hsw11 Hsd11]
  · isplitl [Hsw11]; · iexact Hsw11
    isplitl [Hsd11]; · iexact Hsd11
    isplitl [HO]; · iexact HO
    iexact Hlev
  iintro ⟨HO, Hsc11, Hss11⟩
  sl_exec_parts
  iapply (recv_step (valOf I) 1 1 c 6 (owed_6 c) (owesFrom_6 c) (by decide)) $$ [HO Hrw11]
  · isplitl [Hrw11]; · iexact Hrw11
    isplitl [HO]; · iexact HO
    iexact Hlev
  iintro ⟨HO, Hrc11, Hrv11⟩
  ihave Hrv11 := recv_open_1_1 (valOf I) c $$ Hrv11
  icases Hrv11 with ⟨%fr11, Hrv11⟩
  sl_exec_parts
  have ev1756 : run1.sl.v1756 I c fr00 fr01 fr10 fr02 = acc1 I 1 c := by unfold run1.sl.v1756; rw [eH_f9_6]; exact (rd_skip 1 0 (by decide) _ _).trans ((rd_skip 1 3 (by decide) _ _).trans (rd_same 1 _ _))
  have eR11 : run1.sl.v1757 I c fr11 = shapeCast S1x1x64x1024 (rnd (acc1 I 1 (peer 1 c))) casts4 := slot_read (Memref.whole cc0_scratch5) _ _ _ _ _ casts4
  have ev1734 : run1.sl.v1734 I c fr00 fr01 fr10 = acc2 I 0 c := by unfold run1.sl.v1734; rw [eH_f9_6]; exact (rd_skip 0 3 (by decide) _ _).trans ((rd_skip 0 1 (by decide) _ _).trans (rd_same 0 _ _))
  have eR02 : run1.sl.v1735 I c fr02 = shapeCast S1x1x64x1024 (rnd (acc2 I 0 (peer 2 c))) casts4 := slot_read (Memref.whole cc0_scratch5) _ _ _ _ _ casts4
  have eC3 : run1.sl.v1714 I c = ctx I c 3 := by
    have eh7 : k0_pay84 (run1.sl.r I c) (run1.sl.v1694 I c) (run1.sl.v1702 I c) = hd I c 3 7 := by
      have ev1694 : run1.sl.v1694 I c = shapeCast S1x1x16x64x128 (kRd c 3 7 (I.ks c)) casts5 := kLoad c 3 7 (k0_off4_eq c 7) casts5 _
      have ev1702 : run1.sl.v1702 I c = shapeCast S1x1x16x64x128 (vRd c 3 7 (I.vs c)) casts5 := vLoad c 3 7 (k0_off4_eq c 7) casts5 _
      rw [ev1694, ev1702]; rfl
    have eh6 : k0_pay83 (run1.sl.r_32 I c) (run1.sl.r_33 I c) (run1.sl.v1681 I c) = hd I c 3 6 := by
      have ev1673 : run1.sl.v1673 I c = shapeCast S1x1x16x64x128 (kRd c 3 6 (I.ks c)) casts5 := kLoad c 3 6 (k0_off4_eq c 6) casts5 _
      have ev1681 : run1.sl.v1681 I c = shapeCast S1x1x16x64x128 (vRd c 3 6 (I.vs c)) casts5 := vLoad c 3 6 (k0_off4_eq c 6) casts5 _
      unfold run1.sl.r_32 run1.sl.r_33
      rw [ev1673, ev1681]; rfl
    have eh5 : k0_pay80 (run1.sl.r I c) (run1.sl.v1652 I c) (run1.sl.v1660 I c) = hd I c 3 5 := by
      have ev1652 : run1.sl.v1652 I c = shapeCast S1x1x16x64x128 (kRd c 3 5 (I.ks c)) casts5 := kLoad c 3 5 (k0_off4_eq c 5) casts5 _
      have ev1660 : run1.sl.v1660 I c = shapeCast S1x1x16x64x128 (vRd c 3 5 (I.vs c)) casts5 := vLoad c 3 5 (k0_off4_eq c 5) casts5 _
      rw [ev1652, ev1660]; rfl
    have eh4 : k0_pay79 (run1.sl.r_31 I c) = hd I c 3 4 := by
      have ev1631 : run1.sl.v1631 I c = shapeCast S1x1x16x64x128 (kRd c 3 4 (I.ks c)) casts5 := kLoad c 3 4 (k0_off4_eq c 4) casts5 _
      have ev1639 : run1.sl.v1639 I c = shapeCast S1x1x16x64x128 (vRd c 3 4 (I.vs c)) casts5 := vLoad c 3 4 (k0_off4_eq c 4) casts5 _
      unfold run1.sl.r_31
      rw [ev1631, ev1639]; rfl
    have eh3 : k0_pay77 (run1.sl.r_29 I c) (run1.sl.r_30 I c) (run1.sl.v1618 I c) = hd I c 3 3 := by
      have ev1610 : run1.sl.v1610 I c = shapeCast S1x1x16x64x128 (kRd c 3 3 (I.ks c)) casts5 := kLoad c 3 3 (k0_off4_eq c 3) casts5 _
      have ev1618 : run1.sl.v1618 I c = shapeCast S1x1x16x64x128 (vRd c 3 3 (I.vs c)) casts5 := vLoad c 3 3 (k0_off4_eq c 3) casts5 _
      unfold run1.sl.r_29 run1.sl.r_30
      rw [ev1610, ev1618]; rfl
    have eh2 : k0_pay74 (run1.sl.r I c) (run1.sl.v1589 I c) (run1.sl.v1597 I c) = hd I c 3 2 := by
      have ev1589 : run1.sl.v1589 I c = shapeCast S1x1x16x64x128 (kRd c 3 2 (I.ks c)) casts5 := kLoad c 3 2 (k0_off4_eq c 2) casts5 _
      have ev1597 : run1.sl.v1597 I c = shapeCast S1x1x16x64x128 (vRd c 3 2 (I.vs c)) casts5 := vLoad c 3 2 (k0_off4_eq c 2) casts5 _
      rw [ev1589, ev1597]; rfl
    have eh1 : k0_pay73 (run1.sl.r_26 I c) (run1.sl.r_27 I c) (run1.sl.r_28 I c) = hd I c 3 1 := by
      have ev1568 : run1.sl.v1568 I c = shapeCast S1x1x16x64x128 (kRd c 3 1 (I.ks c)) casts5 := kLoad c 3 1 (k0_off4_eq c 1) casts5 _
      have ev1576 : run1.sl.v1576 I c = shapeCast S1x1x16x64x128 (vRd c 3 1 (I.vs c)) casts5 := vLoad c 3 1 (k0_off4_eq c 1) casts5 _
      unfold run1.sl.r_26 run1.sl.r_27 run1.sl.r_28
      rw [ev1568, ev1576]; rfl
    have eh0 : k0_pay69 (run1.sl.r I c) (run1.sl.v1547 I c) (run1.sl.v1555 I c) = hd I c 3 0 := by
      have ev1547 : run1.sl.v1547 I c = shapeCast S1x1x16x64x128 (kRd c 3 0 (I.ks c)) casts5 := kLoad c 3 0 (k0_off4_eq c 0) casts5 _
      have ev1555 : run1.sl.v1555 I c = shapeCast S1x1x16x64x128 (vRd c 3 0 (I.vs c)) casts5 := vLoad c 3 0 (k0_off4_eq c 0) casts5 _
      rw [ev1547, ev1555]; rfl
    unfold run1.sl.v1714 run1.sl.H_f7_32 run1.sl.H_f7_30 run1.sl.H_f7_28 run1.sl.H_f7_27 run1.sl.H_f7_25
    rw [eh7, eh6, eh5, eh4, eh3, eh2, eh1, eh0]
    exact ctx_read _ (hd I c 3) (run1.sl.H_f7_24 I c) _
  have eH_f9_9 : run1.sl.H_f9_9 I c fr00 fr01 fr10 fr02 fr11 = [accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_9
    rw [eH_f9_6, ev1756, eR11, ev1734, eR02, eC3, show run1.sl.v1715 I c = woB I c from rfl]; rfl
  have ev1765 : run1.sl.v1765 I c fr00 fr01 fr10 fr02 fr11 = acc2 I 1 c := by unfold run1.sl.v1765; rw [eH_f9_9]; exact rd_same 1 _ _
  iapply (issue_step (valOf I) 1 2 c _ hd6 (owed_6 c) (owed_7 c) rfl) $$ [HO Hst12 Hs12 Hd12]
  · isplitl [Hst12]; · iexact Hst12
    isplitl [HO]; · iexact HO
    isplitl [Hs12]
    · unfold sReady; iexists _; isplitl [Hs12]; · unfold sPts; iexact Hs12
      ipureintro; exact (slot_back (Memref.whole cc0_scratch4) _ _ _ _ _ casts4').trans ((shapeCast_back _ _ _).trans (congrArg rnd ev1765))
    iexact Hd12
  iintro ⟨HO, Hsd12⟩
  sl_exec_parts
  iapply (sent_step (valOf I) 2 0 c 7 (owed_7 c) (owesFrom_7 c)) $$ [HO Hsw20 Hsd20]
  · isplitl [Hsw20]; · iexact Hsw20
    isplitl [Hsd20]; · iexact Hsd20
    isplitl [HO]; · iexact HO
    iexact Hlev
  iintro ⟨HO, Hsc20, Hss20⟩
  sl_exec_parts
  iapply (recv_step (valOf I) 2 0 c 7 (owed_7 c) (owesFrom_7 c) (by decide)) $$ [HO Hrw20]
  · isplitl [Hrw20]; · iexact Hrw20
    isplitl [HO]; · iexact HO
    iexact Hlev
  iintro ⟨HO, Hrc20, Hrv20⟩
  ihave Hrv20 := recv_open_2_0 (valOf I) c $$ Hrv20
  icases Hrv20 with ⟨%fr20, Hrv20⟩
  sl_exec_parts
  have ev1794 : run1.sl.v1794 I c fr00 fr01 fr10 fr02 fr11 = acc0 I 2 c := by unfold run1.sl.v1794; rw [eH_f9_9]; exact (rd_skip 2 1 (by decide) _ _).trans ((rd_skip 2 0 (by decide) _ _).trans ((rd_skip 2 3 (by decide) _ _).trans ((rd_skip 2 1 (by decide) _ _).trans ((rd_skip 2 0 (by decide) _ _).trans (rd_same 2 _ _)))))
  have eR20 : run1.sl.v1795 I c fr20 = shapeCast S1x1x64x1024 (rnd (acc0 I 2 (peer 0 c))) casts4 := slot_read (Memref.whole cc0_scratch5) _ _ _ _ _ casts4
  have eH_f9_10 : run1.sl.H_f9_10 I c fr00 fr01 fr10 fr02 fr11 fr20 = [accP 2 (acc1 I 2 c), accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_10
    rw [eH_f9_9, ev1794, eR20]; rfl
  have ev1803 : run1.sl.v1803 I c fr00 fr01 fr10 fr02 fr11 fr20 = acc1 I 2 c := by unfold run1.sl.v1803; rw [eH_f9_10]; exact rd_same 2 _ _
  iapply (issue_step (valOf I) 2 1 c _ hd7 (owed_7 c) (owed_8 c) rfl) $$ [HO Hst21 Hs21 Hd21]
  · isplitl [Hst21]; · iexact Hst21
    isplitl [HO]; · iexact HO
    isplitl [Hs21]
    · unfold sReady; iexists _; isplitl [Hs21]; · unfold sPts; iexact Hs21
      ipureintro; exact (slot_back (Memref.whole cc0_scratch4) _ _ _ _ _ casts4').trans ((shapeCast_back _ _ _).trans (congrArg rnd ev1803))
    iexact Hd21
  iintro ⟨HO, Hsd21⟩
  sl_exec_parts
  have ev1819 : run1.sl.v1819 I c fr00 fr01 fr10 fr02 fr11 fr20 = acc0 I 3 c := by unfold run1.sl.v1819; rw [eH_f9_10]; exact (rd_skip 3 2 (by decide) _ _).trans ((rd_skip 3 1 (by decide) _ _).trans ((rd_skip 3 0 (by decide) _ _).trans (rd_same 3 _ _)))
  iapply (issue_step (valOf I) 3 0 c _ hd8 (owed_8 c) (owed_9 c) rfl) $$ [HO Hst30 Hs30 Hd30]
  · isplitl [Hst30]; · iexact Hst30
    isplitl [HO]; · iexact HO
    isplitl [Hs30]
    · unfold sReady; iexists _; isplitl [Hs30]; · unfold sPts; iexact Hs30
      ipureintro; exact (slot_back (Memref.whole cc0_scratch4) _ _ _ _ _ casts4').trans ((shapeCast_back _ _ _).trans (congrArg rnd ev1819))
    iexact Hd30
  iintro ⟨HO, Hsd30⟩
  sl_exec_parts
  iapply (sent_step (valOf I) 1 2 c 9 (owed_9 c) (owesFrom_9 c)) $$ [HO Hsw12 Hsd12]
  · isplitl [Hsw12]; · iexact Hsw12
    isplitl [Hsd12]; · iexact Hsd12
    isplitl [HO]; · iexact HO
    iexact Hlev
  iintro ⟨HO, Hsc12, Hss12⟩
  sl_exec_parts
  iapply (recv_step (valOf I) 1 2 c 9 (owed_9 c) (owesFrom_9 c) (by decide)) $$ [HO Hrw12]
  · isplitl [Hrw12]; · iexact Hrw12
    isplitl [HO]; · iexact HO
    iexact Hlev
  iintro ⟨HO, Hrc12, Hrv12⟩
  ihave Hrv12 := recv_open_1_2 (valOf I) c $$ Hrv12
  icases Hrv12 with ⟨%fr12, Hrv12⟩
  sl_exec_parts
  iapply (sent_step (valOf I) 2 1 c 9 (owed_9 c) (owesFrom_9 c)) $$ [HO Hsw21 Hsd21]
  · isplitl [Hsw21]; · iexact Hsw21
    isplitl [Hsd21]; · iexact Hsd21
    isplitl [HO]; · iexact HO
    iexact Hlev
  iintro ⟨HO, Hsc21, Hss21⟩
  sl_exec_parts
  iapply (recv_step (valOf I) 2 1 c 9 (owed_9 c) (owesFrom_9 c) (by decide)) $$ [HO Hrw21]
  · isplitl [Hrw21]; · iexact Hrw21
    isplitl [HO]; · iexact HO
    iexact Hlev
  iintro ⟨HO, Hrc21, Hrv21⟩
  ihave Hrv21 := recv_open_2_1 (valOf I) c $$ Hrv21
  icases Hrv21 with ⟨%fr21, Hrv21⟩
  sl_exec_parts
  have ev1870 : run1.sl.v1870 I c fr00 fr01 fr10 fr02 fr11 fr20 fr12 = acc1 I 2 c := by unfold run1.sl.v1870; rw [eH_f9_10]; exact (rd_skip 2 1 (by decide) _ _).trans (rd_same 2 _ _)
  have eR21 : run1.sl.v1871 I c fr21 = shapeCast S1x1x64x1024 (rnd (acc1 I 2 (peer 1 c))) casts4 := slot_read (Memref.whole cc0_scratch5) _ _ _ _ _ casts4
  have ev1848 : run1.sl.v1848 I c fr00 fr01 fr10 fr02 fr11 fr20 = acc2 I 1 c := by unfold run1.sl.v1848; rw [eH_f9_10]; exact (rd_skip 1 2 (by decide) _ _).trans (rd_same 1 _ _)
  have eR12 : run1.sl.v1849 I c fr12 = shapeCast S1x1x64x1024 (rnd (acc2 I 1 (peer 2 c))) casts4 := slot_read (Memref.whole cc0_scratch5) _ _ _ _ _ casts4
  have eH_f9_12 : run1.sl.H_f9_12 I c fr00 fr01 fr10 fr02 fr11 fr20 fr12 fr21 = [accP 2 (acc2 I 2 c), accP 1 (acc3 I 1 c), accP 2 (acc1 I 2 c), accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_12 run1.sl.r_37 run1.sl.r_36
    rw [eH_f9_10, ev1870, eR21, ev1848, eR12]; rfl
  have ev1879 : run1.sl.v1879 I c fr00 fr01 fr10 fr02 fr11 fr20 fr12 fr21 = acc2 I 2 c := by unfold run1.sl.v1879; rw [eH_f9_12]; exact rd_same 2 _ _
  iapply (issue_step (valOf I) 2 2 c _ hd9 (owed_9 c) (owed_10 c) rfl) $$ [HO Hst22 Hs22 Hd22]
  · isplitl [Hst22]; · iexact Hst22
    isplitl [HO]; · iexact HO
    isplitl [Hs22]
    · unfold sReady; iexists _; isplitl [Hs22]; · unfold sPts; iexact Hs22
      ipureintro; exact (slot_back (Memref.whole cc0_scratch4) _ _ _ _ _ casts4').trans ((shapeCast_back _ _ _).trans (congrArg rnd ev1879))
    iexact Hd22
  iintro ⟨HO, Hsd22⟩
  sl_exec_parts
  iapply (sent_step (valOf I) 3 0 c 10 (owed_10 c) (owesFrom_10 c)) $$ [HO Hsw30 Hsd30]
  · isplitl [Hsw30]; · iexact Hsw30
    isplitl [Hsd30]; · iexact Hsd30
    isplitl [HO]; · iexact HO
    iexact Hlev
  iintro ⟨HO, Hsc30, Hss30⟩
  sl_exec_parts
  iapply (recv_step (valOf I) 3 0 c 10 (owed_10 c) (owesFrom_10 c) (by decide)) $$ [HO Hrw30]
  · isplitl [Hrw30]; · iexact Hrw30
    isplitl [HO]; · iexact HO
    iexact Hlev
  iintro ⟨HO, Hrc30, Hrv30⟩
  ihave Hrv30 := recv_open_3_0 (valOf I) c $$ Hrv30
  icases Hrv30 with ⟨%fr30, Hrv30⟩
  sl_exec_parts
  have ev1908 : run1.sl.v1908 I c fr00 fr01 fr10 fr02 fr11 fr20 fr12 fr21 = acc0 I 3 c := by unfold run1.sl.v1908; rw [eH_f9_12]; exact (rd_skip 3 2 (by decide) _ _).trans ((rd_skip 3 1 (by decide) _ _).trans ((rd_skip 3 2 (by decide) _ _).trans ((rd_skip 3 1 (by decide) _ _).trans ((rd_skip 3 0 (by decide) _ _).trans (rd_same 3 _ _)))))
  have eR30 : run1.sl.v1909 I c fr30 = shapeCast S1x1x64x1024 (rnd (acc0 I 3 (peer 0 c))) casts4 := slot_read (Memref.whole cc0_scratch5) _ _ _ _ _ casts4
  have eH_f9_13 : run1.sl.H_f9_13 I c fr00 fr01 fr10 fr02 fr11 fr20 fr12 fr21 fr30 = [accP 3 (acc1 I 3 c), accP 2 (acc2 I 2 c), accP 1 (acc3 I 1 c), accP 2 (acc1 I 2 c), accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_13
    rw [eH_f9_12, ev1908, eR30]; rfl
  have ev1917 : run1.sl.v1917 I c fr00 fr01 fr10 fr02 fr11 fr20 fr12 fr21 fr30 = acc1 I 3 c := by unfold run1.sl.v1917; rw [eH_f9_13]; exact rd_same 3 _ _
  iapply (issue_step (valOf I) 3 1 c _ hd10 (owed_10 c) (owed_11 c) rfl) $$ [HO Hst31 Hs31 Hd31]
  · isplitl [Hst31]; · iexact Hst31
    isplitl [HO]; · iexact HO
    isplitl [Hs31]
    · unfold sReady; iexists _; isplitl [Hs31]; · unfold sPts; iexact Hs31
      ipureintro; exact (slot_back (Memref.whole cc0_scratch4) _ _ _ _ _ casts4').trans ((shapeCast_back _ _ _).trans (congrArg rnd ev1917))
    iexact Hd31
  iintro ⟨HO, Hsd31⟩
  sl_exec_parts
  iapply (sent_step (valOf I) 2 2 c 11 (owed_11 c) (owesFrom_11 c)) $$ [HO Hsw22 Hsd22]
  · isplitl [Hsw22]; · iexact Hsw22
    isplitl [Hsd22]; · iexact Hsd22
    isplitl [HO]; · iexact HO
    iexact Hlev
  iintro ⟨HO, Hsc22, Hss22⟩
  sl_exec_parts
  iapply (recv_step (valOf I) 2 2 c 11 (owed_11 c) (owesFrom_11 c) (by decide)) $$ [HO Hrw22]
  · isplitl [Hrw22]; · iexact Hrw22
    isplitl [HO]; · iexact HO
    iexact Hlev
  iintro ⟨HO, Hrc22, Hrv22⟩
  ihave Hrv22 := recv_open_2_2 (valOf I) c $$ Hrv22
  icases Hrv22 with ⟨%fr22, Hrv22⟩
  sl_exec_parts
  iapply (sent_step (valOf I) 3 1 c 11 (owed_11 c) (owesFrom_11 c)) $$ [HO Hsw31 Hsd31]
  · isplitl [Hsw31]; · iexact Hsw31
    isplitl [Hsd31]; · iexact Hsd31
    isplitl [HO]; · iexact HO
    iexact Hlev
  iintro ⟨HO, Hsc31, Hss31⟩
  sl_exec_parts
  iapply (recv_step (valOf I) 3 1 c 11 (owed_11 c) (owesFrom_11 c) (by decide)) $$ [HO Hrw31]
  · isplitl [Hrw31]; · iexact Hrw31
    isplitl [HO]; · iexact HO
    iexact Hlev
  iintro ⟨HO, Hrc31, Hrv31⟩
  ihave Hrv31 := recv_open_3_1 (valOf I) c $$ Hrv31
  icases Hrv31 with ⟨%fr31, Hrv31⟩
  sl_exec_parts
  have ev1968 : run1.sl.v1968 I c fr00 fr01 fr10 fr02 fr11 fr20 fr12 fr21 fr30 fr22 = acc1 I 3 c := by unfold run1.sl.v1968; rw [eH_f9_13]; exact (rd_skip 3 2 (by decide) _ _).trans (rd_same 3 _ _)
  have eR31 : run1.sl.v1969 I c fr31 = shapeCast S1x1x64x1024 (rnd (acc1 I 3 (peer 1 c))) casts4 := slot_read (Memref.whole cc0_scratch5) _ _ _ _ _ casts4
  have ev1946 : run1.sl.v1946 I c fr00 fr01 fr10 fr02 fr11 fr20 fr12 fr21 fr30 = acc2 I 2 c := by unfold run1.sl.v1946; rw [eH_f9_13]; exact (rd_skip 2 3 (by decide) _ _).trans (rd_same 2 _ _)
  have eR22 : run1.sl.v1947 I c fr22 = shapeCast S1x1x64x1024 (rnd (acc2 I 2 (peer 2 c))) casts4 := slot_read (Memref.whole cc0_scratch5) _ _ _ _ _ casts4
  have eH_f9_15 : run1.sl.H_f9_15 I c fr00 fr01 fr10 fr02 fr11 fr20 fr12 fr21 fr30 fr22 fr31 = [accP 3 (acc2 I 3 c), accP 2 (acc3 I 2 c), accP 3 (acc1 I 3 c), accP 2 (acc2 I 2 c), accP 1 (acc3 I 1 c), accP 2 (acc1 I 2 c), accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_15
    rw [eH_f9_13, ev1968, eR31, ev1946, eR22]; rfl
  have ev1977 : run1.sl.v1977 I c fr00 fr01 fr10 fr02 fr11 fr20 fr12 fr21 fr30 fr22 fr31 = acc2 I 3 c := by unfold run1.sl.v1977; rw [eH_f9_15]; exact rd_same 3 _ _
  iapply (issue_step (valOf I) 3 2 c _ hd11 (owed_11 c) (owed_12 c) rfl) $$ [HO Hst32 Hs32 Hd32]
  · isplitl [Hst32]; · iexact Hst32
    isplitl [HO]; · iexact HO
    isplitl [Hs32]
    · unfold sReady; iexists _; isplitl [Hs32]; · unfold sPts; iexact Hs32
      ipureintro; exact (slot_back (Memref.whole cc0_scratch4) _ _ _ _ _ casts4').trans ((shapeCast_back _ _ _).trans (congrArg rnd ev1977))
    iexact Hd32
  iintro ⟨HO, Hsd32⟩
  clear ev1977
  sl_exec_parts
  iapply (sent_step (valOf I) 3 2 c 12 (owed_12 c) (owesFrom_12 c)) $$ [HO Hsw32 Hsd32]
  · isplitl [Hsw32]; · iexact Hsw32
    isplitl [Hsd32]; · iexact Hsd32
    isplitl [HO]; · iexact HO
    iexact Hlev
  iintro ⟨HO, Hsc32, Hss32⟩
  sl_exec_parts
  iapply (recv_step (valOf I) 3 2 c 12 (owed_12 c) (owesFrom_12 c) (by decide)) $$ [HO Hrw32]
  · isplitl [Hrw32]; · iexact Hrw32
    isplitl [HO]; · iexact HO
    iexact Hlev
  iintro ⟨HO, Hrc32, Hrv32⟩
  ihave Hrv32 := recv_open_3_2 (valOf I) c $$ Hrv32
  icases Hrv32 with ⟨%fr32, Hrv32⟩
  sl_exec_parts
  have ev2006 : run1.sl.v2006 I c fr00 fr01 fr10 fr02 fr11 fr20 fr12 fr21 fr30 fr22 fr31 = acc2 I 3 c := by unfold run1.sl.v2006; rw [eH_f9_15]; exact rd_same 3 _ _
  have eR32 : run1.sl.v2007 I c fr32 = shapeCast S1x1x64x1024 (rnd (acc2 I 3 (peer 2 c))) casts4 := slot_read (Memref.whole cc0_scratch5) _ _ _ _ _ casts4
  have eH_f9_16 : run1.sl.H_f9_16 I c fr00 fr01 fr10 fr02 fr11 fr20 fr12 fr21 fr30 fr22 fr31 fr32 = [accP 3 (acc3 I 3 c), accP 3 (acc2 I 3 c), accP 2 (acc3 I 2 c), accP 3 (acc1 I 3 c), accP 2 (acc2 I 2 c), accP 1 (acc3 I 1 c), accP 2 (acc1 I 2 c), accP 1 (acc2 I 1 c), accP 0 (acc3 I 0 c), accP 3 (acc0 I 3 c), accP 1 (acc1 I 1 c), accP 0 (acc2 I 0 c), accP 2 (acc0 I 2 c), accP 0 (acc1 I 0 c), accP 1 (acc0 I 1 c), accP 0 (acc0 I 0 c)] := by
    unfold run1.sl.H_f9_16 run1.sl.r_38
    rw [eH_f9_15, ev2006, eR32]; rfl
  have eO : run1.sl.v2014 I c fr00 fr01 fr10 fr02 fr11 fr20 fr12 fr21 fr30 fr22 fr31 fr32 = (Memref.whole cc0_scratch3).view.readCov (accL fun q => acc3 I q c) (Rect.unit ![0, 0] S256x1024.size inb_S256x1024_S256x1024_0_0).toLoadRect := by
    unfold run1.sl.v2014; rw [eH_f9_16]
    refine rows_ext _ _ _ fun q => ?_
    fin_cases q <;> intro inb
    · exact ((rd_skip 0 3 (by decide) _ _).trans ((rd_skip 0 3 (by decide) _ _).trans ((rd_skip 0 2 (by decide) _ _).trans ((rd_skip 0 3 (by decide) _ _).trans ((rd_skip 0 2 (by decide) _ _).trans ((rd_skip 0 1 (by decide) _ _).trans ((rd_skip 0 2 (by decide) _ _).trans ((rd_skip 0 1 (by decide) _ _).trans (rd_same 0 _ _))))))))).trans ((rd_skip 0 3 (by decide) _ _).trans ((rd_skip 0 2 (by decide) _ _).trans ((rd_skip 0 1 (by decide) _ _).trans (rd_same 0 _ _)))).symm
    · exact ((rd_skip 1 3 (by decide) _ _).trans ((rd_skip 1 3 (by decide) _ _).trans ((rd_skip 1 2 (by decide) _ _).trans ((rd_skip 1 3 (by decide) _ _).trans ((rd_skip 1 2 (by decide) _ _).trans (rd_same 1 _ _)))))).trans ((rd_skip 1 3 (by decide) _ _).trans ((rd_skip 1 2 (by decide) _ _).trans (rd_same 1 _ _))).symm
    · exact ((rd_skip 2 3 (by decide) _ _).trans ((rd_skip 2 3 (by decide) _ _).trans (rd_same 2 _ _))).trans ((rd_skip 2 3 (by decide) _ _).trans (rd_same 2 _ _)).symm
    · exact (rd_same 3 _ _).trans (rd_same 3 _ _).symm
  have hout : (Memref.whole cc0_stg3_0).view.writes (Elt F) out [⟨Rect.unit ![0, 0, 0] S1x256x1024.size inb_S1x256x1024_S1x256x1024_0_0_0, k0_pay2 (run1.sl.v2014 I c fr00 fr01 fr10 fr02 fr11 fr20 fr12 fr21 fr30 fr22 fr31 fr32)⟩] = outV I c :=
    (write_out3 out _).trans (congrArg k0_pay2 eO)
  rw [wp_ret]; imodintro
  rw [hout]
  unfold bodyPost
  isplitl [H_x]; · iexact H_x
  isplitl [H_wq]; · iexact H_wq
  isplitl [H_wo]; · iexact H_wo
  isplitl [H_out]; · iexact H_out
  isplitl [H_f7]; · iexists _; iexact H_f7
  isplitl [H_f8]; · iexists _; iexact H_f8
  isplitl [H_f9]; · iexists _; iexact H_f9
  isplitl [Hbd]; · iexact Hbd
  isplitl [Hsc00]; · iexact Hsc00
  isplitl [Hrc00]; · iexact Hrc00
  isplitl [Hss00]; · iexact Hss00
  isplitl [Hrv00]; · iexists _; unfold rPts; iexact Hrv00
  isplitl [Hsc01]; · iexact Hsc01
  isplitl [Hrc01]; · iexact Hrc01
  isplitl [Hss01]; · iexact Hss01
  isplitl [Hrv01]; · iexists _; unfold rPts; iexact Hrv01
  isplitl [Hsc02]; · iexact Hsc02
  isplitl [Hrc02]; · iexact Hrc02
  isplitl [Hss02]; · iexact Hss02
  isplitl [Hrv02]; · iexists _; unfold rPts; iexact Hrv02
  isplitl [Hsc10]; · iexact Hsc10
  isplitl [Hrc10]; · iexact Hrc10
  isplitl [Hss10]; · iexact Hss10
  isplitl [Hrv10]; · iexists _; unfold rPts; iexact Hrv10
  isplitl [Hsc11]; · iexact Hsc11
  isplitl [Hrc11]; · iexact Hrc11
  isplitl [Hss11]; · iexact Hss11
  isplitl [Hrv11]; · iexists _; unfold rPts; iexact Hrv11
  isplitl [Hsc12]; · iexact Hsc12
  isplitl [Hrc12]; · iexact Hrc12
  isplitl [Hss12]; · iexact Hss12
  isplitl [Hrv12]; · iexists _; unfold rPts; iexact Hrv12
  isplitl [Hsc20]; · iexact Hsc20
  isplitl [Hrc20]; · iexact Hrc20
  isplitl [Hss20]; · iexact Hss20
  isplitl [Hrv20]; · iexists _; unfold rPts; iexact Hrv20
  isplitl [Hsc21]; · iexact Hsc21
  isplitl [Hrc21]; · iexact Hrc21
  isplitl [Hss21]; · iexact Hss21
  isplitl [Hrv21]; · iexists _; unfold rPts; iexact Hrv21
  isplitl [Hsc22]; · iexact Hsc22
  isplitl [Hrc22]; · iexact Hrc22
  isplitl [Hss22]; · iexact Hss22
  isplitl [Hrv22]; · iexists _; unfold rPts; iexact Hrv22
  isplitl [Hsc30]; · iexact Hsc30
  isplitl [Hrc30]; · iexact Hrc30
  isplitl [Hss30]; · iexact Hss30
  isplitl [Hrv30]; · iexists _; unfold rPts; iexact Hrv30
  isplitl [Hsc31]; · iexact Hsc31
  isplitl [Hrc31]; · iexact Hrc31
  isplitl [Hss31]; · iexact Hss31
  isplitl [Hrv31]; · iexists _; unfold rPts; iexact Hrv31
  isplitl [Hsc32]; · iexact Hsc32
  isplitl [Hrc32]; · iexact Hrc32
  isplitl [Hss32]; · iexact Hss32
  isplitl [Hrv32]; · iexists _; unfold rPts; iexact Hrv32
  isplitl [Hk00]; · iexact Hk00
  isplitl [Hz00]; · iexact Hz00
  isplitl [Hg00]; · iexists _; iexact Hg00
  isplitl [Hk01]; · iexact Hk01
  isplitl [Hz01]; · iexact Hz01
  isplitl [Hg01]; · iexists _; iexact Hg01
  isplitl [Hk02]; · iexact Hk02
  isplitl [Hz02]; · iexact Hz02
  isplitl [Hg02]; · iexists _; iexact Hg02
  isplitl [Hk03]; · iexact Hk03
  isplitl [Hz03]; · iexact Hz03
  isplitl [Hg03]; · iexists _; iexact Hg03
  isplitl [Hk04]; · iexact Hk04
  isplitl [Hz04]; · iexact Hz04
  isplitl [Hg04]; · iexists _; iexact Hg04
  isplitl [Hk05]; · iexact Hk05
  isplitl [Hz05]; · iexact Hz05
  isplitl [Hg05]; · iexists _; iexact Hg05
  isplitl [Hk06]; · iexact Hk06
  isplitl [Hz06]; · iexact Hz06
  isplitl [Hg06]; · iexists _; iexact Hg06
  isplitl [Hk07]; · iexact Hk07
  isplitl [Hz07]; · iexact Hz07
  isplitl [Hg07]; · iexists _; iexact Hg07
  isplitl [Hk10]; · iexact Hk10
  isplitl [Hz10]; · iexact Hz10
  isplitl [Hg10]; · iexists _; iexact Hg10
  isplitl [Hk11]; · iexact Hk11
  isplitl [Hz11]; · iexact Hz11
  isplitl [Hg11]; · iexists _; iexact Hg11
  isplitl [Hk12]; · iexact Hk12
  isplitl [Hz12]; · iexact Hz12
  isplitl [Hg12]; · iexists _; iexact Hg12
  isplitl [Hk13]; · iexact Hk13
  isplitl [Hz13]; · iexact Hz13
  isplitl [Hg13]; · iexists _; iexact Hg13
  isplitl [Hk14]; · iexact Hk14
  isplitl [Hz14]; · iexact Hz14
  isplitl [Hg14]; · iexists _; iexact Hg14
  isplitl [Hk15]; · iexact Hk15
  isplitl [Hz15]; · iexact Hz15
  isplitl [Hg15]; · iexists _; iexact Hg15
  isplitl [Hk16]; · iexact Hk16
  isplitl [Hz16]; · iexact Hz16
  isplitl [Hg16]; · iexists _; iexact Hg16
  isplitl [Hk17]; · iexact Hk17
  isplitl [Hz17]; · iexact Hz17
  isplitl [Hg17]; · iexists _; iexact Hg17
  isplitl [Hk20]; · iexact Hk20
  isplitl [Hz20]; · iexact Hz20
  isplitl [Hg20]; · iexists _; iexact Hg20
  isplitl [Hk21]; · iexact Hk21
  isplitl [Hz21]; · iexact Hz21
  isplitl [Hg21]; · iexists _; iexact Hg21
  isplitl [Hk22]; · iexact Hk22
  isplitl [Hz22]; · iexact Hz22
  isplitl [Hg22]; · iexists _; iexact Hg22
  isplitl [Hk23]; · iexact Hk23
  isplitl [Hz23]; · iexact Hz23
  isplitl [Hg23]; · iexists _; iexact Hg23
  isplitl [Hk24]; · iexact Hk24
  isplitl [Hz24]; · iexact Hz24
  isplitl [Hg24]; · iexists _; iexact Hg24
  isplitl [Hk25]; · iexact Hk25
  isplitl [Hz25]; · iexact Hz25
  isplitl [Hg25]; · iexists _; iexact Hg25
  isplitl [Hk26]; · iexact Hk26
  isplitl [Hz26]; · iexact Hz26
  isplitl [Hg26]; · iexists _; iexact Hg26
  isplitl [Hk27]; · iexact Hk27
  isplitl [Hz27]; · iexact Hz27
  isplitl [Hg27]; · iexists _; iexact Hg27
  isplitl [Hk30]; · iexact Hk30
  isplitl [Hz30]; · iexact Hz30
  isplitl [Hg30]; · iexists _; iexact Hg30
  isplitl [Hk31]; · iexact Hk31
  isplitl [Hz31]; · iexact Hz31
  isplitl [Hg31]; · iexists _; iexact Hg31
  isplitl [Hk32]; · iexact Hk32
  isplitl [Hz32]; · iexact Hz32
  isplitl [Hg32]; · iexists _; iexact Hg32
  isplitl [Hk33]; · iexact Hk33
  isplitl [Hz33]; · iexact Hz33
  isplitl [Hg33]; · iexists _; iexact Hg33
  isplitl [Hk34]; · iexact Hk34
  isplitl [Hz34]; · iexact Hz34
  isplitl [Hg34]; · iexists _; iexact Hg34
  isplitl [Hk35]; · iexact Hk35
  isplitl [Hz35]; · iexact Hz35
  isplitl [Hg35]; · iexists _; iexact Hg35
  isplitl [Hk36]; · iexact Hk36
  isplitl [Hz36]; · iexact Hz36
  isplitl [Hg36]; · iexists _; iexact Hg36
  isplitl [Hk37]; · iexact Hk37
  isplitl [Hz37]; · iexact Hz37
  isplitl [Hg37]; · iexists _; iexact Hg37
  iexists _; iexact HO

/-- The body runs. -/
theorem body_run (c : Dev nD) (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (out : Buf (Elt F) ((c : Thread nD τ).loc cc0_stg3_0)) :
  iprop(levAts L lv ∗ bodyPre I c W f6 f7 f8 f9 f10 out)
  ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => bodyPost I c) :=
  run1 I c W f6 f7 f8 f9 f10 out rfl rfl rfl (dev1_eq c) (dev2_eq c) (dev3_eq c)
    (fun sm => mayWait_other c sm 0 (owed_0 c) (owesFrom_0 c)) (fun sm => mayWait_other c sm 1 (owed_1 c) (owesFrom_1 c)) (fun sm => mayWait_other c sm 2 (owed_2 c) (owesFrom_2 c)) (fun sm => mayWait_other c sm 3 (owed_3 c) (owesFrom_3 c)) (fun sm => mayWait_other c sm 4 (owed_4 c) (owesFrom_4 c)) (fun sm => mayWait_other c sm 5 (owed_5 c) (owesFrom_5 c)) (fun sm => mayWait_other c sm 6 (owed_6 c) (owesFrom_6 c)) (fun sm => mayWait_other c sm 7 (owed_7 c) (owesFrom_7 c)) (fun sm => mayWait_other c sm 8 (owed_8 c) (owesFrom_8 c)) (fun sm => mayWait_other c sm 9 (owed_9 c) (owesFrom_9 c)) (fun sm => mayWait_other c sm 10 (owed_10 c) (owesFrom_10 c)) (fun sm => mayWait_other c sm 11 (owed_11 c) (owesFrom_11 c)) (fun sm => mayWait_other c sm 12 (owed_12 c) (owesFrom_12 c))
    (dev4_eq c) (dev5_eq c) (dev6_eq c) (dev7_eq c) (dev8_eq c) (dev9_eq c) (dev10_eq c) (dev11_eq c) (dev12_eq c) (dev13_eq c) (dev14_eq c) (dev15_eq c)

end Cert.KernelIdeal.Pf
end
-- ==== Proof.Slots.lean ====
module
public import proofs.«01_k».proof.Proof.Rules
public import Idealize.ShloMosaic.Lib.Ring
@[expose] public section
set_option maxRecDepth 16384
noncomputable section
namespace Cert.KernelIdeal.Pf
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ UU ℕ

/-! ## Buffers held whole, slot by slot and share by share -/

theorem inbG (a : Fin 4) (h : Fin 8) : ∀ x, (![a.val, h.val, 0, 0, 0] : Fin 5 → Nat) x + S1x1x16x64x128.size x ≤ S4x8x16x64x128.size x := by
  revert a h; decide
/-- Staging slot `(a, h)`, the indices variables. -/
abbrev gMv (a : Fin 4) (h : Fin 8) : Memref sig .tc .vmem S16x64x128 .f32 :=
  ((Memref.whole cc0_scratch0 : Memref sig .tc .vmem S4x8x16x64x128 .f32).slice (Rect.unit (s := S4x8x16x64x128) ![a.val, h.val, 0, 0, 0] S1x1x16x64x128.size (inbG a h)) (fun _ => rfl)).squeeze S16x64x128 squeezes_S1x1x16x64x128_S16x64x128
/-- Copy semaphore `(a, h)`, by number. -/
def cSem (a : Fin 4) (h : Fin 8) : DmaSem sig := ⟨4 + 8 * a.val + h.val, by revert a h; decide⟩

theorem mem_gSet (a : Fin 4) (h : Fin 8) (y : S4x8x16x64x128.Idx) : y ∈ (gMv a h).view.set ↔ (y 0).val = a.val ∧ (y 1).val = h.val := by
  have e : (gMv a h).view.set = (Rect.unit (s := S4x8x16x64x128) ![a.val, h.val, 0, 0, 0] S1x1x16x64x128.size (inbG a h)).set :=
    (Memref.set_view_squeeze _ _).trans (View.set_slice_whole _ _)
  rw [e, Rect.mem_set_unit]
  constructor
  · intro hy
    have h0 := hy 0; have h1 := hy 1
    have h0 : a.val ≤ (y 0).val ∧ (y 0).val < a.val + 1 := h0
    have h1 : h.val ≤ (y 1).val ∧ (y 1).val < h.val + 1 := h1
    omega
  · rintro ⟨h0, h1⟩ x
    have b2 : (y 2).val < 16 := (y 2).isLt
    have b3 : (y 3).val < 64 := (y 3).isLt
    have b4 : (y 4).val < 128 := (y 4).isLt
    fin_cases x
    · show a.val ≤ (y 0).val ∧ (y 0).val < a.val + 1; omega
    · show h.val ≤ (y 1).val ∧ (y 1).val < h.val + 1; omega
    · show 0 ≤ (y 2).val ∧ (y 2).val < 0 + 16; omega
    · show 0 ≤ (y 3).val ∧ (y 3).val < 0 + 64; omega
    · show 0 ≤ (y 4).val ∧ (y 4).val < 0 + 128; omega

theorem mem_row (k : Fin 4) (s : Fin 3) (y : S4x3x64x1024.Idx) :
    y ∈ (Rect.unit (s := S4x3x64x1024) ![k.val, s.val, 0, 0] S1x1x64x1024.size (inbRow k s)).set ↔ (y 0).val = k.val ∧ (y 1).val = s.val := by
  rw [Rect.mem_set_unit]
  constructor
  · intro hy
    have h0 := hy 0; have h1 := hy 1
    have h0 : k.val ≤ (y 0).val ∧ (y 0).val < k.val + 1 := h0
    have h1 : s.val ≤ (y 1).val ∧ (y 1).val < s.val + 1 := h1
    omega
  · rintro ⟨h0, h1⟩ x
    have b2 : (y 2).val < 64 := (y 2).isLt
    have b3 : (y 3).val < 1024 := (y 3).isLt
    fin_cases x
    · show k.val ≤ (y 0).val ∧ (y 0).val < k.val + 1; omega
    · show s.val ≤ (y 1).val ∧ (y 1).val < s.val + 1; omega
    · show 0 ≤ (y 2).val ∧ (y 2).val < 0 + 64; omega
    · show 0 ≤ (y 3).val ∧ (y 3).val < 0 + 1024; omega

theorem mem_rSet (k : Fin 4) (s : Fin 3) (y : S4x3x64x1024.Idx) : y ∈ (rMv k s).view.set ↔ (y 0).val = k.val ∧ (y 1).val = s.val := by
  have e : (rMv k s).view.set = (Rect.unit (s := S4x3x64x1024) ![k.val, s.val, 0, 0] S1x1x64x1024.size (inbRow k s)).set :=
    (Memref.set_view_squeeze _ _).trans (View.set_slice_whole _ _)
  rw [e]; exact mem_row k s y
theorem mem_sSet (k : Fin 4) (s : Fin 3) (y : S4x3x64x1024.Idx) : y ∈ (sMv k s).view.set ↔ (y 0).val = k.val ∧ (y 1).val = s.val := by
  have e : (sMv k s).view.set = (Rect.unit (s := S4x3x64x1024) ![k.val, s.val, 0, 0] S1x1x64x1024.size (inbRow k s)).set :=
    (Memref.set_view_squeeze _ _).trans (View.set_slice_whole _ _)
  rw [e]; exact mem_row k s y

section
variable (c : Dev nD)

def gI (b : Fin 4 × Fin 8) : Finset (Idx ((c : Thread nD τ).loc cc0_scratch0)) := (gMv b.1 b.2).view.set
def sI (b : Fin 4 × Fin 3) : Finset (Idx ((c : Thread nD τ).loc cc0_scratch4)) := (sMv b.1 b.2).view.set
def rI (b : Fin 4 × Fin 3) : Finset (Idx ((c : Thread nD τ).loc cc0_scratch5)) := (rMv b.1 b.2).view.set

theorem gI_disj (b b' : Fin 4 × Fin 8) (hb : b ≠ b') : Disjoint (gI c b) (gI c b') := by
  rw [Finset.disjoint_left]
  intro y h1 h2
  have h1 := (mem_gSet b.1 b.2 y).mp h1
  have h2 := (mem_gSet b'.1 b'.2 y).mp h2
  exact hb (Prod.ext (Fin.ext (h1.1.symm.trans h2.1)) (Fin.ext (h1.2.symm.trans h2.2)))
theorem sI_disj (b b' : Fin 4 × Fin 3) (hb : b ≠ b') : Disjoint (sI c b) (sI c b') := by
  rw [Finset.disjoint_left]
  intro y h1 h2
  have h1 := (mem_sSet b.1 b.2 y).mp h1
  have h2 := (mem_sSet b'.1 b'.2 y).mp h2
  exact hb (Prod.ext (Fin.ext (h1.1.symm.trans h2.1)) (Fin.ext (h1.2.symm.trans h2.2)))
theorem rI_disj (b b' : Fin 4 × Fin 3) (hb : b ≠ b') : Disjoint (rI c b) (rI c b') := by
  rw [Finset.disjoint_left]
  intro y h1 h2
  have h1 := (mem_rSet b.1 b.2 y).mp h1
  have h2 := (mem_rSet b'.1 b'.2 y).mp h2
  exact hb (Prod.ext (Fin.ext (h1.1.symm.trans h2.1)) (Fin.ext (h1.2.symm.trans h2.2)))
theorem gI_cover : Finset.univ.biUnion (gI c) = Finset.univ := by
  refine Finset.eq_univ_iff_forall.mpr fun y => Finset.mem_biUnion.mpr ?_
  have y' : S4x8x16x64x128.Idx := y
  exact ⟨(⟨((show S4x8x16x64x128.Idx from y) 0).val, ((show S4x8x16x64x128.Idx from y) 0).isLt⟩, ⟨((show S4x8x16x64x128.Idx from y) 1).val, ((show S4x8x16x64x128.Idx from y) 1).isLt⟩), Finset.mem_univ _,
    (mem_gSet _ _ y).mpr ⟨rfl, rfl⟩⟩
theorem sI_cover : Finset.univ.biUnion (sI c) = Finset.univ := by
  refine Finset.eq_univ_iff_forall.mpr fun y => Finset.mem_biUnion.mpr ?_
  exact ⟨(⟨((show S4x3x64x1024.Idx from y) 0).val, ((show S4x3x64x1024.Idx from y) 0).isLt⟩, ⟨((show S4x3x64x1024.Idx from y) 1).val, ((show S4x3x64x1024.Idx from y) 1).isLt⟩), Finset.mem_univ _,
    (mem_sSet _ _ y).mpr ⟨rfl, rfl⟩⟩
theorem rI_cover : Finset.univ.biUnion (rI c) = Finset.univ := by
  refine Finset.eq_univ_iff_forall.mpr fun y => Finset.mem_biUnion.mpr ?_
  exact ⟨(⟨((show S4x3x64x1024.Idx from y) 0).val, ((show S4x3x64x1024.Idx from y) 0).isLt⟩, ⟨((show S4x3x64x1024.Idx from y) 1).val, ((show S4x3x64x1024.Idx from y) 1).isLt⟩), Finset.mem_univ _,
    (mem_rSet _ _ y).mpr ⟨rfl, rfl⟩⟩

/-- Twelve conjuncts, and thirty-two, in a chain. -/
theorem chain12 (Φ : Fin 4 × Fin 3 → sProp 𝕄) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ
theorem chain32 (Φ : Fin 4 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ
theorem chain36 (Φ : ℕ → sProp 𝕄) : bigSep (Finset.range 36) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35) :=
  bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide) (by decide) Φ

theorem scratch0_split (f : Buf (Elt F) ((c : Thread nD τ).loc cc0_scratch0)) :
    ((c : Thread nD τ).loc cc0_scratch0 ↦{fullShare} f : sProp 𝕄) ⊢ bigSep Finset.univ fun b => (c : Thread nD τ).loc cc0_scratch0 ↦[gI c b]{fullShare} f :=
  Entails.of_eq (Ring.pointsTo_blocks (gI c) (gI_disj c) (gI_cover c) f)
theorem scratch0_join (f : Buf (Elt F) ((c : Thread nD τ).loc cc0_scratch0)) :
    (bigSep Finset.univ fun b => iprop(∃ f, (c : Thread nD τ).loc cc0_scratch0 ↦[gI c b]{fullShare} f) : sProp 𝕄) ⊢ iprop(∃ f, (c : Thread nD τ).loc cc0_scratch0 ↦{fullShare} f) :=
  Ring.pointsTo_blocks_join_exists (gI c) (gI_disj c) (gI_cover c) f
theorem scratch4_split (f : Buf (Elt F) ((c : Thread nD τ).loc cc0_scratch4)) :
    ((c : Thread nD τ).loc cc0_scratch4 ↦{fullShare} f : sProp 𝕄) ⊢ bigSep Finset.univ fun b => (c : Thread nD τ).loc cc0_scratch4 ↦[sI c b]{fullShare} f :=
  Entails.of_eq (Ring.pointsTo_blocks (sI c) (sI_disj c) (sI_cover c) f)
theorem scratch4_join (f : Buf (Elt F) ((c : Thread nD τ).loc cc0_scratch4)) :
    (bigSep Finset.univ fun b => iprop(∃ f, (c : Thread nD τ).loc cc0_scratch4 ↦[sI c b]{fullShare} f) : sProp 𝕄) ⊢ iprop(∃ f, (c : Thread nD τ).loc cc0_scratch4 ↦{fullShare} f) :=
  Ring.pointsTo_blocks_join_exists (sI c) (sI_disj c) (sI_cover c) f
theorem scratch5_split (f : Buf (Elt F) ((c : Thread nD τ).loc cc0_scratch5)) :
    ((c : Thread nD τ).loc cc0_scratch5 ↦{fullShare} f : sProp 𝕄) ⊢ bigSep Finset.univ fun b => (c : Thread nD τ).loc cc0_scratch5 ↦[rI c b]{fullShare} f :=
  Entails.of_eq (Ring.pointsTo_blocks (rI c) (rI_disj c) (rI_cover c) f)
theorem scratch5_join (f : Buf (Elt F) ((c : Thread nD τ).loc cc0_scratch5)) :
    (bigSep Finset.univ fun b => iprop(∃ f, (c : Thread nD τ).loc cc0_scratch5 ↦[rI c b]{fullShare} f) : sProp 𝕄) ⊢ iprop(∃ f, (c : Thread nD τ).loc cc0_scratch5 ↦{fullShare} f) :=
  Ring.pointsTo_blocks_join_exists (rI c) (rI_disj c) (rI_cover c) f
end

theorem cS_0_0_eq : cSem 0 0 = cS_0_0 := by decide +kernel
theorem cS_0_1_eq : cSem 0 1 = cS_0_1 := by decide +kernel
theorem cS_0_2_eq : cSem 0 2 = cS_0_2 := by decide +kernel
theorem cS_0_3_eq : cSem 0 3 = cS_0_3 := by decide +kernel
theorem cS_0_4_eq : cSem 0 4 = cS_0_4 := by decide +kernel
theorem cS_0_5_eq : cSem 0 5 = cS_0_5 := by decide +kernel
theorem cS_0_6_eq : cSem 0 6 = cS_0_6 := by decide +kernel
theorem cS_0_7_eq : cSem 0 7 = cS_0_7 := by decide +kernel
theorem cS_1_0_eq : cSem 1 0 = cS_1_0 := by decide +kernel
theorem cS_1_1_eq : cSem 1 1 = cS_1_1 := by decide +kernel
theorem cS_1_2_eq : cSem 1 2 = cS_1_2 := by decide +kernel
theorem cS_1_3_eq : cSem 1 3 = cS_1_3 := by decide +kernel
theorem cS_1_4_eq : cSem 1 4 = cS_1_4 := by decide +kernel
theorem cS_1_5_eq : cSem 1 5 = cS_1_5 := by decide +kernel
theorem cS_1_6_eq : cSem 1 6 = cS_1_6 := by decide +kernel
theorem cS_1_7_eq : cSem 1 7 = cS_1_7 := by decide +kernel
theorem cS_2_0_eq : cSem 2 0 = cS_2_0 := by decide +kernel
theorem cS_2_1_eq : cSem 2 1 = cS_2_1 := by decide +kernel
theorem cS_2_2_eq : cSem 2 2 = cS_2_2 := by decide +kernel
theorem cS_2_3_eq : cSem 2 3 = cS_2_3 := by decide +kernel
theorem cS_2_4_eq : cSem 2 4 = cS_2_4 := by decide +kernel
theorem cS_2_5_eq : cSem 2 5 = cS_2_5 := by decide +kernel
theorem cS_2_6_eq : cSem 2 6 = cS_2_6 := by decide +kernel
theorem cS_2_7_eq : cSem 2 7 = cS_2_7 := by decide +kernel
theorem cS_3_0_eq : cSem 3 0 = cS_3_0 := by decide +kernel
theorem cS_3_1_eq : cSem 3 1 = cS_3_1 := by decide +kernel
theorem cS_3_2_eq : cSem 3 2 = cS_3_2 := by decide +kernel
theorem cS_3_3_eq : cSem 3 3 = cS_3_3 := by decide +kernel
theorem cS_3_4_eq : cSem 3 4 = cS_3_4 := by decide +kernel
theorem cS_3_5_eq : cSem 3 5 = cS_3_5 := by decide +kernel
theorem cS_3_6_eq : cSem 3 6 = cS_3_6 := by decide +kernel
theorem cS_3_7_eq : cSem 3 7 = cS_3_7 := by decide +kernel

/-- A counter held under one name of its semaphore is held under another. -/
theorem sv_of (c : Dev nD) {q q' : DmaSem sig} (h : q = q') : (semVal ((c : Thread nD τ), .dma q) 0 : sProp 𝕄) ⊢ semVal ((c : Thread nD τ), .dma q') 0 := by
  subst h; exact BI.Entails.refl _

end Cert.KernelIdeal.Pf
end
-- ==== Proof.Wrap.lean ====
module
public import proofs.«01_k».proof.Proof.Slots
public import proofs.«01_k».proof.Proof.Body
@[expose] public section
set_option maxRecDepth 16384
noncomputable section
namespace Cert.KernelIdeal.Pf
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (I : Inp F) (c : Dev nD)

/-! ## From what the region holds to what the body takes, and back -/

/-- A transfer's cells, open. -/
def opened (val : Vals F) (k : Fin 4) (s : Fin 3) (c : Dev nD) : sProp 𝕄 :=
  iprop(sendPre val k s c ∗ sendWait val k s c ∗ recvWait val k s c ∗ reached ER ((c : Thread nD τ), .dma (rSem k s)) 0)
def copySem (b : Fin 4 × Fin 8) : sProp 𝕄 := semVal ((c : Thread nD τ), .dma (cSem b.1 b.2)) 0

theorem open_chain (val : Vals F) : (bigSep Finset.univ fun b : Fin 4 × Fin 3 => opened val b.1 b.2 c)
    = iprop(opened val 0 0 c ∗ opened val 0 1 c ∗ opened val 0 2 c ∗ opened val 1 0 c ∗ opened val 1 1 c ∗ opened val 1 2 c ∗ opened val 2 0 c ∗ opened val 2 1 c ∗ opened val 2 2 c ∗ opened val 3 0 c ∗ opened val 3 1 c ∗ opened val 3 2 c) := chain12 _

theorem copy_chain : (bigSep Finset.univ fun b : Fin 4 × Fin 8 => (copySem c b : sProp 𝕄))
    = iprop(semVal ((c : Thread nD τ), .dma cS_0_0) 0 ∗ semVal ((c : Thread nD τ), .dma cS_0_1) 0 ∗ semVal ((c : Thread nD τ), .dma cS_0_2) 0 ∗ semVal ((c : Thread nD τ), .dma cS_0_3) 0 ∗ semVal ((c : Thread nD τ), .dma cS_0_4) 0 ∗ semVal ((c : Thread nD τ), .dma cS_0_5) 0 ∗ semVal ((c : Thread nD τ), .dma cS_0_6) 0 ∗ semVal ((c : Thread nD τ), .dma cS_0_7) 0 ∗ semVal ((c : Thread nD τ), .dma cS_1_0) 0 ∗ semVal ((c : Thread nD τ), .dma cS_1_1) 0 ∗ semVal ((c : Thread nD τ), .dma cS_1_2) 0 ∗ semVal ((c : Thread nD τ), .dma cS_1_3) 0 ∗ semVal ((c : Thread nD τ), .dma cS_1_4) 0 ∗ semVal ((c : Thread nD τ), .dma cS_1_5) 0 ∗ semVal ((c : Thread nD τ), .dma cS_1_6) 0 ∗ semVal ((c : Thread nD τ), .dma cS_1_7) 0 ∗ semVal ((c : Thread nD τ), .dma cS_2_0) 0 ∗ semVal ((c : Thread nD τ), .dma cS_2_1) 0 ∗ semVal ((c : Thread nD τ), .dma cS_2_2) 0 ∗ semVal ((c : Thread nD τ), .dma cS_2_3) 0 ∗ semVal ((c : Thread nD τ), .dma cS_2_4) 0 ∗ semVal ((c : Thread nD τ), .dma cS_2_5) 0 ∗ semVal ((c : Thread nD τ), .dma cS_2_6) 0 ∗ semVal ((c : Thread nD τ), .dma cS_2_7) 0 ∗ semVal ((c : Thread nD τ), .dma cS_3_0) 0 ∗ semVal ((c : Thread nD τ), .dma cS_3_1) 0 ∗ semVal ((c : Thread nD τ), .dma cS_3_2) 0 ∗ semVal ((c : Thread nD τ), .dma cS_3_3) 0 ∗ semVal ((c : Thread nD τ), .dma cS_3_4) 0 ∗ semVal ((c : Thread nD τ), .dma cS_3_5) 0 ∗ semVal ((c : Thread nD τ), .dma cS_3_6) 0 ∗ semVal ((c : Thread nD τ), .dma cS_3_7) 0) := by
  rw [← cS_0_0_eq, ← cS_0_1_eq, ← cS_0_2_eq, ← cS_0_3_eq, ← cS_0_4_eq, ← cS_0_5_eq, ← cS_0_6_eq, ← cS_0_7_eq, ← cS_1_0_eq, ← cS_1_1_eq, ← cS_1_2_eq, ← cS_1_3_eq, ← cS_1_4_eq, ← cS_1_5_eq, ← cS_1_6_eq, ← cS_1_7_eq, ← cS_2_0_eq, ← cS_2_1_eq, ← cS_2_2_eq, ← cS_2_3_eq, ← cS_2_4_eq, ← cS_2_5_eq, ← cS_2_6_eq, ← cS_2_7_eq, ← cS_3_0_eq, ← cS_3_1_eq, ← cS_3_2_eq, ← cS_3_3_eq, ← cS_3_4_eq, ← cS_3_5_eq, ← cS_3_6_eq, ← cS_3_7_eq]
  exact chain32 _

theorem slots0 (f : Buf (Elt F) ((c : Thread nD τ).loc cc0_scratch0)) : ((c : Thread nD τ).loc cc0_scratch0 ↦{fullShare} f : sProp 𝕄)
    ⊢ iprop((gM_0_0.view.loc (c : Thread nD τ) ↦[gM_0_0.view.set]{fullShare} f) ∗ (gM_0_1.view.loc (c : Thread nD τ) ↦[gM_0_1.view.set]{fullShare} f) ∗ (gM_0_2.view.loc (c : Thread nD τ) ↦[gM_0_2.view.set]{fullShare} f) ∗ (gM_0_3.view.loc (c : Thread nD τ) ↦[gM_0_3.view.set]{fullShare} f) ∗ (gM_0_4.view.loc (c : Thread nD τ) ↦[gM_0_4.view.set]{fullShare} f) ∗ (gM_0_5.view.loc (c : Thread nD τ) ↦[gM_0_5.view.set]{fullShare} f) ∗ (gM_0_6.view.loc (c : Thread nD τ) ↦[gM_0_6.view.set]{fullShare} f) ∗ (gM_0_7.view.loc (c : Thread nD τ) ↦[gM_0_7.view.set]{fullShare} f) ∗ (gM_1_0.view.loc (c : Thread nD τ) ↦[gM_1_0.view.set]{fullShare} f) ∗ (gM_1_1.view.loc (c : Thread nD τ) ↦[gM_1_1.view.set]{fullShare} f) ∗ (gM_1_2.view.loc (c : Thread nD τ) ↦[gM_1_2.view.set]{fullShare} f) ∗ (gM_1_3.view.loc (c : Thread nD τ) ↦[gM_1_3.view.set]{fullShare} f) ∗ (gM_1_4.view.loc (c : Thread nD τ) ↦[gM_1_4.view.set]{fullShare} f) ∗ (gM_1_5.view.loc (c : Thread nD τ) ↦[gM_1_5.view.set]{fullShare} f) ∗ (gM_1_6.view.loc (c : Thread nD τ) ↦[gM_1_6.view.set]{fullShare} f) ∗ (gM_1_7.view.loc (c : Thread nD τ) ↦[gM_1_7.view.set]{fullShare} f) ∗ (gM_2_0.view.loc (c : Thread nD τ) ↦[gM_2_0.view.set]{fullShare} f) ∗ (gM_2_1.view.loc (c : Thread nD τ) ↦[gM_2_1.view.set]{fullShare} f) ∗ (gM_2_2.view.loc (c : Thread nD τ) ↦[gM_2_2.view.set]{fullShare} f) ∗ (gM_2_3.view.loc (c : Thread nD τ) ↦[gM_2_3.view.set]{fullShare} f) ∗ (gM_2_4.view.loc (c : Thread nD τ) ↦[gM_2_4.view.set]{fullShare} f) ∗ (gM_2_5.view.loc (c : Thread nD τ) ↦[gM_2_5.view.set]{fullShare} f) ∗ (gM_2_6.view.loc (c : Thread nD τ) ↦[gM_2_6.view.set]{fullShare} f) ∗ (gM_2_7.view.loc (c : Thread nD τ) ↦[gM_2_7.view.set]{fullShare} f) ∗ (gM_3_0.view.loc (c : Thread nD τ) ↦[gM_3_0.view.set]{fullShare} f) ∗ (gM_3_1.view.loc (c : Thread nD τ) ↦[gM_3_1.view.set]{fullShare} f) ∗ (gM_3_2.view.loc (c : Thread nD τ) ↦[gM_3_2.view.set]{fullShare} f) ∗ (gM_3_3.view.loc (c : Thread nD τ) ↦[gM_3_3.view.set]{fullShare} f) ∗ (gM_3_4.view.loc (c : Thread nD τ) ↦[gM_3_4.view.set]{fullShare} f) ∗ (gM_3_5.view.loc (c : Thread nD τ) ↦[gM_3_5.view.set]{fullShare} f) ∗ (gM_3_6.view.loc (c : Thread nD τ) ↦[gM_3_6.view.set]{fullShare} f) ∗ (gM_3_7.view.loc (c : Thread nD τ) ↦[gM_3_7.view.set]{fullShare} f)) :=
  (scratch0_split c f).trans (Entails.of_eq (chain32 _))

theorem slots4 (f : Buf (Elt F) ((c : Thread nD τ).loc cc0_scratch4)) : ((c : Thread nD τ).loc cc0_scratch4 ↦{fullShare} f : sProp 𝕄)
    ⊢ iprop((sM_0_0.view.loc (c : Thread nD τ) ↦[sM_0_0.view.set]{fullShare} f) ∗ (sM_0_1.view.loc (c : Thread nD τ) ↦[sM_0_1.view.set]{fullShare} f) ∗ (sM_0_2.view.loc (c : Thread nD τ) ↦[sM_0_2.view.set]{fullShare} f) ∗ (sM_1_0.view.loc (c : Thread nD τ) ↦[sM_1_0.view.set]{fullShare} f) ∗ (sM_1_1.view.loc (c : Thread nD τ) ↦[sM_1_1.view.set]{fullShare} f) ∗ (sM_1_2.view.loc (c : Thread nD τ) ↦[sM_1_2.view.set]{fullShare} f) ∗ (sM_2_0.view.loc (c : Thread nD τ) ↦[sM_2_0.view.set]{fullShare} f) ∗ (sM_2_1.view.loc (c : Thread nD τ) ↦[sM_2_1.view.set]{fullShare} f) ∗ (sM_2_2.view.loc (c : Thread nD τ) ↦[sM_2_2.view.set]{fullShare} f) ∗ (sM_3_0.view.loc (c : Thread nD τ) ↦[sM_3_0.view.set]{fullShare} f) ∗ (sM_3_1.view.loc (c : Thread nD τ) ↦[sM_3_1.view.set]{fullShare} f) ∗ (sM_3_2.view.loc (c : Thread nD τ) ↦[sM_3_2.view.set]{fullShare} f)) :=
  (scratch4_split c f).trans (Entails.of_eq (chain12 _))

theorem slots5 (f : Buf (Elt F) ((c : Thread nD τ).loc cc0_scratch5)) : ((c : Thread nD τ).loc cc0_scratch5 ↦{fullShare} f : sProp 𝕄)
    ⊢ iprop(rPts c 0 0 f ∗ rPts c 0 1 f ∗ rPts c 0 2 f ∗ rPts c 1 0 f ∗ rPts c 1 1 f ∗ rPts c 1 2 f ∗ rPts c 2 0 f ∗ rPts c 2 1 f ∗ rPts c 2 2 f ∗ rPts c 3 0 f ∗ rPts c 3 1 f ∗ rPts c 3 2 f) :=
  (scratch5_split c f).trans (Entails.of_eq (chain12 _))
theorem slots0_back (f₀ : Buf (Elt F) ((c : Thread nD τ).loc cc0_scratch0)) :
    iprop((∃ f, gM_0_0.view.loc (c : Thread nD τ) ↦[gM_0_0.view.set]{fullShare} f) ∗ (∃ f, gM_0_1.view.loc (c : Thread nD τ) ↦[gM_0_1.view.set]{fullShare} f) ∗ (∃ f, gM_0_2.view.loc (c : Thread nD τ) ↦[gM_0_2.view.set]{fullShare} f) ∗ (∃ f, gM_0_3.view.loc (c : Thread nD τ) ↦[gM_0_3.view.set]{fullShare} f) ∗ (∃ f, gM_0_4.view.loc (c : Thread nD τ) ↦[gM_0_4.view.set]{fullShare} f) ∗ (∃ f, gM_0_5.view.loc (c : Thread nD τ) ↦[gM_0_5.view.set]{fullShare} f) ∗ (∃ f, gM_0_6.view.loc (c : Thread nD τ) ↦[gM_0_6.view.set]{fullShare} f) ∗ (∃ f, gM_0_7.view.loc (c : Thread nD τ) ↦[gM_0_7.view.set]{fullShare} f) ∗ (∃ f, gM_1_0.view.loc (c : Thread nD τ) ↦[gM_1_0.view.set]{fullShare} f) ∗ (∃ f, gM_1_1.view.loc (c : Thread nD τ) ↦[gM_1_1.view.set]{fullShare} f) ∗ (∃ f, gM_1_2.view.loc (c : Thread nD τ) ↦[gM_1_2.view.set]{fullShare} f) ∗ (∃ f, gM_1_3.view.loc (c : Thread nD τ) ↦[gM_1_3.view.set]{fullShare} f) ∗ (∃ f, gM_1_4.view.loc (c : Thread nD τ) ↦[gM_1_4.view.set]{fullShare} f) ∗ (∃ f, gM_1_5.view.loc (c : Thread nD τ) ↦[gM_1_5.view.set]{fullShare} f) ∗ (∃ f, gM_1_6.view.loc (c : Thread nD τ) ↦[gM_1_6.view.set]{fullShare} f) ∗ (∃ f, gM_1_7.view.loc (c : Thread nD τ) ↦[gM_1_7.view.set]{fullShare} f) ∗ (∃ f, gM_2_0.view.loc (c : Thread nD τ) ↦[gM_2_0.view.set]{fullShare} f) ∗ (∃ f, gM_2_1.view.loc (c : Thread nD τ) ↦[gM_2_1.view.set]{fullShare} f) ∗ (∃ f, gM_2_2.view.loc (c : Thread nD τ) ↦[gM_2_2.view.set]{fullShare} f) ∗ (∃ f, gM_2_3.view.loc (c : Thread nD τ) ↦[gM_2_3.view.set]{fullShare} f) ∗ (∃ f, gM_2_4.view.loc (c : Thread nD τ) ↦[gM_2_4.view.set]{fullShare} f) ∗ (∃ f, gM_2_5.view.loc (c : Thread nD τ) ↦[gM_2_5.view.set]{fullShare} f) ∗ (∃ f, gM_2_6.view.loc (c : Thread nD τ) ↦[gM_2_6.view.set]{fullShare} f) ∗ (∃ f, gM_2_7.view.loc (c : Thread nD τ) ↦[gM_2_7.view.set]{fullShare} f) ∗ (∃ f, gM_3_0.view.loc (c : Thread nD τ) ↦[gM_3_0.view.set]{fullShare} f) ∗ (∃ f, gM_3_1.view.loc (c : Thread nD τ) ↦[gM_3_1.view.set]{fullShare} f) ∗ (∃ f, gM_3_2.view.loc (c : Thread nD τ) ↦[gM_3_2.view.set]{fullShare} f) ∗ (∃ f, gM_3_3.view.loc (c : Thread nD τ) ↦[gM_3_3.view.set]{fullShare} f) ∗ (∃ f, gM_3_4.view.loc (c : Thread nD τ) ↦[gM_3_4.view.set]{fullShare} f) ∗ (∃ f, gM_3_5.view.loc (c : Thread nD τ) ↦[gM_3_5.view.set]{fullShare} f) ∗ (∃ f, gM_3_6.view.loc (c : Thread nD τ) ↦[gM_3_6.view.set]{fullShare} f) ∗ (∃ f, gM_3_7.view.loc (c : Thread nD τ) ↦[gM_3_7.view.set]{fullShare} f))
    ⊢ (iprop(∃ f, (c : Thread nD τ).loc cc0_scratch0 ↦{fullShare} f) : sProp 𝕄) :=
  (Entails.of_eq (chain32 fun b => iprop(∃ f, (c : Thread nD τ).loc cc0_scratch0 ↦[gI c b]{fullShare} f)).symm).trans (scratch0_join c f₀)
theorem slots4_back (f₀ : Buf (Elt F) ((c : Thread nD τ).loc cc0_scratch4)) :
    iprop((∃ f, sPts c 0 0 f) ∗ (∃ f, sPts c 0 1 f) ∗ (∃ f, sPts c 0 2 f) ∗ (∃ f, sPts c 1 0 f) ∗ (∃ f, sPts c 1 1 f) ∗ (∃ f, sPts c 1 2 f) ∗ (∃ f, sPts c 2 0 f) ∗ (∃ f, sPts c 2 1 f) ∗ (∃ f, sPts c 2 2 f) ∗ (∃ f, sPts c 3 0 f) ∗ (∃ f, sPts c 3 1 f) ∗ (∃ f, sPts c 3 2 f))
    ⊢ (iprop(∃ f, (c : Thread nD τ).loc cc0_scratch4 ↦{fullShare} f) : sProp 𝕄) :=
  (Entails.of_eq (chain12 fun b => iprop(∃ f, (c : Thread nD τ).loc cc0_scratch4 ↦[sI c b]{fullShare} f)).symm).trans (scratch4_join c f₀)
theorem slots5_back (f₀ : Buf (Elt F) ((c : Thread nD τ).loc cc0_scratch5)) :
    iprop((∃ f, rPts c 0 0 f) ∗ (∃ f, rPts c 0 1 f) ∗ (∃ f, rPts c 0 2 f) ∗ (∃ f, rPts c 1 0 f) ∗ (∃ f, rPts c 1 1 f) ∗ (∃ f, rPts c 1 2 f) ∗ (∃ f, rPts c 2 0 f) ∗ (∃ f, rPts c 2 1 f) ∗ (∃ f, rPts c 2 2 f) ∗ (∃ f, rPts c 3 0 f) ∗ (∃ f, rPts c 3 1 f) ∗ (∃ f, rPts c 3 2 f))
    ⊢ (iprop(∃ f, (c : Thread nD τ).loc cc0_scratch5 ↦{fullShare} f) : sProp 𝕄) :=
  (Entails.of_eq (chain12 fun b => iprop(∃ f, (c : Thread nD τ).loc cc0_scratch5 ↦[rI c b]{fullShare} f)).symm).trans (scratch5_join c f₀)

/-- An argument array dealt into read shares. -/
theorem ks_deal : (((Memref.whole main_v1).view.loc (c : Thread nD τ) ↦[Finset.univ]{fullShare} (I.ks c)) : sProp 𝕄)
    = iprop(((Memref.whole main_v1).view.loc (c : Thread nD τ) ↦[Finset.univ]{Transfers.shareDrop fullShare 36} (I.ks c)) ∗ ((Memref.whole main_v1).view.loc (c : Thread nD τ) ↦[Finset.univ]{Transfers.shareTokN fullShare 0} (I.ks c)) ∗ ((Memref.whole main_v1).view.loc (c : Thread nD τ) ↦[Finset.univ]{Transfers.shareTokN fullShare 1} (I.ks c)) ∗ ((Memref.whole main_v1).view.loc (c : Thread nD τ) ↦[Finset.univ]{Transfers.shareTokN fullShare 2} (I.ks c)) ∗ ((Memref.whole main_v1).view.loc (c : Thread nD τ) ↦[Finset.univ]{Transfers.shareTokN fullShare 3} (I.ks c)) ∗ ((Memref.whole main_v1).view.loc (c : Thread nD τ) ↦[Finset.univ]{Transfers.shareTokN fullShare 4} (I.ks c)) ∗ ((Memref.whole main_v1).view.loc (c : Thread nD τ) ↦[Finset.univ]{Transfers.shareTokN fullShare 5} (I.ks c)) ∗ ((Memref.whole main_v1).view.loc (c : Thread nD τ) ↦[Finset.univ]{Transfers.shareTokN fullShare 6} (I.ks c)) ∗ ((Memref.whole main_v1).view.loc (c : Thread nD τ) ↦[Finset.univ]{Transfers.shareTokN fullShare 7} (I.ks c)) ∗ ((Memref.whole main_v1).view.loc (c : Thread nD τ) ↦[Finset.univ]{Transfers.shareTokN fullShare 8} (I.ks c)) ∗ ((Memref.whole main_v1).view.loc (c : Thread nD τ) ↦[Finset.univ]{Transfers.shareTokN fullShare 9} (I.ks c)) ∗ ((Memref.whole main_v1).view.loc (c : Thread nD τ) ↦[Finset.univ]{Transfers.shareTokN fullShare 10} (I.ks c)) ∗ ((Memref.whole main_v1).view.loc (c : Thread nD τ) ↦[Finset.univ]{Transfers.shareTokN fullShare 11} (I.ks c)) ∗ ((Memref.whole main_v1).view.loc (c : Thread nD τ) ↦[Finset.univ]{Transfers.shareTokN fullShare 12} (I.ks c)) ∗ ((Memref.whole main_v1).view.loc (c : Thread nD τ) ↦[Finset.univ]{Transfers.shareTokN fullShare 13} (I.ks c)) ∗ ((Memref.whole main_v1).view.loc (c : Thread nD τ) ↦[Finset.univ]{Transfers.shareTokN fullShare 14} (I.ks c)) ∗ ((Memref.whole main_v1).view.loc (c : Thread nD τ) ↦[Finset.univ]{Transfers.shareTokN fullShare 15} (I.ks c)) ∗ ((Memref.whole main_v1).view.loc (c : Thread nD τ) ↦[Finset.univ]{Transfers.shareTokN fullShare 16} (I.ks c)) ∗ ((Memref.whole main_v1).view.loc (c : Thread nD τ) ↦[Finset.univ]{Transfers.shareTokN fullShare 17} (I.ks c)) ∗ ((Memref.whole main_v1).view.loc (c : Thread nD τ) ↦[Finset.univ]{Transfers.shareTokN fullShare 18} (I.ks c)) ∗ ((Memref.whole main_v1).view.loc (c : Thread nD τ) ↦[Finset.univ]{Transfers.shareTokN fullShare 19} (I.ks c)) ∗ ((Memref.whole main_v1).view.loc (c : Thread nD τ) ↦[Finset.univ]{Transfers.shareTokN fullShare 20} (I.ks c)) ∗ ((Memref.whole main_v1).view.loc (c : Thread nD τ) ↦[Finset.univ]{Transfers.shareTokN fullShare 21} (I.ks c)) ∗ ((Memref.whole main_v1).view.loc (c : Thread nD τ) ↦[Finset.univ]{Transfers.shareTokN fullShare 22} (I.ks c)) ∗ ((Memref.whole main_v1).view.loc (c : Thread nD τ) ↦[Finset.univ]{Transfers.shareTokN fullShare 23} (I.ks c)) ∗ ((Memref.whole main_v1).view.loc (c : Thread nD τ) ↦[Finset.univ]{Transfers.shareTokN fullShare 24} (I.ks c)) ∗ ((Memref.whole main_v1).view.loc (c : Thread nD τ) ↦[Finset.univ]{Transfers.shareTokN fullShare 25} (I.ks c)) ∗ ((Memref.whole main_v1).view.loc (c : Thread nD τ) ↦[Finset.univ]{Transfers.shareTokN fullShare 26} (I.ks c)) ∗ ((Memref.whole main_v1).view.loc (c : Thread nD τ) ↦[Finset.univ]{Transfers.shareTokN fullShare 27} (I.ks c)) ∗ ((Memref.whole main_v1).view.loc (c : Thread nD τ) ↦[Finset.univ]{Transfers.shareTokN fullShare 28} (I.ks c)) ∗ ((Memref.whole main_v1).view.loc (c : Thread nD τ) ↦[Finset.univ]{Transfers.shareTokN fullShare 29} (I.ks c)) ∗ ((Memref.whole main_v1).view.loc (c : Thread nD τ) ↦[Finset.univ]{Transfers.shareTokN fullShare 30} (I.ks c)) ∗ ((Memref.whole main_v1).view.loc (c : Thread nD τ) ↦[Finset.univ]{Transfers.shareTokN fullShare 31} (I.ks c)) ∗ ((Memref.whole main_v1).view.loc (c : Thread nD τ) ↦[Finset.univ]{Transfers.shareTokN fullShare 32} (I.ks c)) ∗ ((Memref.whole main_v1).view.loc (c : Thread nD τ) ↦[Finset.univ]{Transfers.shareTokN fullShare 33} (I.ks c)) ∗ ((Memref.whole main_v1).view.loc (c : Thread nD τ) ↦[Finset.univ]{Transfers.shareTokN fullShare 34} (I.ks c)) ∗ ((Memref.whole main_v1).view.loc (c : Thread nD τ) ↦[Finset.univ]{Transfers.shareTokN fullShare 35} (I.ks c))) :=
  BI.equiv_iff.mp (by
    have h := Transfers.pointsTo_toks_range (Ix := Unit) (Name := ℕ) (U := UU) (Lvl := ℕ) (ℓ := (Memref.whole main_v1).view.loc (c : Thread nD τ)) (S := Finset.univ) (f := I.ks c) fullShare 36
    rw [chain36] at h
    exact ⟨h.1, h.2⟩)

/-- An argument array dealt into read shares. -/
theorem vs_deal : (((Memref.whole main_v2).view.loc (c : Thread nD τ) ↦[Finset.univ]{fullShare} (I.vs c)) : sProp 𝕄)
    = iprop(((Memref.whole main_v2).view.loc (c : Thread nD τ) ↦[Finset.univ]{Transfers.shareDrop fullShare 36} (I.vs c)) ∗ ((Memref.whole main_v2).view.loc (c : Thread nD τ) ↦[Finset.univ]{Transfers.shareTokN fullShare 0} (I.vs c)) ∗ ((Memref.whole main_v2).view.loc (c : Thread nD τ) ↦[Finset.univ]{Transfers.shareTokN fullShare 1} (I.vs c)) ∗ ((Memref.whole main_v2).view.loc (c : Thread nD τ) ↦[Finset.univ]{Transfers.shareTokN fullShare 2} (I.vs c)) ∗ ((Memref.whole main_v2).view.loc (c : Thread nD τ) ↦[Finset.univ]{Transfers.shareTokN fullShare 3} (I.vs c)) ∗ ((Memref.whole main_v2).view.loc (c : Thread nD τ) ↦[Finset.univ]{Transfers.shareTokN fullShare 4} (I.vs c)) ∗ ((Memref.whole main_v2).view.loc (c : Thread nD τ) ↦[Finset.univ]{Transfers.shareTokN fullShare 5} (I.vs c)) ∗ ((Memref.whole main_v2).view.loc (c : Thread nD τ) ↦[Finset.univ]{Transfers.shareTokN fullShare 6} (I.vs c)) ∗ ((Memref.whole main_v2).view.loc (c : Thread nD τ) ↦[Finset.univ]{Transfers.shareTokN fullShare 7} (I.vs c)) ∗ ((Memref.whole main_v2).view.loc (c : Thread nD τ) ↦[Finset.univ]{Transfers.shareTokN fullShare 8} (I.vs c)) ∗ ((Memref.whole main_v2).view.loc (c : Thread nD τ) ↦[Finset.univ]{Transfers.shareTokN fullShare 9} (I.vs c)) ∗ ((Memref.whole main_v2).view.loc (c : Thread nD τ) ↦[Finset.univ]{Transfers.shareTokN fullShare 10} (I.vs c)) ∗ ((Memref.whole main_v2).view.loc (c : Thread nD τ) ↦[Finset.univ]{Transfers.shareTokN fullShare 11} (I.vs c)) ∗ ((Memref.whole main_v2).view.loc (c : Thread nD τ) ↦[Finset.univ]{Transfers.shareTokN fullShare 12} (I.vs c)) ∗ ((Memref.whole main_v2).view.loc (c : Thread nD τ) ↦[Finset.univ]{Transfers.shareTokN fullShare 13} (I.vs c)) ∗ ((Memref.whole main_v2).view.loc (c : Thread nD τ) ↦[Finset.univ]{Transfers.shareTokN fullShare 14} (I.vs c)) ∗ ((Memref.whole main_v2).view.loc (c : Thread nD τ) ↦[Finset.univ]{Transfers.shareTokN fullShare 15} (I.vs c)) ∗ ((Memref.whole main_v2).view.loc (c : Thread nD τ) ↦[Finset.univ]{Transfers.shareTokN fullShare 16} (I.vs c)) ∗ ((Memref.whole main_v2).view.loc (c : Thread nD τ) ↦[Finset.univ]{Transfers.shareTokN fullShare 17} (I.vs c)) ∗ ((Memref.whole main_v2).view.loc (c : Thread nD τ) ↦[Finset.univ]{Transfers.shareTokN fullShare 18} (I.vs c)) ∗ ((Memref.whole main_v2).view.loc (c : Thread nD τ) ↦[Finset.univ]{Transfers.shareTokN fullShare 19} (I.vs c)) ∗ ((Memref.whole main_v2).view.loc (c : Thread nD τ) ↦[Finset.univ]{Transfers.shareTokN fullShare 20} (I.vs c)) ∗ ((Memref.whole main_v2).view.loc (c : Thread nD τ) ↦[Finset.univ]{Transfers.shareTokN fullShare 21} (I.vs c)) ∗ ((Memref.whole main_v2).view.loc (c : Thread nD τ) ↦[Finset.univ]{Transfers.shareTokN fullShare 22} (I.vs c)) ∗ ((Memref.whole main_v2).view.loc (c : Thread nD τ) ↦[Finset.univ]{Transfers.shareTokN fullShare 23} (I.vs c)) ∗ ((Memref.whole main_v2).view.loc (c : Thread nD τ) ↦[Finset.univ]{Transfers.shareTokN fullShare 24} (I.vs c)) ∗ ((Memref.whole main_v2).view.loc (c : Thread nD τ) ↦[Finset.univ]{Transfers.shareTokN fullShare 25} (I.vs c)) ∗ ((Memref.whole main_v2).view.loc (c : Thread nD τ) ↦[Finset.univ]{Transfers.shareTokN fullShare 26} (I.vs c)) ∗ ((Memref.whole main_v2).view.loc (c : Thread nD τ) ↦[Finset.univ]{Transfers.shareTokN fullShare 27} (I.vs c)) ∗ ((Memref.whole main_v2).view.loc (c : Thread nD τ) ↦[Finset.univ]{Transfers.shareTokN fullShare 28} (I.vs c)) ∗ ((Memref.whole main_v2).view.loc (c : Thread nD τ) ↦[Finset.univ]{Transfers.shareTokN fullShare 29} (I.vs c)) ∗ ((Memref.whole main_v2).view.loc (c : Thread nD τ) ↦[Finset.univ]{Transfers.shareTokN fullShare 30} (I.vs c)) ∗ ((Memref.whole main_v2).view.loc (c : Thread nD τ) ↦[Finset.univ]{Transfers.shareTokN fullShare 31} (I.vs c)) ∗ ((Memref.whole main_v2).view.loc (c : Thread nD τ) ↦[Finset.univ]{Transfers.shareTokN fullShare 32} (I.vs c)) ∗ ((Memref.whole main_v2).view.loc (c : Thread nD τ) ↦[Finset.univ]{Transfers.shareTokN fullShare 33} (I.vs c)) ∗ ((Memref.whole main_v2).view.loc (c : Thread nD τ) ↦[Finset.univ]{Transfers.shareTokN fullShare 34} (I.vs c)) ∗ ((Memref.whole main_v2).view.loc (c : Thread nD τ) ↦[Finset.univ]{Transfers.shareTokN fullShare 35} (I.vs c))) :=
  BI.equiv_iff.mp (by
    have h := Transfers.pointsTo_toks_range (Ix := Unit) (Name := ℕ) (U := UU) (Lvl := ℕ) (ℓ := (Memref.whole main_v2).view.loc (c : Thread nD τ)) (S := Finset.univ) (f := I.vs c) fullShare 36
    rw [chain36] at h
    exact ⟨h.1, h.2⟩)

/-- The read shares the body does not use. -/
def left : sProp 𝕄 :=
  iprop(((Memref.whole main_v1).view.loc (c : Thread nD τ) ↦[Finset.univ]{Transfers.shareDrop fullShare 36} (I.ks c))
    ∗ ((Memref.whole main_v1).view.loc (c : Thread nD τ) ↦[Finset.univ]{Transfers.shareTokN fullShare 0} (I.ks c))
    ∗ ((Memref.whole main_v1).view.loc (c : Thread nD τ) ↦[Finset.univ]{Transfers.shareTokN fullShare 1} (I.ks c))
    ∗ ((Memref.whole main_v1).view.loc (c : Thread nD τ) ↦[Finset.univ]{Transfers.shareTokN fullShare 2} (I.ks c))
    ∗ ((Memref.whole main_v1).view.loc (c : Thread nD τ) ↦[Finset.univ]{Transfers.shareTokN fullShare 3} (I.ks c))
    ∗ ((Memref.whole main_v1).view.loc (c : Thread nD τ) ↦[Finset.univ]{Transfers.shareTokN fullShare 12} (I.ks c))
    ∗ ((Memref.whole main_v1).view.loc (c : Thread nD τ) ↦[Finset.univ]{Transfers.shareTokN fullShare 13} (I.ks c))
    ∗ ((Memref.whole main_v1).view.loc (c : Thread nD τ) ↦[Finset.univ]{Transfers.shareTokN fullShare 14} (I.ks c))
    ∗ ((Memref.whole main_v1).view.loc (c : Thread nD τ) ↦[Finset.univ]{Transfers.shareTokN fullShare 15} (I.ks c))
    ∗ ((Memref.whole main_v1).view.loc (c : Thread nD τ) ↦[Finset.univ]{Transfers.shareTokN fullShare 16} (I.ks c))
    ∗ ((Memref.whole main_v1).view.loc (c : Thread nD τ) ↦[Finset.univ]{Transfers.shareTokN fullShare 17} (I.ks c))
    ∗ ((Memref.whole main_v1).view.loc (c : Thread nD τ) ↦[Finset.univ]{Transfers.shareTokN fullShare 18} (I.ks c))
    ∗ ((Memref.whole main_v1).view.loc (c : Thread nD τ) ↦[Finset.univ]{Transfers.shareTokN fullShare 19} (I.ks c))
    ∗ ((Memref.whole main_v1).view.loc (c : Thread nD τ) ↦[Finset.univ]{Transfers.shareTokN fullShare 28} (I.ks c))
    ∗ ((Memref.whole main_v1).view.loc (c : Thread nD τ) ↦[Finset.univ]{Transfers.shareTokN fullShare 29} (I.ks c))
    ∗ ((Memref.whole main_v1).view.loc (c : Thread nD τ) ↦[Finset.univ]{Transfers.shareTokN fullShare 30} (I.ks c))
    ∗ ((Memref.whole main_v1).view.loc (c : Thread nD τ) ↦[Finset.univ]{Transfers.shareTokN fullShare 31} (I.ks c))
    ∗ ((Memref.whole main_v1).view.loc (c : Thread nD τ) ↦[Finset.univ]{Transfers.shareTokN fullShare 32} (I.ks c))
    ∗ ((Memref.whole main_v1).view.loc (c : Thread nD τ) ↦[Finset.univ]{Transfers.shareTokN fullShare 33} (I.ks c))
    ∗ ((Memref.whole main_v1).view.loc (c : Thread nD τ) ↦[Finset.univ]{Transfers.shareTokN fullShare 34} (I.ks c))
    ∗ ((Memref.whole main_v1).view.loc (c : Thread nD τ) ↦[Finset.univ]{Transfers.shareTokN fullShare 35} (I.ks c))
    ∗ ((Memref.whole main_v2).view.loc (c : Thread nD τ) ↦[Finset.univ]{Transfers.shareDrop fullShare 36} (I.vs c))
    ∗ ((Memref.whole main_v2).view.loc (c : Thread nD τ) ↦[Finset.univ]{Transfers.shareTokN fullShare 0} (I.vs c))
    ∗ ((Memref.whole main_v2).view.loc (c : Thread nD τ) ↦[Finset.univ]{Transfers.shareTokN fullShare 1} (I.vs c))
    ∗ ((Memref.whole main_v2).view.loc (c : Thread nD τ) ↦[Finset.univ]{Transfers.shareTokN fullShare 2} (I.vs c))
    ∗ ((Memref.whole main_v2).view.loc (c : Thread nD τ) ↦[Finset.univ]{Transfers.shareTokN fullShare 3} (I.vs c))
    ∗ ((Memref.whole main_v2).view.loc (c : Thread nD τ) ↦[Finset.univ]{Transfers.shareTokN fullShare 4} (I.vs c))
    ∗ ((Memref.whole main_v2).view.loc (c : Thread nD τ) ↦[Finset.univ]{Transfers.shareTokN fullShare 5} (I.vs c))
    ∗ ((Memref.whole main_v2).view.loc (c : Thread nD τ) ↦[Finset.univ]{Transfers.shareTokN fullShare 6} (I.vs c))
    ∗ ((Memref.whole main_v2).view.loc (c : Thread nD τ) ↦[Finset.univ]{Transfers.shareTokN fullShare 7} (I.vs c))
    ∗ ((Memref.whole main_v2).view.loc (c : Thread nD τ) ↦[Finset.univ]{Transfers.shareTokN fullShare 8} (I.vs c))
    ∗ ((Memref.whole main_v2).view.loc (c : Thread nD τ) ↦[Finset.univ]{Transfers.shareTokN fullShare 9} (I.vs c))
    ∗ ((Memref.whole main_v2).view.loc (c : Thread nD τ) ↦[Finset.univ]{Transfers.shareTokN fullShare 10} (I.vs c))
    ∗ ((Memref.whole main_v2).view.loc (c : Thread nD τ) ↦[Finset.univ]{Transfers.shareTokN fullShare 11} (I.vs c))
    ∗ ((Memref.whole main_v2).view.loc (c : Thread nD τ) ↦[Finset.univ]{Transfers.shareTokN fullShare 20} (I.vs c))
    ∗ ((Memref.whole main_v2).view.loc (c : Thread nD τ) ↦[Finset.univ]{Transfers.shareTokN fullShare 21} (I.vs c))
    ∗ ((Memref.whole main_v2).view.loc (c : Thread nD τ) ↦[Finset.univ]{Transfers.shareTokN fullShare 22} (I.vs c))
    ∗ ((Memref.whole main_v2).view.loc (c : Thread nD τ) ↦[Finset.univ]{Transfers.shareTokN fullShare 23} (I.vs c))
    ∗ ((Memref.whole main_v2).view.loc (c : Thread nD τ) ↦[Finset.univ]{Transfers.shareTokN fullShare 24} (I.vs c))
    ∗ ((Memref.whole main_v2).view.loc (c : Thread nD τ) ↦[Finset.univ]{Transfers.shareTokN fullShare 25} (I.vs c))
    ∗ ((Memref.whole main_v2).view.loc (c : Thread nD τ) ↦[Finset.univ]{Transfers.shareTokN fullShare 26} (I.vs c))
    ∗ ((Memref.whole main_v2).view.loc (c : Thread nD τ) ↦[Finset.univ]{Transfers.shareTokN fullShare 27} (I.vs c)))

/-- What the region brings, the staging buffers' contents given. -/
def wrapPre (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (f11 : Buf (Elt F) ((c : Thread nD τ).loc cc0_scratch5)) (out : Buf (Elt F) ((c : Thread nD τ).loc cc0_stg3_0)) : sProp 𝕄 :=
  iprop(barTok (valOf I) 0 c ∗ barTok (valOf I) 1 c ∗ barTok (valOf I) 2 c ∗ barWait (valOf I) c
    ∗ (bigSep Finset.univ fun b : Fin 4 × Fin 3 => opened (valOf I) b.1 b.2 c)
    ∗ owes (c : Thread nD τ) (owedB_0 c) W
    ∗ ((Memref.whole main_v1).view.loc (c : Thread nD τ) ↦[Finset.univ]{fullShare} (I.ks c)) ∗ ((Memref.whole main_v2).view.loc (c : Thread nD τ) ↦[Finset.univ]{fullShare} (I.vs c))
    ∗ (bigSep Finset.univ fun b : Fin 4 × Fin 8 => copySem c b)
    ∗ ((c : Thread nD τ).loc cc0_scratch0 ↦{fullShare} f6) ∗ ((c : Thread nD τ).loc cc0_scratch4 ↦{fullShare} f10) ∗ ((c : Thread nD τ).loc cc0_scratch5 ↦{fullShare} f11)
    ∗ ((Memref.whole cc0_stg0_0).view.loc (c : Thread nD τ) ↦[Finset.univ]{fullShare} (I.x c)) ∗ ((Memref.whole cc0_stg1_0).view.loc (c : Thread nD τ) ↦[Finset.univ]{fullShare} (I.wq c)) ∗ ((Memref.whole cc0_stg2_0).view.loc (c : Thread nD τ) ↦[Finset.univ]{fullShare} (I.wo c)) ∗ ((Memref.whole cc0_stg3_0).view.loc (c : Thread nD τ) ↦[Finset.univ]{fullShare} out) ∗ ((Memref.whole cc0_scratch1).view.loc (c : Thread nD τ) ↦[Finset.univ]{fullShare} f7) ∗ ((Memref.whole cc0_scratch2).view.loc (c : Thread nD τ) ↦[Finset.univ]{fullShare} f8) ∗ ((Memref.whole cc0_scratch3).view.loc (c : Thread nD τ) ↦[Finset.univ]{fullShare} f9))

set_option maxHeartbeats 4000000 in
theorem pre_body (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (f11 : Buf (Elt F) ((c : Thread nD τ).loc cc0_scratch5)) (out : Buf (Elt F) ((c : Thread nD τ).loc cc0_stg3_0)) :
    wrapPre I c W f6 f7 f8 f9 f10 f11 out ⊢ iprop(bodyPre I c W f6 f7 f8 f9 f10 out ∗ left I c) := by
  unfold wrapPre bodyPre left
  iintro ⟨Hbt0, Hbt1, Hbt2, Hbw, HOp, HO, HK, HV, HZ, HS0, HS4, HS5, H_x, H_wq, H_wo, H_out, H_f7, H_f8, H_f9⟩
  ihave HOp := (Entails.of_eq (open_chain c (valOf I))) $$ HOp
  icases HOp with ⟨Hop00, Hop01, Hop02, Hop10, Hop11, Hop12, Hop20, Hop21, Hop22, Hop30, Hop31, Hop32⟩
  unfold opened
  icases Hop00 with ⟨Hst00, Hsw00, Hrw00, Hrr00⟩
  icases Hop01 with ⟨Hst01, Hsw01, Hrw01, Hrr01⟩
  icases Hop02 with ⟨Hst02, Hsw02, Hrw02, Hrr02⟩
  icases Hop10 with ⟨Hst10, Hsw10, Hrw10, Hrr10⟩
  icases Hop11 with ⟨Hst11, Hsw11, Hrw11, Hrr11⟩
  icases Hop12 with ⟨Hst12, Hsw12, Hrw12, Hrr12⟩
  icases Hop20 with ⟨Hst20, Hsw20, Hrw20, Hrr20⟩
  icases Hop21 with ⟨Hst21, Hsw21, Hrw21, Hrr21⟩
  icases Hop22 with ⟨Hst22, Hsw22, Hrw22, Hrr22⟩
  icases Hop30 with ⟨Hst30, Hsw30, Hrw30, Hrr30⟩
  icases Hop31 with ⟨Hst31, Hsw31, Hrw31, Hrr31⟩
  icases Hop32 with ⟨Hst32, Hsw32, Hrw32, Hrr32⟩
  ihave HK := (Entails.of_eq (ks_deal I c)) $$ HK
  icases HK with ⟨HKd, HKr0, HKr1, HKr2, HKr3, Hk00, Hk01, Hk02, Hk03, Hk04, Hk05, Hk06, Hk07, HKr12, HKr13, HKr14, HKr15, HKr16, HKr17, HKr18, HKr19, Hk20, Hk21, Hk22, Hk23, Hk24, Hk25, Hk26, Hk27, HKr28, HKr29, HKr30, HKr31, HKr32, HKr33, HKr34, HKr35⟩
  ihave HV := (Entails.of_eq (vs_deal I c)) $$ HV
  icases HV with ⟨HVd, HVr0, HVr1, HVr2, HVr3, HVr4, HVr5, HVr6, HVr7, HVr8, HVr9, HVr10, HVr11, Hk10, Hk11, Hk12, Hk13, Hk14, Hk15, Hk16, Hk17, HVr20, HVr21, HVr22, HVr23, HVr24, HVr25, HVr26, HVr27, Hk30, Hk31, Hk32, Hk33, Hk34, Hk35, Hk36, Hk37⟩
  ihave HZ := (Entails.of_eq (copy_chain (F := F) c)) $$ HZ
  icases HZ with ⟨Hz00, Hz01, Hz02, Hz03, Hz04, Hz05, Hz06, Hz07, Hz10, Hz11, Hz12, Hz13, Hz14, Hz15, Hz16, Hz17, Hz20, Hz21, Hz22, Hz23, Hz24, Hz25, Hz26, Hz27, Hz30, Hz31, Hz32, Hz33, Hz34, Hz35, Hz36, Hz37⟩
  ihave HS0 := (slots0 c f6) $$ HS0
  icases HS0 with ⟨Hg00, Hg01, Hg02, Hg03, Hg04, Hg05, Hg06, Hg07, Hg10, Hg11, Hg12, Hg13, Hg14, Hg15, Hg16, Hg17, Hg20, Hg21, Hg22, Hg23, Hg24, Hg25, Hg26, Hg27, Hg30, Hg31, Hg32, Hg33, Hg34, Hg35, Hg36, Hg37⟩
  ihave HS4 := (slots4 c f10) $$ HS4
  icases HS4 with ⟨Hs00, Hs01, Hs02, Hs10, Hs11, Hs12, Hs20, Hs21, Hs22, Hs30, Hs31, Hs32⟩
  ihave HS5 := (slots5 c f11) $$ HS5
  icases HS5 with ⟨Hd00, Hd01, Hd02, Hd10, Hd11, Hd12, Hd20, Hd21, Hd22, Hd30, Hd31, Hd32⟩
  isplitr [HKd HKr0 HKr1 HKr2 HKr3 HKr12 HKr13 HKr14 HKr15 HKr16 HKr17 HKr18 HKr19 HKr28 HKr29 HKr30 HKr31 HKr32 HKr33 HKr34 HKr35 HVd HVr0 HVr1 HVr2 HVr3 HVr4 HVr5 HVr6 HVr7 HVr8 HVr9 HVr10 HVr11 HVr20 HVr21 HVr22 HVr23 HVr24 HVr25 HVr26 HVr27]
  · isplitl [Hbt0]; · iexact Hbt0
    isplitl [Hbt1]; · iexact Hbt1
    isplitl [Hbt2]; · iexact Hbt2
    isplitl [Hbw]; · iexact Hbw
    isplitl [Hd00 Hrr00 Hd10 Hrr10 Hd20 Hrr20 Hd30 Hrr30]
    · unfold barPay
      isplitl [Hd00]; · iexists _; iexact Hd00
      isplitl [Hd10]; · iexists _; iexact Hd10
      isplitl [Hd20]; · iexists _; iexact Hd20
      isplitl [Hd30]; · iexists _; iexact Hd30
      isplitl [Hrr00]; · iexact Hrr00
      isplitl [Hrr10]; · iexact Hrr10
      isplitl [Hrr20]; · iexact Hrr20
      iexact Hrr30
    isplitl [Hd01 Hrr01 Hd11 Hrr11 Hd21 Hrr21 Hd31 Hrr31]
    · unfold barPay
      isplitl [Hd01]; · iexists _; iexact Hd01
      isplitl [Hd11]; · iexists _; iexact Hd11
      isplitl [Hd21]; · iexists _; iexact Hd21
      isplitl [Hd31]; · iexists _; iexact Hd31
      isplitl [Hrr01]; · iexact Hrr01
      isplitl [Hrr11]; · iexact Hrr11
      isplitl [Hrr21]; · iexact Hrr21
      iexact Hrr31
    isplitl [Hd02 Hrr02 Hd12 Hrr12 Hd22 Hrr22 Hd32 Hrr32]
    · unfold barPay
      isplitl [Hd02]; · iexists _; iexact Hd02
      isplitl [Hd12]; · iexists _; iexact Hd12
      isplitl [Hd22]; · iexists _; iexact Hd22
      isplitl [Hd32]; · iexists _; iexact Hd32
      isplitl [Hrr02]; · iexact Hrr02
      isplitl [Hrr12]; · iexact Hrr12
      isplitl [Hrr22]; · iexact Hrr22
      iexact Hrr32
    isplitl [Hst00]; · iexact Hst00
    isplitl [Hsw00]; · iexact Hsw00
    isplitl [Hrw00]; · iexact Hrw00
    isplitl [Hst01]; · iexact Hst01
    isplitl [Hsw01]; · iexact Hsw01
    isplitl [Hrw01]; · iexact Hrw01
    isplitl [Hst02]; · iexact Hst02
    isplitl [Hsw02]; · iexact Hsw02
    isplitl [Hrw02]; · iexact Hrw02
    isplitl [Hst10]; · iexact Hst10
    isplitl [Hsw10]; · iexact Hsw10
    isplitl [Hrw10]; · iexact Hrw10
    isplitl [Hst11]; · iexact Hst11
    isplitl [Hsw11]; · iexact Hsw11
    isplitl [Hrw11]; · iexact Hrw11
    isplitl [Hst12]; · iexact Hst12
    isplitl [Hsw12]; · iexact Hsw12
    isplitl [Hrw12]; · iexact Hrw12
    isplitl [Hst20]; · iexact Hst20
    isplitl [Hsw20]; · iexact Hsw20
    isplitl [Hrw20]; · iexact Hrw20
    isplitl [Hst21]; · iexact Hst21
    isplitl [Hsw21]; · iexact Hsw21
    isplitl [Hrw21]; · iexact Hrw21
    isplitl [Hst22]; · iexact Hst22
    isplitl [Hsw22]; · iexact Hsw22
    isplitl [Hrw22]; · iexact Hrw22
    isplitl [Hst30]; · iexact Hst30
    isplitl [Hsw30]; · iexact Hsw30
    isplitl [Hrw30]; · iexact Hrw30
    isplitl [Hst31]; · iexact Hst31
    isplitl [Hsw31]; · iexact Hsw31
    isplitl [Hrw31]; · iexact Hrw31
    isplitl [Hst32]; · iexact Hst32
    isplitl [Hsw32]; · iexact Hsw32
    isplitl [Hrw32]; · iexact Hrw32
    isplitl [HO]; · iexact HO
    isplitl [Hk00]; · iexact Hk00
    isplitl [Hz00]; · iexact Hz00
    isplitl [Hg00]; · iexact Hg00
    isplitl [Hk01]; · iexact Hk01
    isplitl [Hz01]; · iexact Hz01
    isplitl [Hg01]; · iexact Hg01
    isplitl [Hk02]; · iexact Hk02
    isplitl [Hz02]; · iexact Hz02
    isplitl [Hg02]; · iexact Hg02
    isplitl [Hk03]; · iexact Hk03
    isplitl [Hz03]; · iexact Hz03
    isplitl [Hg03]; · iexact Hg03
    isplitl [Hk04]; · iexact Hk04
    isplitl [Hz04]; · iexact Hz04
    isplitl [Hg04]; · iexact Hg04
    isplitl [Hk05]; · iexact Hk05
    isplitl [Hz05]; · iexact Hz05
    isplitl [Hg05]; · iexact Hg05
    isplitl [Hk06]; · iexact Hk06
    isplitl [Hz06]; · iexact Hz06
    isplitl [Hg06]; · iexact Hg06
    isplitl [Hk07]; · iexact Hk07
    isplitl [Hz07]; · iexact Hz07
    isplitl [Hg07]; · iexact Hg07
    isplitl [Hk10]; · iexact Hk10
    isplitl [Hz10]; · iexact Hz10
    isplitl [Hg10]; · iexact Hg10
    isplitl [Hk11]; · iexact Hk11
    isplitl [Hz11]; · iexact Hz11
    isplitl [Hg11]; · iexact Hg11
    isplitl [Hk12]; · iexact Hk12
    isplitl [Hz12]; · iexact Hz12
    isplitl [Hg12]; · iexact Hg12
    isplitl [Hk13]; · iexact Hk13
    isplitl [Hz13]; · iexact Hz13
    isplitl [Hg13]; · iexact Hg13
    isplitl [Hk14]; · iexact Hk14
    isplitl [Hz14]; · iexact Hz14
    isplitl [Hg14]; · iexact Hg14
    isplitl [Hk15]; · iexact Hk15
    isplitl [Hz15]; · iexact Hz15
    isplitl [Hg15]; · iexact Hg15
    isplitl [Hk16]; · iexact Hk16
    isplitl [Hz16]; · iexact Hz16
    isplitl [Hg16]; · iexact Hg16
    isplitl [Hk17]; · iexact Hk17
    isplitl [Hz17]; · iexact Hz17
    isplitl [Hg17]; · iexact Hg17
    isplitl [Hk20]; · iexact Hk20
    isplitl [Hz20]; · iexact Hz20
    isplitl [Hg20]; · iexact Hg20
    isplitl [Hk21]; · iexact Hk21
    isplitl [Hz21]; · iexact Hz21
    isplitl [Hg21]; · iexact Hg21
    isplitl [Hk22]; · iexact Hk22
    isplitl [Hz22]; · iexact Hz22
    isplitl [Hg22]; · iexact Hg22
    isplitl [Hk23]; · iexact Hk23
    isplitl [Hz23]; · iexact Hz23
    isplitl [Hg23]; · iexact Hg23
    isplitl [Hk24]; · iexact Hk24
    isplitl [Hz24]; · iexact Hz24
    isplitl [Hg24]; · iexact Hg24
    isplitl [Hk25]; · iexact Hk25
    isplitl [Hz25]; · iexact Hz25
    isplitl [Hg25]; · iexact Hg25
    isplitl [Hk26]; · iexact Hk26
    isplitl [Hz26]; · iexact Hz26
    isplitl [Hg26]; · iexact Hg26
    isplitl [Hk27]; · iexact Hk27
    isplitl [Hz27]; · iexact Hz27
    isplitl [Hg27]; · iexact Hg27
    isplitl [Hk30]; · iexact Hk30
    isplitl [Hz30]; · iexact Hz30
    isplitl [Hg30]; · iexact Hg30
    isplitl [Hk31]; · iexact Hk31
    isplitl [Hz31]; · iexact Hz31
    isplitl [Hg31]; · iexact Hg31
    isplitl [Hk32]; · iexact Hk32
    isplitl [Hz32]; · iexact Hz32
    isplitl [Hg32]; · iexact Hg32
    isplitl [Hk33]; · iexact Hk33
    isplitl [Hz33]; · iexact Hz33
    isplitl [Hg33]; · iexact Hg33
    isplitl [Hk34]; · iexact Hk34
    isplitl [Hz34]; · iexact Hz34
    isplitl [Hg34]; · iexact Hg34
    isplitl [Hk35]; · iexact Hk35
    isplitl [Hz35]; · iexact Hz35
    isplitl [Hg35]; · iexact Hg35
    isplitl [Hk36]; · iexact Hk36
    isplitl [Hz36]; · iexact Hz36
    isplitl [Hg36]; · iexact Hg36
    isplitl [Hk37]; · iexact Hk37
    isplitl [Hz37]; · iexact Hz37
    isplitl [Hg37]; · iexact Hg37
    isplitl [Hs00]; · iexact Hs00
    isplitl [Hs01]; · iexact Hs01
    isplitl [Hs02]; · iexact Hs02
    isplitl [Hs10]; · iexact Hs10
    isplitl [Hs11]; · iexact Hs11
    isplitl [Hs12]; · iexact Hs12
    isplitl [Hs20]; · iexact Hs20
    isplitl [Hs21]; · iexact Hs21
    isplitl [Hs22]; · iexact Hs22
    isplitl [Hs30]; · iexact Hs30
    isplitl [Hs31]; · iexact Hs31
    isplitl [Hs32]; · iexact Hs32
    isplitl [H_x]; · iexact H_x
    isplitl [H_wq]; · iexact H_wq
    isplitl [H_wo]; · iexact H_wo
    isplitl [H_out]; · iexact H_out
    isplitl [H_f7]; · iexact H_f7
    isplitl [H_f8]; · iexact H_f8
    iexact H_f9
  isplitl [HKd]; · iexact HKd
  isplitl [HKr0]; · iexact HKr0
  isplitl [HKr1]; · iexact HKr1
  isplitl [HKr2]; · iexact HKr2
  isplitl [HKr3]; · iexact HKr3
  isplitl [HKr12]; · iexact HKr12
  isplitl [HKr13]; · iexact HKr13
  isplitl [HKr14]; · iexact HKr14
  isplitl [HKr15]; · iexact HKr15
  isplitl [HKr16]; · iexact HKr16
  isplitl [HKr17]; · iexact HKr17
  isplitl [HKr18]; · iexact HKr18
  isplitl [HKr19]; · iexact HKr19
  isplitl [HKr28]; · iexact HKr28
  isplitl [HKr29]; · iexact HKr29
  isplitl [HKr30]; · iexact HKr30
  isplitl [HKr31]; · iexact HKr31
  isplitl [HKr32]; · iexact HKr32
  isplitl [HKr33]; · iexact HKr33
  isplitl [HKr34]; · iexact HKr34
  isplitl [HKr35]; · iexact HKr35
  isplitl [HVd]; · iexact HVd
  isplitl [HVr0]; · iexact HVr0
  isplitl [HVr1]; · iexact HVr1
  isplitl [HVr2]; · iexact HVr2
  isplitl [HVr3]; · iexact HVr3
  isplitl [HVr4]; · iexact HVr4
  isplitl [HVr5]; · iexact HVr5
  isplitl [HVr6]; · iexact HVr6
  isplitl [HVr7]; · iexact HVr7
  isplitl [HVr8]; · iexact HVr8
  isplitl [HVr9]; · iexact HVr9
  isplitl [HVr10]; · iexact HVr10
  isplitl [HVr11]; · iexact HVr11
  isplitl [HVr20]; · iexact HVr20
  isplitl [HVr21]; · iexact HVr21
  isplitl [HVr22]; · iexact HVr22
  isplitl [HVr23]; · iexact HVr23
  isplitl [HVr24]; · iexact HVr24
  isplitl [HVr25]; · iexact HVr25
  isplitl [HVr26]; · iexact HVr26
  iexact HVr27

/-- What the region is given back. -/
def wrapPost : sProp 𝕄 :=
  iprop(((Memref.whole main_v1).view.loc (c : Thread nD τ) ↦[Finset.univ]{fullShare} (I.ks c)) ∗ ((Memref.whole main_v2).view.loc (c : Thread nD τ) ↦[Finset.univ]{fullShare} (I.vs c))
    ∗ semVal (barCell c) 0
    ∗ (bigSep Finset.univ fun b : Fin 4 × Fin 8 => copySem c b)
    ∗ (bigSep Finset.univ fun b : Fin 4 × Fin 3 => semVal (sCell b.1 b.2 c) 0)
    ∗ (bigSep Finset.univ fun b : Fin 4 × Fin 3 => semVal (rCell b.1 b.2 c) 0)
    ∗ (∃ f, (c : Thread nD τ).loc cc0_scratch0 ↦{fullShare} f) ∗ (∃ f, (c : Thread nD τ).loc cc0_scratch1 ↦{fullShare} f) ∗ (∃ f, (c : Thread nD τ).loc cc0_scratch2 ↦{fullShare} f) ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f)
    ∗ ((Memref.whole cc0_stg0_0).view.loc (c : Thread nD τ) ↦[Finset.univ]{fullShare} (I.x c)) ∗ ((Memref.whole cc0_stg1_0).view.loc (c : Thread nD τ) ↦[Finset.univ]{fullShare} (I.wq c)) ∗ ((Memref.whole cc0_stg2_0).view.loc (c : Thread nD τ) ↦[Finset.univ]{fullShare} (I.wo c)) ∗ ((Memref.whole cc0_stg3_0).view.loc (c : Thread nD τ) ↦[Finset.univ]{fullShare} (outV I c))
    ∗ ∃ W, owes (c : Thread nD τ) 0 W)

set_option maxHeartbeats 4000000 in
theorem post_body (f6 : Buf (Elt F) ((c : Thread nD τ).loc cc0_scratch0)) (f10 : Buf (Elt F) ((c : Thread nD τ).loc cc0_scratch4)) (f11 : Buf (Elt F) ((c : Thread nD τ).loc cc0_scratch5)) :
    iprop(bodyPost I c ∗ left I c) ⊢ (|={Set.univ}=> wrapPost I c : sProp 𝕄) := by
  unfold wrapPost bodyPost left
  iintro ⟨⟨H_x, H_wq, H_wo, H_out, H_f7, H_f8, H_f9, Hbd, Hsc00, Hrc00, Hss00, Hrv00, Hsc01, Hrc01, Hss01, Hrv01, Hsc02, Hrc02, Hss02, Hrv02, Hsc10, Hrc10, Hss10, Hrv10, Hsc11, Hrc11, Hss11, Hrv11, Hsc12, Hrc12, Hss12, Hrv12, Hsc20, Hrc20, Hss20, Hrv20, Hsc21, Hrc21, Hss21, Hrv21, Hsc22, Hrc22, Hss22, Hrv22, Hsc30, Hrc30, Hss30, Hrv30, Hsc31, Hrc31, Hss31, Hrv31, Hsc32, Hrc32, Hss32, Hrv32, Hk00, Hz00, Hg00, Hk01, Hz01, Hg01, Hk02, Hz02, Hg02, Hk03, Hz03, Hg03, Hk04, Hz04, Hg04, Hk05, Hz05, Hg05, Hk06, Hz06, Hg06, Hk07, Hz07, Hg07, Hk10, Hz10, Hg10, Hk11, Hz11, Hg11, Hk12, Hz12, Hg12, Hk13, Hz13, Hg13, Hk14, Hz14, Hg14, Hk15, Hz15, Hg15, Hk16, Hz16, Hg16, Hk17, Hz17, Hg17, Hk20, Hz20, Hg20, Hk21, Hz21, Hg21, Hk22, Hz22, Hg22, Hk23, Hz23, Hg23, Hk24, Hz24, Hg24, Hk25, Hz25, Hg25, Hk26, Hz26, Hg26, Hk27, Hz27, Hg27, Hk30, Hz30, Hg30, Hk31, Hz31, Hg31, Hk32, Hz32, Hg32, Hk33, Hz33, Hg33, Hk34, Hz34, Hg34, Hk35, Hz35, Hg35, Hk36, Hz36, Hg36, Hk37, Hz37, Hg37, HO⟩, HKd, HKr0, HKr1, HKr2, HKr3, HKr12, HKr13, HKr14, HKr15, HKr16, HKr17, HKr18, HKr19, HKr28, HKr29, HKr30, HKr31, HKr32, HKr33, HKr34, HKr35, HVd, HVr0, HVr1, HVr2, HVr3, HVr4, HVr5, HVr6, HVr7, HVr8, HVr9, HVr10, HVr11, HVr20, HVr21, HVr22, HVr23, HVr24, HVr25, HVr26, HVr27⟩
  imod (cellDone_close (valOf I) (barCell c)) $$ Hbd with Hbd
  imod (cellDone_close (valOf I) (sCell 0 0 c)) $$ Hsc00 with Hsc00
  imod (cellDone_close (valOf I) (rCell 0 0 c)) $$ Hrc00 with Hrc00
  imod (cellDone_close (valOf I) (sCell 0 1 c)) $$ Hsc01 with Hsc01
  imod (cellDone_close (valOf I) (rCell 0 1 c)) $$ Hrc01 with Hrc01
  imod (cellDone_close (valOf I) (sCell 0 2 c)) $$ Hsc02 with Hsc02
  imod (cellDone_close (valOf I) (rCell 0 2 c)) $$ Hrc02 with Hrc02
  imod (cellDone_close (valOf I) (sCell 1 0 c)) $$ Hsc10 with Hsc10
  imod (cellDone_close (valOf I) (rCell 1 0 c)) $$ Hrc10 with Hrc10
  imod (cellDone_close (valOf I) (sCell 1 1 c)) $$ Hsc11 with Hsc11
  imod (cellDone_close (valOf I) (rCell 1 1 c)) $$ Hrc11 with Hrc11
  imod (cellDone_close (valOf I) (sCell 1 2 c)) $$ Hsc12 with Hsc12
  imod (cellDone_close (valOf I) (rCell 1 2 c)) $$ Hrc12 with Hrc12
  imod (cellDone_close (valOf I) (sCell 2 0 c)) $$ Hsc20 with Hsc20
  imod (cellDone_close (valOf I) (rCell 2 0 c)) $$ Hrc20 with Hrc20
  imod (cellDone_close (valOf I) (sCell 2 1 c)) $$ Hsc21 with Hsc21
  imod (cellDone_close (valOf I) (rCell 2 1 c)) $$ Hrc21 with Hrc21
  imod (cellDone_close (valOf I) (sCell 2 2 c)) $$ Hsc22 with Hsc22
  imod (cellDone_close (valOf I) (rCell 2 2 c)) $$ Hrc22 with Hrc22
  imod (cellDone_close (valOf I) (sCell 3 0 c)) $$ Hsc30 with Hsc30
  imod (cellDone_close (valOf I) (rCell 3 0 c)) $$ Hrc30 with Hrc30
  imod (cellDone_close (valOf I) (sCell 3 1 c)) $$ Hsc31 with Hsc31
  imod (cellDone_close (valOf I) (rCell 3 1 c)) $$ Hrc31 with Hrc31
  imod (cellDone_close (valOf I) (sCell 3 2 c)) $$ Hsc32 with Hsc32
  imod (cellDone_close (valOf I) (rCell 3 2 c)) $$ Hrc32 with Hrc32
  imodintro
  isplitl [HKd HKr0 HKr1 HKr2 HKr3 Hk00 Hk01 Hk02 Hk03 Hk04 Hk05 Hk06 Hk07 HKr12 HKr13 HKr14 HKr15 HKr16 HKr17 HKr18 HKr19 Hk20 Hk21 Hk22 Hk23 Hk24 Hk25 Hk26 Hk27 HKr28 HKr29 HKr30 HKr31 HKr32 HKr33 HKr34 HKr35]
  · iapply (Entails.of_eq (ks_deal I c).symm)
    isplitl [HKd]; · iexact HKd
    isplitl [HKr0]; · iexact HKr0
    isplitl [HKr1]; · iexact HKr1
    isplitl [HKr2]; · iexact HKr2
    isplitl [HKr3]; · iexact HKr3
    isplitl [Hk00]; · iexact Hk00
    isplitl [Hk01]; · iexact Hk01
    isplitl [Hk02]; · iexact Hk02
    isplitl [Hk03]; · iexact Hk03
    isplitl [Hk04]; · iexact Hk04
    isplitl [Hk05]; · iexact Hk05
    isplitl [Hk06]; · iexact Hk06
    isplitl [Hk07]; · iexact Hk07
    isplitl [HKr12]; · iexact HKr12
    isplitl [HKr13]; · iexact HKr13
    isplitl [HKr14]; · iexact HKr14
    isplitl [HKr15]; · iexact HKr15
    isplitl [HKr16]; · iexact HKr16
    isplitl [HKr17]; · iexact HKr17
    isplitl [HKr18]; · iexact HKr18
    isplitl [HKr19]; · iexact HKr19
    isplitl [Hk20]; · iexact Hk20
    isplitl [Hk21]; · iexact Hk21
    isplitl [Hk22]; · iexact Hk22
    isplitl [Hk23]; · iexact Hk23
    isplitl [Hk24]; · iexact Hk24
    isplitl [Hk25]; · iexact Hk25
    isplitl [Hk26]; · iexact Hk26
    isplitl [Hk27]; · iexact Hk27
    isplitl [HKr28]; · iexact HKr28
    isplitl [HKr29]; · iexact HKr29
    isplitl [HKr30]; · iexact HKr30
    isplitl [HKr31]; · iexact HKr31
    isplitl [HKr32]; · iexact HKr32
    isplitl [HKr33]; · iexact HKr33
    isplitl [HKr34]; · iexact HKr34
    iexact HKr35
  isplitl [HVd HVr0 HVr1 HVr2 HVr3 HVr4 HVr5 HVr6 HVr7 HVr8 HVr9 HVr10 HVr11 Hk10 Hk11 Hk12 Hk13 Hk14 Hk15 Hk16 Hk17 HVr20 HVr21 HVr22 HVr23 HVr24 HVr25 HVr26 HVr27 Hk30 Hk31 Hk32 Hk33 Hk34 Hk35 Hk36 Hk37]
  · iapply (Entails.of_eq (vs_deal I c).symm)
    isplitl [HVd]; · iexact HVd
    isplitl [HVr0]; · iexact HVr0
    isplitl [HVr1]; · iexact HVr1
    isplitl [HVr2]; · iexact HVr2
    isplitl [HVr3]; · iexact HVr3
    isplitl [HVr4]; · iexact HVr4
    isplitl [HVr5]; · iexact HVr5
    isplitl [HVr6]; · iexact HVr6
    isplitl [HVr7]; · iexact HVr7
    isplitl [HVr8]; · iexact HVr8
    isplitl [HVr9]; · iexact HVr9
    isplitl [HVr10]; · iexact HVr10
    isplitl [HVr11]; · iexact HVr11
    isplitl [Hk10]; · iexact Hk10
    isplitl [Hk11]; · iexact Hk11
    isplitl [Hk12]; · iexact Hk12
    isplitl [Hk13]; · iexact Hk13
    isplitl [Hk14]; · iexact Hk14
    isplitl [Hk15]; · iexact Hk15
    isplitl [Hk16]; · iexact Hk16
    isplitl [Hk17]; · iexact Hk17
    isplitl [HVr20]; · iexact HVr20
    isplitl [HVr21]; · iexact HVr21
    isplitl [HVr22]; · iexact HVr22
    isplitl [HVr23]; · iexact HVr23
    isplitl [HVr24]; · iexact HVr24
    isplitl [HVr25]; · iexact HVr25
    isplitl [HVr26]; · iexact HVr26
    isplitl [HVr27]; · iexact HVr27
    isplitl [Hk30]; · iexact Hk30
    isplitl [Hk31]; · iexact Hk31
    isplitl [Hk32]; · iexact Hk32
    isplitl [Hk33]; · iexact Hk33
    isplitl [Hk34]; · iexact Hk34
    isplitl [Hk35]; · iexact Hk35
    isplitl [Hk36]; · iexact Hk36
    iexact Hk37
  isplitl [Hbd]; · iexact Hbd
  isplitl [Hz00 Hz01 Hz02 Hz03 Hz04 Hz05 Hz06 Hz07 Hz10 Hz11 Hz12 Hz13 Hz14 Hz15 Hz16 Hz17 Hz20 Hz21 Hz22 Hz23 Hz24 Hz25 Hz26 Hz27 Hz30 Hz31 Hz32 Hz33 Hz34 Hz35 Hz36 Hz37]
  · iapply (Entails.of_eq (copy_chain (F := F) c).symm)
    isplitl [Hz00]; · iexact Hz00
    isplitl [Hz01]; · iexact Hz01
    isplitl [Hz02]; · iexact Hz02
    isplitl [Hz03]; · iexact Hz03
    isplitl [Hz04]; · iexact Hz04
    isplitl [Hz05]; · iexact Hz05
    isplitl [Hz06]; · iexact Hz06
    isplitl [Hz07]; · iexact Hz07
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz20]; · iexact Hz20
    isplitl [Hz21]; · iexact Hz21
    isplitl [Hz22]; · iexact Hz22
    isplitl [Hz23]; · iexact Hz23
    isplitl [Hz24]; · iexact Hz24
    isplitl [Hz25]; · iexact Hz25
    isplitl [Hz26]; · iexact Hz26
    isplitl [Hz27]; · iexact Hz27
    isplitl [Hz30]; · iexact Hz30
    isplitl [Hz31]; · iexact Hz31
    isplitl [Hz32]; · iexact Hz32
    isplitl [Hz33]; · iexact Hz33
    isplitl [Hz34]; · iexact Hz34
    isplitl [Hz35]; · iexact Hz35
    isplitl [Hz36]; · iexact Hz36
    iexact Hz37
  isplitl [Hsc00 Hsc01 Hsc02 Hsc10 Hsc11 Hsc12 Hsc20 Hsc21 Hsc22 Hsc30 Hsc31 Hsc32]
  · iapply (Entails.of_eq (chain12 (F := F) fun b => semVal (sCell b.1 b.2 c) 0).symm)
    isplitl [Hsc00]; · iexact Hsc00
    isplitl [Hsc01]; · iexact Hsc01
    isplitl [Hsc02]; · iexact Hsc02
    isplitl [Hsc10]; · iexact Hsc10
    isplitl [Hsc11]; · iexact Hsc11
    isplitl [Hsc12]; · iexact Hsc12
    isplitl [Hsc20]; · iexact Hsc20
    isplitl [Hsc21]; · iexact Hsc21
    isplitl [Hsc22]; · iexact Hsc22
    isplitl [Hsc30]; · iexact Hsc30
    isplitl [Hsc31]; · iexact Hsc31
    iexact Hsc32
  isplitl [Hrc00 Hrc01 Hrc02 Hrc10 Hrc11 Hrc12 Hrc20 Hrc21 Hrc22 Hrc30 Hrc31 Hrc32]
  · iapply (Entails.of_eq (chain12 (F := F) fun b => semVal (rCell b.1 b.2 c) 0).symm)
    isplitl [Hrc00]; · iexact Hrc00
    isplitl [Hrc01]; · iexact Hrc01
    isplitl [Hrc02]; · iexact Hrc02
    isplitl [Hrc10]; · iexact Hrc10
    isplitl [Hrc11]; · iexact Hrc11
    isplitl [Hrc12]; · iexact Hrc12
    isplitl [Hrc20]; · iexact Hrc20
    isplitl [Hrc21]; · iexact Hrc21
    isplitl [Hrc22]; · iexact Hrc22
    isplitl [Hrc30]; · iexact Hrc30
    isplitl [Hrc31]; · iexact Hrc31
    iexact Hrc32
  isplitl [Hg00 Hg01 Hg02 Hg03 Hg04 Hg05 Hg06 Hg07 Hg10 Hg11 Hg12 Hg13 Hg14 Hg15 Hg16 Hg17 Hg20 Hg21 Hg22 Hg23 Hg24 Hg25 Hg26 Hg27 Hg30 Hg31 Hg32 Hg33 Hg34 Hg35 Hg36 Hg37]
  · iapply (slots0_back c f6)
    isplitl [Hg00]; · iexact Hg00
    isplitl [Hg01]; · iexact Hg01
    isplitl [Hg02]; · iexact Hg02
    isplitl [Hg03]; · iexact Hg03
    isplitl [Hg04]; · iexact Hg04
    isplitl [Hg05]; · iexact Hg05
    isplitl [Hg06]; · iexact Hg06
    isplitl [Hg07]; · iexact Hg07
    isplitl [Hg10]; · iexact Hg10
    isplitl [Hg11]; · iexact Hg11
    isplitl [Hg12]; · iexact Hg12
    isplitl [Hg13]; · iexact Hg13
    isplitl [Hg14]; · iexact Hg14
    isplitl [Hg15]; · iexact Hg15
    isplitl [Hg16]; · iexact Hg16
    isplitl [Hg17]; · iexact Hg17
    isplitl [Hg20]; · iexact Hg20
    isplitl [Hg21]; · iexact Hg21
    isplitl [Hg22]; · iexact Hg22
    isplitl [Hg23]; · iexact Hg23
    isplitl [Hg24]; · iexact Hg24
    isplitl [Hg25]; · iexact Hg25
    isplitl [Hg26]; · iexact Hg26
    isplitl [Hg27]; · iexact Hg27
    isplitl [Hg30]; · iexact Hg30
    isplitl [Hg31]; · iexact Hg31
    isplitl [Hg32]; · iexact Hg32
    isplitl [Hg33]; · iexact Hg33
    isplitl [Hg34]; · iexact Hg34
    isplitl [Hg35]; · iexact Hg35
    isplitl [Hg36]; · iexact Hg36
    iexact Hg37
  isplitl [H_f7]; · iexact H_f7
  isplitl [H_f8]; · iexact H_f8
  isplitl [H_f9]; · iexact H_f9
  isplitl [Hss00 Hss01 Hss02 Hss10 Hss11 Hss12 Hss20 Hss21 Hss22 Hss30 Hss31 Hss32]
  · iapply (slots4_back c f10)
    isplitl [Hss00]; · iexact Hss00
    isplitl [Hss01]; · iexact Hss01
    isplitl [Hss02]; · iexact Hss02
    isplitl [Hss10]; · iexact Hss10
    isplitl [Hss11]; · iexact Hss11
    isplitl [Hss12]; · iexact Hss12
    isplitl [Hss20]; · iexact Hss20
    isplitl [Hss21]; · iexact Hss21
    isplitl [Hss22]; · iexact Hss22
    isplitl [Hss30]; · iexact Hss30
    isplitl [Hss31]; · iexact Hss31
    iexact Hss32
  isplitl [Hrv00 Hrv01 Hrv02 Hrv10 Hrv11 Hrv12 Hrv20 Hrv21 Hrv22 Hrv30 Hrv31 Hrv32]
  · iapply (slots5_back c f11)
    isplitl [Hrv00]; · iexact Hrv00
    isplitl [Hrv01]; · iexact Hrv01
    isplitl [Hrv02]; · iexact Hrv02
    isplitl [Hrv10]; · iexact Hrv10
    isplitl [Hrv11]; · iexact Hrv11
    isplitl [Hrv12]; · iexact Hrv12
    isplitl [Hrv20]; · iexact Hrv20
    isplitl [Hrv21]; · iexact Hrv21
    isplitl [Hrv22]; · iexact Hrv22
    isplitl [Hrv30]; · iexact Hrv30
    isplitl [Hrv31]; · iexact Hrv31
    iexact Hrv32
  isplitl [H_x]; · iexact H_x
  isplitl [H_wq]; · iexact H_wq
  isplitl [H_wo]; · iexact H_wo
  isplitl [H_out]; · iexact H_out
  iexact HO

/-- The body, from what the region brings to what it is given back. -/
theorem wrap_run (W : Waits sig Unit) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (f11 : Buf (Elt F) ((c : Thread nD τ).loc cc0_scratch5)) (out : Buf (Elt F) ((c : Thread nD τ).loc cc0_stg3_0)) :
    iprop(levAts L lv ∗ wrapPre I c W f6 f7 f8 f9 f10 f11 out)
      ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => wrapPost I c) := by
  have h : iprop(levAts L lv ∗ wrapPre I c W f6 f7 f8 f9 f10 f11 out) ⊢ iprop((levAts L lv ∗ bodyPre I c W f6 f7 f8 f9 f10 out) ∗ left I c) := by
    iintro ⟨Hlev, H⟩
    ihave H := (pre_body I c W f6 f7 f8 f9 f10 f11 out) $$ H
    icases H with ⟨Hb, Hl⟩
    isplitr [Hl]
    · isplitl [Hlev]; · iexact Hlev
      iexact Hb
    iexact Hl
  exact h.trans ((sep_mono_left (body_run I c W f6 f7 f8 f9 f10 out)).trans ((wp_frame_r _ _ _).trans
    ((wp_mono _ _ _ fun _ => post_body I c f6 f10 f11).trans (wp_fupd _ _ _ _ _))))

end Cert.KernelIdeal.Pf
end
-- ==== Proof.Region.lean ====
/-
# The region

The kernel's one region as a segment of the program: what it holds on entry, what it leaves, and its body.
-/
module

public import proofs.«01_k».proof.Proof.Wrap
public import proofs.«01_k».proof.Proof.Gen.KernelIdeal.Frame
public import Idealize.ShloMosaic.Lib.Pipeline.RegionTalk
public import Idealize.ShloMosaic.Lib.Pipeline.Value
public import Idealize.ShloMosaic.Harness.Basic

@[expose] public section

set_option maxRecDepth 16384

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A device's buffers at launch, and when the region is entered. -/
def V₀ (c : Dev nD) : Valuation τ sig (Elt F) := fun b => m (c, b)
def V₁ (c : Dev nD) : Valuation τ sig (Elt F) := StableHlo.after hostOps0 (V₀ m c)

/-- The kernel's inputs on every device. -/
def inp : Inp F where
  x d := iblk m d 0 t0_0
  wq d := iblk m d 1 t0_0
  ks d := V m d main_v1
  vs d := V m d main_v2
  wo d := iblk m d 2 t0_0

/-! ## The kernel's own semaphores -/

abbrev B : Type := Fin 4 × Fin 3

/-- The copies' semaphores, the sends' and the receives'. -/
def osem : (Fin 4 × Fin 8) ⊕ (B ⊕ B) → SemLoc sig
  | .inl b => .dma (cSem b.1 b.2)
  | .inr (.inl b) => .dma (sSem b.1 b.2)
  | .inr (.inr b) => .dma (rSem b.1 b.2)

set_option maxHeartbeats 2000000 in
theorem osem_facts : Pipeline.OwnSemFacts spec0 osem := by decide +kernel

theorem ownSems0_eq (c : Dev nD) : (Pipeline.ownSems0 osem c : sProp 𝕄)
    = iprop((bigSep Finset.univ fun b : Fin 4 × Fin 8 => copySem c b)
      ∗ (bigSep Finset.univ fun b : B => semVal (sCell b.1 b.2 c) 0) ∗ (bigSep Finset.univ fun b : B => semVal (rCell b.1 b.2 c) 0)) := by
  unfold Pipeline.ownSems0
  refine (BI.bigSep_univ_sum _).trans ?_
  rw [BI.bigSep_univ_sum (fun b : B ⊕ B => (semVal ((c : Thread nD τ), osem (.inr b)) 0 : sProp 𝕄))]
  rfl

/-! ## What launch keeps for the region -/

section Kept
variable (val : Vals F)

/-- A transfer's cells before they are open. -/
def shut (k : Fin 4) (s : Fin 3) (c : Dev nD) : sProp 𝕄 :=
  iprop((∃ κ₁ κ₂ κ₃, cellInv ER (Rd val) κ₁ (sCell k s c) ∗ cellInv ER (Rd val) κ₂ (rCell k s (peer s c)) ∗ cellInv ER (Rd val) κ₃ (rCell k s c))
    ∗ openTok ER (sCell k s c) ∗ openTok ER (rCell k s c) ∗ dutyTok ER (sCell k s c) 0 0 ∗ dutyTok ER (rCell k s (peer s c)) 0 0
    ∗ cred (tallyAt (rCell k s c) () N))

def Tk (c : Dev nD) : sProp 𝕄 :=
  iprop(barTok val 0 c ∗ barTok val 1 c ∗ barTok val 2 c ∗ barWait val c ∗ bigSep Finset.univ fun b : B => shut val b.1 b.2 c)
def Xk (c : Dev nD) : sProp 𝕄 :=
  iprop(barTok val 0 c ∗ barTok val 1 c ∗ barTok val 2 c ∗ barWait val c ∗ (bigSep Finset.univ fun b : Fin 4 × Fin 3 => opened val b.1 b.2 c)
    ∗ (bigSep Finset.univ fun b : Fin 4 × Fin 8 => copySem c b) ∗ levAts L lv)
def Yk (c : Dev nD) : sProp 𝕄 := semVal (barCell c) 0

theorem open_one (c : Dev nD) (k : Fin 4) (s : Fin 3) :
    iprop(shut val k s c ∗ semVal (sCell k s c) 0 ∗ semVal (rCell k s c) 0) ⊢ (|={Set.univ}=> opened val k s c : sProp 𝕄) := by
  unfold shut opened sendPre sendWait recvWait
  iintro ⟨⟨⟨%κ₁, %κ₂, %κ₃, #H1, #H2, #H3⟩, HoS, HoR, HtS, HtR, Hc⟩, HvS, HvR⟩
  imod (Rounds.cell_open ER (Rd val) (g := sCell k s c) (Set.mem_univ κ₁)) $$ [HoS HvS] with ⟨HaS, #HrS⟩
  · isplitr; · iexact H1
    isplitl [HoS] <;> iassumption
  imod (Rounds.cell_open ER (Rd val) (g := rCell k s c) (Set.mem_univ κ₃)) $$ [HoR HvR] with ⟨HaR, #HrR⟩
  · isplitr; · iexact H3
    isplitl [HoR] <;> iassumption
  imodintro
  isplitl [HtS HtR]
  · iexists κ₁, κ₂
    isplitr; · iexact H1
    isplitr; · iexact H2
    isplitr; · iexact HrS
    isplitl [HtS] <;> iassumption
  isplitl [HaS]
  · iexists κ₁
    isplitr; · iexact H1
    iexact HaS
  isplitl [Hc HaR]
  · iexists κ₃
    isplitr; · iexact H3
    isplitl [Hc] <;> iassumption
  iexact HrR

theorem open_all (c : Dev nD) :
    iprop((bigSep Finset.univ fun b : B => shut val b.1 b.2 c) ∗ (bigSep Finset.univ fun b : B => semVal (sCell b.1 b.2 c) 0)
      ∗ (bigSep Finset.univ fun b : B => semVal (rCell b.1 b.2 c) 0))
    ⊢ (|={Set.univ}=> bigSep Finset.univ fun b : B => opened val b.1 b.2 c : sProp 𝕄) := by
  have h : (bigSep Finset.univ fun b : B => iprop(shut val b.1 b.2 c ∗ semVal (sCell b.1 b.2 c) 0 ∗ semVal (rCell b.1 b.2 c) 0))
      ⊢ (|={Set.univ}=> bigSep Finset.univ fun b : B => opened val b.1 b.2 c : sProp 𝕄) :=
    (bigSep_mono fun b _ => open_one val c b.1 b.2).trans (BI.bigSep_fupd _ _)
  rw [bigSep_sep', bigSep_sep'] at h
  exact h

theorem hopen (c : Dev nD) : iprop(Tk val c ∗ Pipeline.ownSems0 osem c ∗ levAts L lv) ⊢ (|={Set.univ}=> Xk val c : sProp 𝕄) := by
  rw [ownSems0_eq]
  unfold Tk Xk
  iintro ⟨⟨H0, H1, H2, Hw, Hs⟩, ⟨Hc, HvS, HvR⟩, Hlev⟩
  imod (open_all val c) $$ [Hs HvS HvR] with Ho
  · isplitl [Hs]; · iexact Hs
    isplitl [HvS] <;> iassumption
  imodintro
  isplitl [H0]; · iexact H0
  isplitl [H1]; · iexact H1
  isplitl [H2]; · iexact H2
  isplitl [Hw]; · iexact Hw
  isplitl [Ho]; · iexact Ho
  isplitl [Hc] <;> iassumption

end Kept

/-! ## The proof data -/

abbrev v1Pts (c : Dev nD) : sProp 𝕄 := (Memref.whole main_v1).view.loc (c : Thread nD τ) ↦[Finset.univ]{fullShare} ((inp m).ks c)
abbrev v2Pts (c : Dev nD) : sProp 𝕄 := (Memref.whole main_v2).view.loc (c : Thread nD τ) ↦[Finset.univ]{fullShare} ((inp m).vs c)

/-- The scratch buffers, at contents not chosen. -/
def scratch (c : Dev nD) : sProp 𝕄 := Pipeline.scopedRest spec0 c

def Φ₀ (c : Dev nD) : sProp 𝕄 :=
  iprop(Xk (valOf (inp m)) c ∗ (v1Pts m c ∗ v2Pts m c) ∗ scratch c ∗ ∃ r, prngReg c r)
def Φ₁ (c : Dev nD) : sProp 𝕄 :=
  iprop(Yk c ∗ Pipeline.ownSems0 osem c ∗ (v1Pts m c ∗ v2Pts m c) ∗ scratch c ∗ ∃ r, prngReg c r)

def dat (c : Dev nD) : Dat τ (Elt F) Unit ℕ UU ℕ cfg0 c where
  A w := V m c (Pipeline.arrRef spec0 w)
  after := fun | 0 => fun t => iblk m c 0 t | 1 => fun t => iblk m c 1 t | 2 => fun t => iblk m c 2 t | 3 => fun _ => outV (inp m) c
               | ⟨_ + 4, h⟩ => absurd h (Nat.not_lt.2 (Nat.le_add_left _ _))
  Φ t := if t.val = 0 then Φ₀ m c else Φ₁ m c
  q _ := fullShare
  owed t := if t.val = 0 then owedB_0 c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (dat (F := F) m c).owed 0 = owedB_0 c := by
  show (if ((0 : Fin (cfg0.N + 1)).val = 0) then owedB_0 c else 0) = owedB_0 c; exact if_pos rfl
theorem owed_first (c : Dev nD) : (dat (F := F) m c).owed t0_0.castSucc = owedB_0 c := by
  show (if (t0_0.castSucc : Fin (cfg0.N + 1)).val = 0 then owedB_0 c else 0) = owedB_0 c; exact if_pos rfl
theorem owed_last (c : Dev nD) : (dat (F := F) m c).owed (Fin.last _) = 0 := by
  show (if (Fin.last cfg0.N).val = 0 then owedB_0 c else 0) = 0
  rw [Fin.val_last, if_neg (by rw [show cfg0.N = 1 from N_0]; decide)]
theorem owed_succ (c : Dev nD) : (dat (F := F) m c).owed t0_0.succ = 0 := by
  show (if (t0_0.succ : Fin (cfg0.N + 1)).val = 0 then owedB_0 c else 0) = 0; exact if_neg (by rw [Fin.val_succ]; omega)
theorem Φ_zero (c : Dev nD) : (dat m c).Φ 0 = Φ₀ m c := by
  show (if ((0 : Fin (cfg0.N + 1)).val = 0) then Φ₀ m c else Φ₁ m c) = _; exact if_pos rfl
theorem Φ_first (c : Dev nD) : (dat m c).Φ t0_0.castSucc = Φ₀ m c := by
  show (if ((t0_0.castSucc : Fin (cfg0.N + 1)).val = 0) then Φ₀ m c else Φ₁ m c) = _; exact if_pos rfl
theorem Φ_succ (c : Dev nD) : (dat m c).Φ t0_0.succ = Φ₁ m c := by
  show (if ((t0_0.succ : Fin (cfg0.N + 1)).val = 0) then Φ₀ m c else Φ₁ m c) = _; exact if_neg (by rw [Fin.val_succ]; omega)
theorem Φ_last (c : Dev nD) : (dat m c).Φ (Fin.last _) = Φ₁ m c := by
  show (if (Fin.last cfg0.N).val = 0 then Φ₀ m c else Φ₁ m c) = _
  rw [Fin.val_last, if_neg (by rw [show cfg0.N = 1 from N_0]; decide)]

theorem owes_in (c : Dev nD) : ((dat (F := F) m c).owesAt () t0_0.castSucc : sProp 𝕄) ⊢ iprop(∃ W, owes (c : Thread nD τ) (owedB_0 c) W) := by
  unfold Dat.owesAt Pipeline.owesWithin; rw [owed_first]
  iintro ⟨%W, -, HO⟩; iexists W; iexact HO
theorem owes_out (c : Dev nD) : iprop(∃ W, owes (c : Thread nD τ) (0 : CellTallies nD τ sig Unit) W) ⊢ ((dat (F := F) m c).owesAt () t0_0.succ : sProp 𝕄) := by
  unfold Dat.owesAt Pipeline.owesWithin Dat.bound; rw [owed_succ]
  iintro ⟨%W, HO⟩; iexists W; isplitr; · ipureintro; exact fun _ _ => Or.inl trivial
  iexact HO

/-- An input window's staging buffer before the body holds its block. -/
theorem before_0 (c : Dev nD) (d) : (dat m c).before 0 t0_0 d = (inp m).x c :=
  ((dat m c).before_in_eq_fetched 0 rfl (fun _ => rfl) (fun _ _ _ => rfl) (fun t => by
    show iblk m c 0 t = _; unfold Dat.blockOf iblk; rfl) t0_0 d).trans (by unfold Dat.fetched Dat.blockOf; rfl)
theorem before_1 (c : Dev nD) (d) : (dat m c).before 1 t0_0 d = (inp m).wq c :=
  ((dat m c).before_in_eq_fetched 1 rfl (fun _ => rfl) (fun _ _ _ => rfl) (fun t => by
    show iblk m c 1 t = _; unfold Dat.blockOf iblk; rfl) t0_0 d).trans (by unfold Dat.fetched Dat.blockOf; rfl)
theorem before_2 (c : Dev nD) (d) : (dat m c).before 2 t0_0 d = (inp m).wo c :=
  ((dat m c).before_in_eq_fetched 2 rfl (fun _ => rfl) (fun _ _ _ => rfl) (fun t => by
    show iblk m c 2 t = _; unfold Dat.blockOf iblk; rfl) t0_0 d).trans (by unfold Dat.fetched Dat.blockOf; rfl)

/-- A whole buffer owned, as its points-to. -/
theorem owns_whole (c : Dev nD) (b : Ref sig .tc) (X) :
    (owns (c : Thread nD τ) (Memref.whole b) fullShare X : sProp 𝕄) = ((Memref.whole b).view.loc (c : Thread nD τ) ↦[Finset.univ]{fullShare} X) := by
  have h₁ : (owns (c : Thread nD τ) (Memref.whole b) fullShare X : sProp 𝕄) ⊢ ((Memref.whole b).view.loc (c : Thread nD τ) ↦[Finset.univ]{fullShare} X) := by
    unfold owns
    simp only [Memref.view_whole, View.read_whole, View.set_whole]
    iintro ⟨%f, %h, H⟩; subst h; iexact H
  have h₂ : ((Memref.whole b).view.loc (c : Thread nD τ) ↦[Finset.univ]{fullShare} X : sProp 𝕄) ⊢ owns (c : Thread nD τ) (Memref.whole b) fullShare X := by
    unfold owns
    simp only [Memref.view_whole, View.read_whole, View.set_whole]
    iintro H; iexists X; isplitr; · ipureintro; rfl
    iexact H
  exact BI.equiv_iff.mp ⟨h₁, h₂⟩

/-! ## The body obligation -/

abbrev stg0Pts (c : Dev nD) (f : Buf (Elt F) ((c : Thread nD τ).loc cc0_stg0_0)) : sProp 𝕄 := (Memref.whole cc0_stg0_0).view.loc (c : Thread nD τ) ↦[Finset.univ]{fullShare} f
abbrev stg1Pts (c : Dev nD) (f : Buf (Elt F) ((c : Thread nD τ).loc cc0_stg1_0)) : sProp 𝕄 := (Memref.whole cc0_stg1_0).view.loc (c : Thread nD τ) ↦[Finset.univ]{fullShare} f
abbrev stg2Pts (c : Dev nD) (f : Buf (Elt F) ((c : Thread nD τ).loc cc0_stg2_0)) : sProp 𝕄 := (Memref.whole cc0_stg2_0).view.loc (c : Thread nD τ) ↦[Finset.univ]{fullShare} f
abbrev stg3Pts (c : Dev nD) (f : Buf (Elt F) ((c : Thread nD τ).loc cc0_stg3_0)) : sProp 𝕄 := (Memref.whole cc0_stg3_0).view.loc (c : Thread nD τ) ↦[Finset.univ]{fullShare} f

/-- From the region's resources to the body's, the contents of the scratch and the result chosen. -/
theorem enter (c : Dev nD) :
    iprop(Φ₀ m c ∗ (∃ W, owes (c : Thread nD τ) (owedB_0 c) W) ∗ stg0Pts c ((inp m).x c) ∗ stg1Pts c ((inp m).wq c) ∗ stg2Pts c ((inp m).wo c)
      ∗ ∃ f, stg3Pts c f)
    ⊢ iprop(∃ W f6 f7 f8 f9 f10 f11 out, (levAts L lv ∗ wrapPre (inp m) c W f6 f7 f8 f9 f10 f11 out) ∗ ∃ r, prngReg c r) := by
  unfold Φ₀ Xk scratch wrapPre
  rw [scopedRest0_eq]
  iintro ⟨⟨⟨Hb0, Hb1, Hb2, Hw, Hop, Hcp, Hlev⟩, ⟨Hv1, Hv2⟩, ⟨⟨%f6, H6⟩, ⟨%f7, H7⟩, ⟨%f8, H8⟩, ⟨%f9, H9⟩, ⟨%f10, H10⟩, ⟨%f11, H11⟩⟩, Hp⟩, ⟨%W, HO⟩, Hx, Hwq, Hwo, ⟨%out, Hout⟩⟩
  iexists W, f6, f7, f8, f9, f10, f11, out
  isplitr [Hp]
  · isplitl [Hlev]; · iexact Hlev
    isplitl [Hb0]; · iexact Hb0
    isplitl [Hb1]; · iexact Hb1
    isplitl [Hb2]; · iexact Hb2
    isplitl [Hw]; · iexact Hw
    isplitl [Hop]; · iexact Hop
    isplitl [HO]; · iexact HO
    isplitl [Hv1]; · iexact Hv1
    isplitl [Hv2]; · iexact Hv2
    isplitl [Hcp]; · iexact Hcp
    isplitl [H6]; · iexact H6
    isplitl [H10]; · iexact H10
    isplitl [H11]; · iexact H11
    isplitl [Hx]; · iexact Hx
    isplitl [Hwq]; · iexact Hwq
    isplitl [Hwo]; · iexact Hwo
    isplitl [Hout]; · iexact Hout
    isplitl [H7]; · iexact H7
    isplitl [H8]; · iexact H8
    iexact H9
  iexact Hp

/-- And back. -/
theorem leave (c : Dev nD) :
    iprop(wrapPost (inp m) c ∗ ∃ r, prngReg c r)
    ⊢ iprop(Φ₁ m c ∗ (∃ W, owes (c : Thread nD τ) (0 : CellTallies nD τ sig Unit) W) ∗ stg0Pts c ((inp m).x c) ∗ stg1Pts c ((inp m).wq c)
      ∗ stg2Pts c ((inp m).wo c) ∗ stg3Pts c (outV (inp m) c)) := by
  unfold Φ₁ Yk scratch wrapPost
  rw [scopedRest0_eq, ownSems0_eq]
  iintro ⟨⟨Hv1, Hv2, Hbar, Hcp, HsS, HsR, H6, H7, H8, H9, H10, H11, Hx, Hwq, Hwo, Hout, HO⟩, Hp⟩
  isplitl [Hv1 Hv2 Hbar Hcp HsS HsR H6 H7 H8 H9 H10 H11 Hp]
  · isplitl [Hbar]; · iexact Hbar
    isplitl [Hcp HsS HsR]
    · isplitl [Hcp]; · iexact Hcp
      isplitl [HsS] <;> iassumption
    isplitl [Hv1 Hv2]; · isplitl [Hv1] <;> iassumption
    isplitl [H6 H7 H8 H9 H10 H11]
    · isplitl [H6]; · iexact H6
      isplitl [H7]; · iexact H7
      isplitl [H8]; · iexact H8
      isplitl [H9]; · iexact H9
      isplitl [H10]; · iexact H10
      iexact H11
    iexact Hp
  isplitl [HO]; · iexact HO
  isplitl [Hx]; · iexact Hx
  isplitl [Hwq]; · iexact Hwq
  isplitl [Hwo] <;> iassumption

/-- The body between the region's resources. -/
theorem sound (c : Dev nD) :
    iprop(Φ₀ m c ∗ (∃ W, owes (c : Thread nD τ) (owedB_0 c) W) ∗ stg0Pts c ((inp m).x c) ∗ stg1Pts c ((inp m).wq c) ∗ stg2Pts c ((inp m).wo c)
      ∗ ∃ f, stg3Pts c f)
    ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8)
      (fun _ => iprop(Φ₁ m c ∗ (∃ W, owes (c : Thread nD τ) (0 : CellTallies nD τ sig Unit) W) ∗ stg0Pts c ((inp m).x c) ∗ stg1Pts c ((inp m).wq c)
        ∗ stg2Pts c ((inp m).wo c) ∗ stg3Pts c (outV (inp m) c))) := by
  refine (enter m c).trans ?_
  iintro ⟨%W, %f6, %f7, %f8, %f9, %f10, %f11, %out, H⟩
  iapply ((sep_mono_left (wrap_run (inp m) c W f6 f7 f8 f9 f10 f11 out)).trans ((wp_frame_r _ _ _).trans (wp_mono _ _ _ fun _ => leave m c)))
  iexact H

/-- What the pipeline asks of the body: its windows' staging buffers as they are, before and after. -/
def obIn (c : Dev nD) : sProp 𝕄 :=
  iprop((dat m c).Φ t0_0.castSucc ∗ (dat m c).owesAt () t0_0.castSucc
    ∗ (∃ d, owns (c : Thread nD τ) (Memref.whole cc0_stg0_0) fullShare ((dat m c).before 0 t0_0 d))
    ∗ (∃ d, owns (c : Thread nD τ) (Memref.whole cc0_stg1_0) fullShare ((dat m c).before 1 t0_0 d))
    ∗ (∃ d, owns (c : Thread nD τ) (Memref.whole cc0_stg2_0) fullShare ((dat m c).before 2 t0_0 d))
    ∗ (∃ d, owns (c : Thread nD τ) (Memref.whole cc0_stg3_0) fullShare ((dat m c).before 3 t0_0 d)))
def obOut (c : Dev nD) : sProp 𝕄 :=
  iprop((dat m c).Φ t0_0.succ ∗ (dat m c).owesAt () t0_0.succ
    ∗ owns (c : Thread nD τ) (Memref.whole cc0_stg0_0) fullShare ((inp m).x c)
    ∗ owns (c : Thread nD τ) (Memref.whole cc0_stg1_0) fullShare ((inp m).wq c)
    ∗ owns (c : Thread nD τ) (Memref.whole cc0_stg2_0) fullShare ((inp m).wo c)
    ∗ owns (c : Thread nD τ) (Memref.whole cc0_stg3_0) fullShare (outV (inp m) c))

theorem obIn_elim (c : Dev nD) : obIn m c ⊢ iprop(Φ₀ m c ∗ (∃ W, owes (c : Thread nD τ) (owedB_0 c) W) ∗ stg0Pts c ((inp m).x c)
    ∗ stg1Pts c ((inp m).wq c) ∗ stg2Pts c ((inp m).wo c) ∗ ∃ f, stg3Pts c f) := by
  unfold obIn
  rw [Φ_first]
  simp only [before_0, before_1, before_2, owns_whole]
  iintro ⟨HΦ, HO, ⟨%d0, H0⟩, ⟨%d1, H1⟩, ⟨%d2, H2⟩, ⟨%d3, H3⟩⟩
  isplitl [HΦ]; · iexact HΦ
  isplitl [HO]; · iapply (owes_in m c); iexact HO
  isplitl [H0]; · iexact H0
  isplitl [H1]; · iexact H1
  isplitl [H2]; · iexact H2
  iexists _; iexact H3
theorem obOut_intro (c : Dev nD) : iprop(Φ₁ m c ∗ (∃ W, owes (c : Thread nD τ) (0 : CellTallies nD τ sig Unit) W) ∗ stg0Pts c ((inp m).x c)
    ∗ stg1Pts c ((inp m).wq c) ∗ stg2Pts c ((inp m).wo c) ∗ stg3Pts c (outV (inp m) c)) ⊢ obOut m c := by
  unfold obOut
  rw [Φ_succ]
  simp only [owns_whole]
  iintro ⟨HΦ, HO, H0, H1, H2, H3⟩
  isplitl [HΦ]; · iexact HΦ
  isplitl [HO]; · iapply (owes_out m c); iexact HO
  isplitl [H0]; · iexact H0
  isplitl [H1]; · iexact H1
  isplitl [H2]; · iexact H2
  iexact H3

theorem ob (c : Dev nD) : obIn m c ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) (fun _ => obOut m c) :=
  (obIn_elim m c).trans ((sound m c).trans (wp_mono _ _ _ fun _ => obOut_intro m c))

theorem prog_eq : defs₀ (F := F) Proc.tc cfg0.body (cfg0.bodyArgs t0_0 (cfg0.slots t0_0)) = (cc0__body (Memref.whole cc0_stg0_0) (Memref.isWhole_whole _) (Memref.whole cc0_stg1_0) (Memref.isWhole_whole _) (Memref.whole main_v1) (Memref.isWhole_whole _) (Memref.whole main_v2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8) := rfl
theorem stg_0 : (cfg0.win 0).stage (cfg0.slots t0_0 0) = Memref.whole cc0_stg0_0 := rfl
theorem stg_1 : (cfg0.win 1).stage (cfg0.slots t0_0 1) = Memref.whole cc0_stg1_0 := rfl
theorem stg_2 : (cfg0.win 2).stage (cfg0.slots t0_0 2) = Memref.whole cc0_stg2_0 := rfl
theorem stg_3 : (cfg0.win 3).stage (cfg0.slots t0_0 3) = Memref.whole cc0_stg3_0 := rfl
theorem aft_0 (c : Dev nD) : (dat m c).after 0 t0_0 = (inp m).x c := by dsimp only [dat]; rfl
theorem aft_3 (c : Dev nD) : (dat m c).after 3 t0_0 = outV (inp m) c := by dsimp only [dat]
theorem body_ob (c : Dev nD) : BodyObligation (dat m c) (defs₀ (F := F)) 𝒱₀ () Set.univ := fun t => by
  obtain rfl := fin_N0 t
  rw [bigSep_W0, bigSep_W0, prog_eq, aft_3]
  refine (show _ ⊢ obIn m c from Entails.of_eq rfl).trans ((ob m c).trans (wp_mono _ _ _ fun _ => show obOut m c ⊢ _ from Entails.of_eq rfl))

/-! ## The segment -/

def bufs : Finset (DevRef τ sig) := (StableHlo.tcRefs τ sig).filter fun b => ¬ b.isScoped
abbrev arrs : Finset (DevRef τ sig) := Pipeline.arrRefs (τ := τ) spec0
/-- The buffers no window stages, and the two of them the body reads. -/
abbrev rest : Finset (DevRef τ sig) := bufs \ arrs
abbrev kv : Finset (DevRef τ sig) := {Proc.devRef .tc main_v1, Proc.devRef .tc main_v2}
theorem arrs_sub : arrs ⊆ bufs := by decide
theorem kv_sub : kv ⊆ rest := by decide

/-- The buffers when the region is left. -/
def V₂ (c : Dev nD) : Valuation τ sig (Elt F) :=
  Function.update (V₁ m c) (Proc.devRef .tc main_v3) ((dat m c).arrAt 3 cfg0.N)

theorem V₂_v3 (c : Dev nD) : V₂ m c (Proc.devRef .tc main_v3) = (dat m c).arrAt 3 cfg0.N := Function.update_self ..
theorem V₂_ne (c : Dev nD) {b : DevRef τ sig} (h : b ≠ Proc.devRef .tc main_v3) : V₂ m c b = V₁ m c b := Function.update_of_ne h ..

theorem held_kv (c : Dev nD) (W : Valuation τ sig (Elt F)) : (StableHlo.held (c : Thread nD τ) kv W : sProp 𝕄)
    = iprop(((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_v1, Proc.devRef .tc main_v2] (by decide) (by decide)]
  rfl

theorem hin (c : Dev nD) : iprop(Pipeline.scopedRest (Pipeline.pin (pcfgs (F := F)) adm 0).spec c ∗ (∃ r, prngReg c r) ∗ StableHlo.held (c.tc : Thread nD τ) kv (V₁ m c) ∗ Xk (valOf (inp m)) c)
    ⊢ (pdats m 0 c).Φ 0 := by
  rw [show (pdats m 0 c).Φ 0 = Φ₀ m c from Φ_zero m c, held_kv]
  unfold Φ₀ scratch
  iintro ⟨Hs, Hp, Hkv, HX⟩
  isplitl [HX]; · iexact HX
  isplitl [Hkv]; · iexact Hkv
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) kv (V₂ m c) ∗ Pipeline.ownSems0 osem c ∗ Yk c) := by
  rw [show (pdats m 0 c).Φ (Fin.last _) = Φ₁ m c from Φ_last m c, held_kv, V₂_ne m c (by decide), V₂_ne m c (by decide)]
  unfold Φ₁ scratch
  iintro ⟨HY, Ho, Hkv, Hs, Hp⟩
  isplitl [Hs]; · iexact Hs
  isplitl [Hp]; · iexact Hp
  isplitl [Hkv]; · iexact Hkv
  isplitl [Ho] <;> iassumption

/-! ### What is owed, as a sum -/

theorem owedB_eq (d : Dev nD) : owedB_0 d
    = (∑ b : B, tallyAt (rCell b.1 b.2 (peer b.2 d)) () N) + ∑ s : Fin 3, tallyAt (barCell (peer s d)) () 1 := by
  rw [Fintype.sum_prod_type]
  simp only [Fin.sum_univ_four, Fin.sum_univ_three]
  unfold owedB_0 owedB_1 owedB_2 owed_0 owed_1 owed_2 owed_3 owed_4 owed_5 owed_6 owed_7 owed_8 owed_9 owed_10 owed_11 owed_12
  rw [zero_add]
  ac_rfl

theorem owed_pos {c : Dev nD} {g : GSem nD τ sig} {u : Unit} (h : 0 < owedB_0 c g u) : (∃ b : B, g = rCell b.1 b.2 (peer b.2 c)) ∨ ∃ s, g = barCell (peer s c) := by
  rw [owedB_eq, Pi.add_apply, Finsupp.add_apply, Finset.sum_apply, Finset.sum_apply, Finsupp.finset_sum_apply, Finsupp.finset_sum_apply] at h
  simp only [tallyAt_apply] at h
  rcases Nat.add_pos_iff_pos_or_pos.mp h with h | h
  · obtain ⟨b, -, hb⟩ := Finset.exists_ne_zero_of_sum_ne_zero h.ne'
    by_cases hg : g = rCell b.1 b.2 (peer b.2 c)
    · exact .inl ⟨b, hg⟩
    · exact absurd (if_neg fun h => hg h.1) hb
  · obtain ⟨s, -, hs⟩ := Finset.exists_ne_zero_of_sum_ne_zero h.ne'
    by_cases hg : g = barCell (peer s c)
    · exact .inr ⟨s, hg⟩
    · exact absurd (if_neg fun h => hg h.1) hs

theorem lv_bar (c : Dev nD) : lv (barCell c) () = 1 := rfl
theorem lv_recv (k : Fin 4) (s : Fin 3) (c : Dev nD) : 0 < lv (rCell k s c) () := by
  unfold lv; dsimp only; rw [if_pos (isRecv_rSem k s)]; omega

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owedB_0 c else 0 := rfl
  rw [e] at h
  split at h
  · rcases owed_pos h with ⟨b, rfl⟩ | ⟨s, rfl⟩
    · exact ⟨by rw [L_tc]; exact Finset.mem_singleton_self _, lv_recv ..⟩
    · exact ⟨by rw [L_tc]; exact Finset.mem_singleton_self _, by rw [lv_bar]; decide⟩
  · exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w) : (pdats (F := F) m 0 c).share w = fullShare := by
  show (dat (F := F) m c).share w = fullShare
  unfold Dat.share; split <;> rfl

theorem lv_stage : ∀ (w : Fin 4) (s : Fin (spec0 w).nbuf), isRecv ((spec0 w).sem s) = false := by decide

theorem arrAt_end (c : Dev nD) (w : Fin 4) : (dat (F := F) m c).arrAt w cfg0.N = V₂ m c (Proc.devRef .tc (Pipeline.arrRef spec0 w)) := by
  match w with
  | 0 => exact ((dat (F := F) m c).arrAt_in 0 rfl _).trans (V₂_ne m c (b := Proc.devRef .tc (Pipeline.arrRef spec0 0)) (by decide)).symm
  | 1 => exact ((dat (F := F) m c).arrAt_in 1 rfl _).trans (V₂_ne m c (b := Proc.devRef .tc (Pipeline.arrRef spec0 1)) (by decide)).symm
  | 2 => exact ((dat (F := F) m c).arrAt_in 2 rfl _).trans (V₂_ne m c (b := Proc.devRef .tc (Pipeline.arrRef spec0 2)) (by decide)).symm
  | 3 => exact (V₂_v3 m c).symm

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the region. -/
def R (c : Dev nD) : sProp 𝕄 :=
  iprop(Tk (valOf (inp m)) c ∗ (∃ r, prngReg c r) ∗ ∃ W, owes (c : Thread nD τ) (owedB_0 c) W)

theorem ops_sub : ∀ op ∈ (hostOps0 : List (HloOp τ sig (Elt F))), op.bufs ⊆ bufs := fun op h => by
  simp only [hostOps0, List.mem_cons, List.mem_nil_iff, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide

/-- The two reshapes. -/
def seg0 : ℍ := Pipeline.HostSeg.ofOps _ _ _ _ _ bufs hostOps0 ops_sub (List.forall_iff_forall_mem.mp hostOps0_fresh) (V₀ m) (R m)

set_option backward.isDefEq.respectTransparency.types false in
def reg0 : ℝ𝕊 0 :=
  Pipeline.RegionSeg.ofTalk (pcfgs (F := F)) adm (pdats m) () defs₀ 𝒱₀ L lv 0 osem osem_facts
    kv rest kv_sub kitP rfl (fun c => (body_ob m c).loose)
    (fun _ => 0) owedB_0 (fun c => (owed_zero m c).trans (zero_add _).symm) (owed_last m) (fun _ => rfl) (share_full m)
    (V₁ m) (V₂ m) (fun c b hb => V₂_ne m c fun e => by subst e; exact absurd hb (by decide))
    (Tk (valOf (inp m))) Yk (Xk (valOf (inp m))) Yk (hopen (valOf (inp m))) (hin m) (hout m)
    (fun c => by iintro H; imodintro; iexact H)
    (fun _ => 0)
    ⟨fun c w s => by rw [L_tc]; exact Finset.mem_singleton_self _,
     fun c w s => (show lv _ _ ≤ 0 from by unfold lv; dsimp only; rw [if_neg (by rw [show isRecv _ = false from lv_stage w s]; decide)]),
     fun c t g i h => cutD m c t g i h⟩
    (fun _ => iprop(emp))
    (fun _ _ => rfl) (fun c w => arrAt_end m c w)

end Cert.KernelIdeal.Pf

end
-- ==== Proof.Launch.lean ====
/-
# The launch

Every cell's invariant is set up before the program starts: the barrier cells with their counters, the send and receive cells
shut, to be opened when the region brings their counters. The tokens go to the devices that pay with them.
-/
module

public import proofs.«01_k».proof.Proof.Region

@[expose] public section

set_option maxRecDepth 16384

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's ends -/

theorem reg_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ Tk (valOf (inp m)) c ∗ ∃ Wd, owes (c : Thread nD τ) (0 + owedB_0 c) Wd)
  rw [zero_add, StableHlo.held_sub_split (c : Thread nD τ) arrs_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [StableHlo.held_sub_split (c : Thread nD τ) arrs_sub (V₂ m c)]
  unfold Yk
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

/-! ## The cells and the tokens -/

theorem osem_inj : Function.Injective (fun b : B ⊕ B => osem (.inr b)) := by decide +kernel
theorem osem_ne_bar : ∀ b : B ⊕ B, osem (.inr b) ≠ .reg barS := by decide +kernel
theorem recv_ne_bar : ∀ b : B, (SemLoc.dma (rSem b.1 b.2) : SemLoc sig) ≠ .reg barS := by decide +kernel
theorem rSem_inj : Function.Injective (fun b : B => (SemLoc.dma (rSem b.1 b.2) : SemLoc sig)) := by decide +kernel

theorem dev_of_cell {c d : Dev nD} {a b : SemLoc sig} (h : (((c : Thread nD τ), a) : GSem nD τ sig) = ((d : Thread nD τ), b)) : c = d :=
  congrArg (fun g : GSem nD τ sig => g.1.1) h

def barEmb : Dev nD ↪ GSem nD τ sig := ⟨fun c => barCell c, fun _ _ h => dev_of_cell h⟩
def xEmb : Dev nD × (B ⊕ B) ↪ GSem nD τ sig :=
  ⟨fun x => ((x.1 : Thread nD τ), osem (.inr x.2)), fun x y h => Prod.ext (dev_of_cell h) (osem_inj (congrArg Prod.snd h))⟩

/-- The barrier cells, live; the transfers' cells, shut. -/
abbrev barCells : Finset (GSem nD τ sig) := Finset.univ.map barEmb
abbrev xCells : Finset (GSem nD τ sig) := Finset.univ.map xEmb

/-- A device's duties: three on its barrier cell, one on each transfer cell. -/
def duty : Fin 3 ⊕ (B ⊕ B) → SemLoc sig × Fin 3
  | .inl s => (.reg barS, s)
  | .inr b => (osem (.inr b), 0)
theorem duty_inj : Function.Injective duty := by decide +kernel
def dutyEmb : Dev nD × (Fin 3 ⊕ (B ⊕ B)) ↪ GSem nD τ sig × ℕ × Fin 3 :=
  ⟨fun x => (((x.1 : Thread nD τ), (duty x.2).1), 0, (duty x.2).2), fun x y h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩
def allToks : Finset (GSem nD τ sig × ℕ × Fin 3) := Finset.univ.map dutyEmb

theorem cells_disjoint : Disjoint (barCells : Finset (GSem nD τ sig)) xCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ xCells : Finset (GSem nD τ sig)) :=
  Finset.mem_union_left _ (Finset.mem_map_of_mem barEmb (Finset.mem_univ c))
theorem send_mem (c : Dev nD) (b : B) : sCell b.1 b.2 c ∈ (barCells ∪ xCells : Finset (GSem nD τ sig)) :=
  Finset.mem_union_right _ (Finset.mem_map_of_mem xEmb (Finset.mem_univ (c, Sum.inl b)))
theorem recv_mem (c : Dev nD) (b : B) : rCell b.1 b.2 c ∈ (barCells ∪ xCells : Finset (GSem nD τ sig)) :=
  Finset.mem_union_right _ (Finset.mem_map_of_mem xEmb (Finset.mem_univ (c, Sum.inr b)))

/-- The ghost state at launch: the staging cells' and the protocol's. -/
def u₀ : UU :=
  (initOf (Pipeline.cells (Pipeline.pin (pcfgs (F := F)) adm) cellOf_inj) (Pipeline.launchToks (Pipeline.pin (pcfgs (F := F)) adm) cellOf_inj),
    (launchOf barCells xCells allToks, 1))

/-- All of a resource on one device. -/
def only (d : Dev nD) (X : sProp 𝕄) (c : Dev nD) : sProp 𝕄 := if c = d then X else iprop(emp)
theorem bigSep_only (d : Dev nD) (X : sProp 𝕄) : bigSep Finset.univ (only d X) = X := by
  rw [bigSep_univ_at _ d, bigSep_congr (s := Finset.univ.erase d) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

def G : Dev nD → sProp 𝕄 := only 0 (BI.own (ER (launchOf barCells xCells allToks)))

/-! ## A device's ghost state -/

section Ghost
variable (val : Vals F)

def records (κ : GSem nD τ sig → ℕ) : sProp 𝕄 :=
  iprop((bigSep (barCells ∪ xCells) fun g => cellInv ER (Rd val) (κ g) g) ∗ bigSep barCells fun g => reached ER g 0)
instance records_persistent (κ : GSem nD τ sig → ℕ) : BI.Persistent (records val κ) := by unfold records; infer_instance

theorem inv_at (κ : GSem nD τ sig → ℕ) {g : GSem nD τ sig} (hg : g ∈ (barCells ∪ xCells : Finset (GSem nD τ sig))) :
    records val κ ⊢ cellInv ER (Rd val) (κ g) g := by
  unfold records
  iintro ⟨H, -⟩
  ihave H' := (show (bigSep (barCells ∪ xCells) fun g => (cellInv ER (Rd val) (κ g) g : sProp 𝕄)) ⊢ cellInv ER (Rd val) (κ g) g from bigSep_elim hg) $$ H
  iexact H'
theorem reached_at (κ : GSem nD τ sig → ℕ) (c : Dev nD) : records val κ ⊢ reached ER (barCell c) 0 := by
  unfold records
  iintro ⟨-, H⟩
  ihave H' := (show (bigSep barCells fun g => (reached ER g 0 : sProp 𝕄)) ⊢ reached ER (barCell c) 0
    from bigSep_elim (Finset.mem_map_of_mem barEmb (Finset.mem_univ c))) $$ H
  iexact H'

/-- What stays with a device for one transfer, beside the invariants. -/
def xlin (c : Dev nD) (b : B) : sProp 𝕄 :=
  iprop(openTok ER (sCell b.1 b.2 c) ∗ openTok ER (rCell b.1 b.2 c) ∗ dutyTok ER (sCell b.1 b.2 c) 0 0 ∗ dutyTok ER (rCell b.1 b.2 (peer b.2 c)) 0 0
    ∗ cred (tallyAt (rCell b.1 b.2 c) () N))

theorem shut_intro (κ : GSem nD τ sig → ℕ) (c : Dev nD) (b : B) : iprop(records val κ ∗ xlin c b) ⊢ shut val b.1 b.2 c := by
  unfold shut xlin
  iintro ⟨#HR, Ho, Ho', Ht, Ht', Hc⟩
  isplitr
  · iexists _, _, _
    isplitr; · iapply (inv_at val κ (send_mem c b)); iexact HR
    isplitr; · iapply (inv_at val κ (recv_mem (peer b.2 c) b)); iexact HR
    iapply (inv_at val κ (recv_mem c b)); iexact HR
  isplitl [Ho]; · iexact Ho
  isplitl [Ho']; · iexact Ho'
  isplitl [Ht]; · iexact Ht
  isplitl [Ht'] <;> iassumption

def barLin (c : Dev nD) : sProp 𝕄 :=
  iprop(dutyTok ER (barCell (peer 0 c)) 0 0 ∗ dutyTok ER (barCell (peer 1 c)) 0 1 ∗ dutyTok ER (barCell (peer 2 c)) 0 2)

theorem Tk_intro (κ : GSem nD τ sig → ℕ) (c : Dev nD) :
    iprop(records val κ ∗ barLin c ∗ cred (tallyAt (barCell c) () 3) ∗ atPos ER (barCell c) 0 ∅ 0 ∗ bigSep Finset.univ fun b : B => xlin c b) ⊢ Tk val c := by
  unfold Tk barTok barWait barLin
  iintro ⟨#HR, ⟨H0, H1, H2⟩, Hc, Ha, Hx⟩
  isplitl [H0]
  · iexists _
    isplitr; · iapply (inv_at val κ (bar_mem (peer 0 c))); iexact HR
    isplitr; · iapply (reached_at val κ (peer 0 c)); iexact HR
    iexact H0
  isplitl [H1]
  · iexists _
    isplitr; · iapply (inv_at val κ (bar_mem (peer 1 c))); iexact HR
    isplitr; · iapply (reached_at val κ (peer 1 c)); iexact HR
    iexact H1
  isplitl [H2]
  · iexists _
    isplitr; · iapply (inv_at val κ (bar_mem (peer 2 c))); iexact HR
    isplitr; · iapply (reached_at val κ (peer 2 c)); iexact HR
    iexact H2
  isplitl [Hc Ha]
  · iexists _
    isplitr; · iapply (inv_at val κ (bar_mem c)); iexact HR
    isplitl [Hc] <;> iassumption
  iapply (bigSep_with_persistent (R := records val κ) (Φ := fun b => xlin c b) fun b _ => shut_intro val κ c b)
  isplitr; · iexact HR
  iexact Hx

end Ghost

/-! ## The launch credit -/

theorem owed_at_recv (d c : Dev nD) (b : B) : owedB_0 d (rCell b.1 b.2 c) () = if d = peer b.2 c then N else 0 := by
  rw [owedB_eq, Pi.add_apply, Finsupp.add_apply, Finset.sum_apply, Finset.sum_apply, Finsupp.finset_sum_apply, Finsupp.finset_sum_apply]
  rw [Finset.sum_eq_zero (s := Finset.univ (α := Fin 3)) fun s _ => by
    rw [tallyAt_apply, if_neg fun h => recv_ne_bar b (congrArg Prod.snd h.1)], Nat.add_zero]
  rw [Finset.sum_eq_single b (fun b' _ hb => by
    rw [tallyAt_apply, if_neg fun h => hb (rSem_inj (congrArg Prod.snd h.1)).symm]) fun h => absurd (Finset.mem_univ b) h, tallyAt_apply]
  by_cases h : d = peer b.2 c
  · subst h; rw [peer_peer, if_pos ⟨rfl, rfl⟩, if_pos rfl]
  · rw [if_neg h, if_neg fun h' => h (by rw [dev_of_cell h'.1, peer_peer])]

theorem owed_at_bar (d c : Dev nD) : owedB_0 d (barCell c) () = ∑ s : Fin 3, if d = peer s c then 1 else 0 := by
  rw [owedB_eq, Pi.add_apply, Finsupp.add_apply, Finset.sum_apply, Finset.sum_apply, Finsupp.finset_sum_apply, Finsupp.finset_sum_apply]
  rw [Finset.sum_eq_zero (s := Finset.univ (α := B)) fun b _ => by
    rw [tallyAt_apply, if_neg fun h => recv_ne_bar b (congrArg Prod.snd h.1).symm], Nat.zero_add]
  refine Finset.sum_congr rfl fun s _ => ?_
  rw [tallyAt_apply]
  by_cases h : d = peer s c
  · subst h; rw [peer_peer, if_pos ⟨rfl, rfl⟩, if_pos rfl]
  · rw [if_neg h, if_neg fun h' => h (by rw [dev_of_cell h'.1, peer_peer])]

theorem launch_bar (c : Dev nD) :
    tallyOn (barCell c) (launchCredit (Pipeline.owing owedB_0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_comm,
    Finset.sum_congr rfl fun s _ => (Finset.sum_ite_eq' Finset.univ (peer s c) fun _ => 1).trans (if_pos (Finset.mem_univ _))]
  rfl
theorem launch_recv (c : Dev nD) (b : B) :
    tallyOn (rCell b.1 b.2 c) (launchCredit (Pipeline.owing owedB_0) 0 (rCell b.1 b.2 c)) = (tallyAt (rCell b.1 b.2 c) () N : CellTallies nD τ sig Unit) := by
  unfold tallyAt; refine congrArg _ (Finsupp.ext fun u => ?_); cases u
  rw [Pipeline.launchCredit_owing, Finsupp.single_eq_same, Finset.sum_congr rfl fun d _ => owed_at_recv d c b, Finset.sum_ite_eq' Finset.univ (peer b.2 c) fun _ => N,
    if_pos (Finset.mem_univ _)]

def recvEmb : B ↪ SemLoc sig := ⟨fun b => .dma (rSem b.1 b.2), rSem_inj⟩

theorem creds (c : Dev nD) :
    (Pipeline.launchCred owedB_0 c : sProp 𝕄) ⊢ iprop(cred (tallyAt (barCell c) () 3) ∗ bigSep Finset.univ fun b : B => cred (tallyAt (rCell b.1 b.2 c) () N)) := by
  unfold Pipeline.launchCred
  rw [bigSep_univ_at _ (SemLoc.reg barS), launch_bar]
  have hs : Finset.univ.map recvEmb ⊆ (Finset.univ.erase (SemLoc.reg barS) : Finset (SemLoc sig)) := fun x hx => by
    obtain ⟨b, -, rfl⟩ := Finset.mem_map.mp hx
    exact Finset.mem_erase.mpr ⟨recv_ne_bar b, Finset.mem_univ _⟩
  have he : (bigSep (Finset.univ.map recvEmb) fun sm => cred (tallyOn ((c : Thread nD τ), sm) (launchCredit (Pipeline.owing owedB_0) 0 ((c : Thread nD τ), sm))) : sProp 𝕄)
      = bigSep Finset.univ fun b : B => cred (tallyAt (rCell b.1 b.2 c) () N) := by
    rw [bigSep_map]
    exact bigSep_congr fun b _ => congrArg cred (launch_recv c b)
  refine sep_mono_right ?_
  rw [← he]
  exact bigSep_subset hs

/-! ## The start -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The right to open a device's transfer cells. -/
def opens (c : Dev nD) : sProp 𝕄 :=
  iprop((bigSep Finset.univ fun b : B => openTok ER (sCell b.1 b.2 c)) ∗ bigSep Finset.univ fun b : B => openTok ER (rCell b.1 b.2 c))

theorem opens_eq : (bigSep xCells (fun g => openTok ER g) : sProp 𝕄) = bigSep Finset.univ fun c : Dev nD => opens c := by
  rw [bigSep_map, bigSep_univ_prod]
  exact bigSep_congr fun c _ => (BI.bigSep_univ_sum (fun b : B ⊕ B => (openTok ER ((c : Thread nD τ), osem (.inr b)) : sProp 𝕄)))

/-- The devices' barrier tokens, sent round: device `c` gets the `s`-th token of the cell `s` steps away. -/
def barRound : Dev nD × Fin 3 ≃ Dev nD × Fin 3 := ⟨fun x => (peer x.2 x.1, x.2), fun x => (peer x.2 x.1, x.2), fun x => by
  dsimp only; rw [peer_peer], fun x => by dsimp only; rw [peer_peer]⟩
def recvRound : Dev nD × B ≃ Dev nD × B := ⟨fun x => (peer x.2.2 x.1, x.2), fun x => (peer x.2.2 x.1, x.2), fun x => by
  dsimp only; rw [peer_peer], fun x => by dsimp only; rw [peer_peer]⟩

/-- A device's three barrier tokens and its two for every transfer. -/
def pays (c : Dev nD) : sProp 𝕄 :=
  iprop((bigSep Finset.univ fun s : Fin 3 => dutyTok ER (barCell (peer s c)) 0 s)
    ∗ (bigSep Finset.univ fun b : B => dutyTok ER (sCell b.1 b.2 c) 0 0) ∗ bigSep Finset.univ fun b : B => dutyTok ER (rCell b.1 b.2 (peer b.2 c)) 0 0)

theorem bars_round : (bigSep Finset.univ fun c : Dev nD => bigSep Finset.univ fun s : Fin 3 => (dutyTok ER (barCell c) 0 s : sProp 𝕄))
    = bigSep Finset.univ fun c : Dev nD => bigSep Finset.univ fun s : Fin 3 => dutyTok ER (barCell (peer s c)) 0 s := by
  rw [← bigSep_univ_prod (fun x : Dev nD × Fin 3 => (dutyTok ER (barCell x.1) 0 x.2 : sProp 𝕄)),
    bigSep_univ_equiv barRound, ← bigSep_univ_prod (fun x : Dev nD × Fin 3 => (dutyTok ER (barCell (peer x.2 x.1)) 0 x.2 : sProp 𝕄))]
  rfl
theorem recvs_round : (bigSep Finset.univ fun c : Dev nD => bigSep Finset.univ fun b : B => (dutyTok ER (rCell b.1 b.2 c) 0 0 : sProp 𝕄))
    = bigSep Finset.univ fun c : Dev nD => bigSep Finset.univ fun b : B => dutyTok ER (rCell b.1 b.2 (peer b.2 c)) 0 0 := by
  rw [← bigSep_univ_prod (fun x : Dev nD × B => (dutyTok ER (rCell x.2.1 x.2.2 x.1) 0 0 : sProp 𝕄)),
    bigSep_univ_equiv recvRound, ← bigSep_univ_prod (fun x : Dev nD × B => (dutyTok ER (rCell x.2.1 x.2.2 (peer x.2.2 x.1)) 0 0 : sProp 𝕄))]
  rfl

theorem toks_eq : (bigSep allToks (fun x => dutyTok ER x.1 x.2.1 x.2.2) : sProp 𝕄) = bigSep Finset.univ fun c : Dev nD => pays c := by
  have e (c : Dev nD) : (bigSep Finset.univ fun y : Fin 3 ⊕ (B ⊕ B) => dutyTok ER (dutyEmb (c, y)).1 (dutyEmb (c, y)).2.1 (dutyEmb (c, y)).2.2 : sProp 𝕄)
      = iprop((bigSep Finset.univ fun s : Fin 3 => dutyTok ER (barCell c) 0 s)
        ∗ (bigSep Finset.univ fun b : B => dutyTok ER (sCell b.1 b.2 c) 0 0) ∗ bigSep Finset.univ fun b : B => dutyTok ER (rCell b.1 b.2 c) 0 0) := by
    rw [BI.bigSep_univ_sum, BI.bigSep_univ_sum]; rfl
  unfold allToks; rw [bigSep_map, bigSep_univ_prod, bigSep_congr fun c _ => e c, bigSep_sep', bigSep_sep', bars_round, recvs_round, ← bigSep_sep', ← bigSep_sep']
  rfl

/-- A device's share of the protocol at launch. -/
def linear (c : Dev nD) : sProp 𝕄 := iprop(atPos ER (barCell c) 0 ∅ 0 ∗ opens c ∗ pays c)

/-- What a device holds beside it. -/
def bundle (c : Dev nD) : sProp 𝕄 :=
  iprop(StableHlo.held (c : Thread nD τ) bufs (V₀ m c) ∗ (cred (tallyAt (barCell c) () 3) ∗ bigSep Finset.univ fun b : B => cred (tallyAt (rCell b.1 b.2 c) () N))
    ∗ owes (c : Thread nD τ) (owedB_0 c) ∅ ∗ ∃ r, prngReg c r)

def T₀ (c : Dev nD) : sProp 𝕄 := iprop(StableHlo.held (c : Thread nD τ) bufs (V₀ m c) ∗ R m c)
def T₁ (c : Dev nD) : sProp 𝕄 := iprop(StableHlo.held (c : Thread nD τ) bufs (V₂ m c) ∗ semVal (barCell c) 0)

theorem xlins (c : Dev nD) : (iprop(opens c ∗ ((bigSep Finset.univ fun b : B => dutyTok ER (sCell b.1 b.2 c) 0 0) ∗ bigSep Finset.univ fun b : B => dutyTok ER (rCell b.1 b.2 (peer b.2 c)) 0 0)
    ∗ bigSep Finset.univ fun b : B => cred (tallyAt (rCell b.1 b.2 c) () N)) : sProp 𝕄) ⊢ bigSep Finset.univ fun b : B => xlin c b := by
  unfold xlin opens
  rw [bigSep_sep', bigSep_sep', bigSep_sep', bigSep_sep']
  iintro ⟨⟨Ha, Hb⟩, ⟨Hc, Hd⟩, He⟩
  isplitl [Ha]; · iexact Ha
  isplitl [Hb]; · iexact Hb
  isplitl [Hc]; · iexact Hc
  isplitl [Hd] <;> iassumption

theorem bars_fin (c : Dev nD) : (bigSep Finset.univ fun s : Fin 3 => dutyTok ER (barCell (peer s c)) 0 s : sProp 𝕄) ⊢ barLin c := by
  rw [bigSep_eq_bigSepL_of_eq [0, 1, 2] (by decide) (by decide)]
  exact Entails.of_eq rfl

theorem T₀_intro (κ : GSem nD τ sig → ℕ) (c : Dev nD) : iprop(records (valOf (inp m)) κ ∗ linear c ∗ bundle m c) ⊢ T₀ m c := by
  unfold T₀ R linear pays bundle
  iintro ⟨#HR, ⟨Ha, Ho, Hp, Ht⟩, Hh, ⟨Hc, Hcs⟩, HO, Hr⟩
  isplitl [Hh]; · iexact Hh
  isplitr [HO Hr]
  · iapply (Tk_intro (valOf (inp m)) κ c)
    isplitr; · iexact HR
    isplitl [Hp]; · iapply (bars_fin c) $$ Hp
    isplitl [Hc]; · iexact Hc
    isplitl [Ha]; · iexact Ha
    iapply (xlins c)
    isplitl [Ho]; · iexact Ho
    isplitl [Ht] <;> iassumption
  isplitl [Hr]; · iexact Hr
  iexists ∅; iexact HO

theorem unpair {Φ Ψ : Dev nD → sProp 𝕄} : (bigSep Finset.univ fun c => iprop(Φ c ∗ Ψ c) : sProp 𝕄) = iprop(bigSep Finset.univ Φ ∗ bigSep Finset.univ Ψ) :=
  bigSep_sep' _ _ _

theorem init :
    iprop((bigSep Finset.univ fun c : Dev nD => iprop(unscopedBufs c (fun b => m ((c : Thread nD τ).loc b)) ∗ unscopedSems0 c
          ∗ owes (c : Thread nD τ) (owedB_0 c) ∅ ∗ Pipeline.launchCred owedB_0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owedB_0 c) ∅ ∗ Pipeline.launchCred owedB_0 c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hb, HO, Hcr, Hp, HG⟩
    isplitr [Hb HG]
    · isplitl [Hh]; · iexact Hh
      isplitl [Hcr]; · iapply (creds c) $$ Hcr
      isplitl [HO]; · iexact HO
      iexists (ρ c); iexact Hp
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H1 := (show (bigSep Finset.univ fun c : Dev nD => iprop(unscopedBufs c (fun b => m ((c : Thread nD τ).loc b)) ∗ unscopedSems0 c
          ∗ owes (c : Thread nD τ) (owedB_0 c) ∅ ∗ Pipeline.launchCred owedB_0 c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (unpair (F := F))) $$ H1; icases H2 with ⟨HB, H3⟩
  ihave H4 := (Entails.of_eq (unpair (F := F))) $$ H3; icases H4 with ⟨Hv, HG⟩
  ihave Hu := (show bigSep Finset.univ (G (F := F)) ⊢ BI.own (ER (launchOf barCells xCells allToks)) from
    Entails.of_eq (bigSep_only (F := F) 0 (BI.own (ER (launchOf barCells xCells allToks))))) $$ HG
  imod (Rounds.fund_launch ER (Rd (valOf (inp m))) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (valOf (inp m)) κ) (Φ := fun c => iprop(linear c ∗ bundle m c)) fun c _ => T₀_intro m κ c)
  isplitr
  · unfold records
    isplitr; · iexact Hinv
    iexact Hr
  iapply (Entails.of_eq (unpair (F := F)).symm)
  isplitr [HB]
  · unfold linear
    iapply (Entails.of_eq (unpair (F := F)).symm); isplitl [Hat]; · iapply hat $$ Hat
    iapply (Entails.of_eq (unpair (F := F)).symm); isplitl [Hopen]; · iapply (Entails.of_eq (opens_eq (F := F))) $$ Hopen
    iapply (Entails.of_eq (toks_eq (F := F))) $$ Htok
  · iexact HB

theorem unscoped_eq : ∀ sm : SemLoc sig, sm.isScoped .tc = false → sm = .reg barS := by decide

theorem held_bufs (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_arg3 ↦{fullShare} W (Proc.devRef .tc main_arg3))
      ∗ ((c : Thread nD τ).loc main_arg4 ↦{fullShare} W (Proc.devRef .tc main_arg4)) ∗ ((c : Thread nD τ).loc main_v1 ↦{fullShare} W (Proc.devRef .tc main_v1))
      ∗ ((c : Thread nD τ).loc main_v2 ↦{fullShare} W (Proc.devRef .tc main_v2)) ∗ ((c : Thread nD τ).loc main_v3 ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-! ## The result array -/

theorem flushed_eq (c : Dev nD) (t : Fin cfg0.N) : (dat m c).flushed 3 t = ((cfg0.win 3).blk t).view.read (Elt F) (outV (inp m) c) := by
  obtain rfl := fin_N0 t
  unfold Pipeline.Dat.flushed
  rw [aft_3]
  generalize outV (inp m) c = out
  funext x
  show out _ = out _
  refine congrArg out (funext fun a => Fin.ext ?_)
  have e : ∀ a : Fin 3, win0_3.index t0_0 a * win0_3.size a = 0 := by decide +kernel
  show (x a : Nat) = win0_3.index t0_0 a * win0_3.size a + 1 * (x a : Nat)
  rw [e a, Nat.zero_add, Nat.one_mul]

theorem covered (i : S1x256x1024.Idx) : ∃ t : Fin cfg0.N, (cfg0.win 3).flush t = true ∧ i ∈ ((cfg0.win 3).blk t).view.set := by
  have e : ∀ a : Fin 3, win0_3.index t0_0 a * win0_3.size a = 0 ∧ win0_3.xsize (grid0.coords t0_0) a = S1x256x1024.size a := by decide +kernel
  refine ⟨t0_0, flush0_3 _, ?_⟩
  show i ∈ ((View.whole main_v3).slice (win0_3.rect t0_0)).set
  rw [View.set_slice_whole, Rect.mem_set_unit]
  intro a
  show win0_3.index t0_0 a * win0_3.size a ≤ (i a : Nat) ∧ (i a : Nat) < win0_3.index t0_0 a * win0_3.size a + win0_3.xsize (grid0.coords t0_0) a
  rw [(e a).1, (e a).2]
  have h : (i a : Nat) < S1x256x1024.size a := (i a).isLt
  exact ⟨Nat.zero_le _, by rw [Nat.zero_add]; exact h⟩

theorem arr_out (c : Dev nD) : (dat m c).arrAt 3 cfg0.N = outV (inp m) c :=
  (dat m c).arrAt_eq_of_cover 3 (outV (inp m) c) (fun t _ => flushed_eq m c t) covered

theorem V₁_arg (c : Dev nD) (k : Ref sig .tc) (h : V₁ m c (Proc.devRef .tc k) = m (c, Proc.devRef .tc k)) (hk : Proc.devRef .tc k ≠ (Proc.devRef .tc main_v3 : DevRef τ sig)) :
    V₂ m c (Proc.devRef .tc k) = m (c, Proc.devRef .tc k) := (V₂_ne m c hk).trans h

set_option backward.isDefEq.respectTransparency.types false in
/-- From any memory with the counters at zero, every fair run of the eight devices ends, with the arguments as they were, the
    result in place and every counter at zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v3) = outV (inp m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owedB_0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_only]; iexact HX)
    (T₀ := T₀ m) (Tₙ := T₁ m)
    (hch := by
      refine ⟨fun c => .rfl, fun c => reg_pre m c, fun c => ?_⟩
      exact reg_post m c)
    (hinit := init m ρ)
    (QY := fun c s => ((s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_arg3) = V₂ m c (Proc.devRef .tc main_arg3)
        ∧ s.mem ((c : Thread nD τ).loc main_arg4) = V₂ m c (Proc.devRef .tc main_arg4))
        ∧ s.mem ((c : Thread nD τ).loc main_v3) = V₂ m c (Proc.devRef .tc main_v3))
      ∧ s.sem (barCell c) = 0)
    (hfin := fun c s' => by
      unfold T₁; rw [held_bufs]
      iintro ⟨⟨⟨H0, H1, H2, H3, H4, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h5⟩, by simpa using hb⟩
      iexact HSI)
    (hQ := fun s h hs => ⟨fun c => by
        obtain ⟨⟨⟨h0, h1, h2, h3, h4⟩, h5⟩, -⟩ := h c
        rw [V₂_v3, arr_out] at h5
        exact ⟨⟨h0.trans (V₁_arg m c main_arg0 (Gen.V_main_arg0 m c) (by decide)), h1.trans (V₁_arg m c main_arg1 (Gen.V_main_arg1 m c) (by decide)),
          h2.trans (V₁_arg m c main_arg2 (Gen.V_main_arg2 m c) (by decide)), h3.trans (V₁_arg m c main_arg3 (Gen.V_main_arg3 m c) (by decide)),
          h4.trans (V₁_arg m c main_arg4 (Gen.V_main_arg4 m c) (by decide))⟩, h5⟩,
      sem_eq_zero hs fun c sm hsm => by
        obtain rfl := unscoped_eq sm hsm
        exact (h c).2⟩)

end Cert.KernelIdeal.Pf

end
-- ==== Proof.Same.lean ====
/-
# The kernel at its own formats

Printed for reading at the extended reals or as compiled, the kernel is one program: nothing in it was rewritten. So its run at
the bit formats is an instance of the run proved for every reading.
-/
module

public import proofs.«01_k».proof.Defs
public import proofs.«01_k».proof.Proof.Launch
public import proofs.«01_k».proof.Proof.Gen.Kernel

@[expose] public section

set_option maxRecDepth 100000

namespace Cert.Pf

open Idealize.ShloMosaic

variable {F : FTy → Type} [FloatOps F] [Kernel.Facts] [KernelIdeal.Facts]

set_option maxHeartbeats 2000000 in
theorem same_body : Kernel.cc0__body (F := F) = KernelIdeal.cc0__body (F := F) := rfl

set_option maxHeartbeats 2000000 in
theorem same_table : Kernel.defs₀ (F := F) = KernelIdeal.defs₀ (F := F) := by
  funext p l a
  match p, l, a with
  | .tc, ⟨0, _⟩, (t, s) => rfl
  | .scScalar _, _, _ => rfl
  | .scVector _ _, _, _ => rfl

set_option maxHeartbeats 2000000 in
theorem same_defs : Kernel.defs (F := F) = KernelIdeal.defs (F := F) :=
  congrArg (Pipeline.defs (KernelIdeal.pcfgs (F := F))) same_table

set_option maxHeartbeats 2000000 in
theorem same_main : Kernel.main (F := F) = KernelIdeal.main (F := F) := rfl

end Cert.Pf
-- ==== Proof.Soft.lean ====
module
public import Idealize.ShloMosaic.Lib.Pointwise
public import Mathlib.Data.EReal.Inv
@[expose] public section
noncomputable section
namespace Cert.Pf
open Idealize.ShloMosaic

/-! ## The softmax over the kept keys, on the extended reals -/

/-- A sum of reals, taken as extended reals. -/
theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves into a sum. -/
theorem sum_mul_coe {ι : Type} (s : Finset ι) (f : ι → EReal) {c : ℝ} (hc : 0 ≤ c) : (∑ i ∈ s, f i) * (c : EReal) = ∑ i ∈ s, f i * c := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Division by a positive real is the product with its reciprocal. -/
theorem div_coe (a : EReal) {z : ℝ} (hz : 0 < z) : Ideal.div a z = a * ((z⁻¹ : ℝ) : EReal) := by
  unfold Ideal.div
  rw [if_neg (by exact_mod_cast hz.ne'), EReal.coe_inv]

/-- The largest of finitely many values, each real or the bottom and one of them real, is a real. -/
theorem max_real {ι : Type} [Fintype ι] (p : ι → Prop) [DecidablePred p] (σ : ι → ℝ) (j₀ : ι) (h₀ : p j₀) :
    ∃ μ : ℝ, Finset.univ.fold max (⊥ : EReal) (fun j => if p j then (σ j : EReal) else ⊥) = μ := by
  have ht : Finset.univ.fold max (⊥ : EReal) (fun j => if p j then (σ j : EReal) else ⊥) < ⊤ := by
    rw [Finset.fold_max_lt]
    refine ⟨bot_lt_top, fun j _ => ?_⟩
    split
    · exact EReal.coe_lt_top _
    · exact bot_lt_top
  have hb : ⊥ < Finset.univ.fold max (⊥ : EReal) (fun j => if p j then (σ j : EReal) else ⊥) := by
    rw [Finset.lt_fold_max]
    exact Or.inr ⟨j₀, Finset.mem_univ _, by rw [if_pos h₀]; exact EReal.bot_lt_coe _⟩
  exact ⟨_, (EReal.coe_toReal ht.ne hb.ne').symm⟩

/-- The weighted mean with the maximum taken out and the rejected keys at the bottom is the plain one over the kept keys. -/
theorem soft {ι : Type} [Fintype ι] (p : ι → Prop) [DecidablePred p] (σ : ι → ℝ) (j₀ : ι) (h₀ : p j₀) (v : ι → EReal)
    (S : ι → EReal) (hS : ∀ j, S j = if p j then (σ j : EReal) else ⊥) :
    ∑ j, v j * Ideal.div (Ideal.exp (S j - Finset.univ.fold max ⊥ S)) (∑ j', Ideal.exp (S j' - Finset.univ.fold max ⊥ S))
      = Ideal.div (∑ j ∈ Finset.univ.filter p, Ideal.exp (σ j) * v j) (∑ j ∈ Finset.univ.filter p, Ideal.exp (σ j)) := by
  obtain rfl : S = fun j => if p j then (σ j : EReal) else ⊥ := funext hS
  obtain ⟨μ, hμ⟩ := max_real p σ j₀ h₀
  rw [hμ]
  have hx : ∀ j, Ideal.exp ((if p j then (σ j : EReal) else ⊥) - (μ : EReal)) = ((if p j then Real.exp (σ j) * Real.exp (-μ) else 0 : ℝ) : EReal) := by
    intro j
    by_cases hj : p j
    · rw [if_pos hj, if_pos hj, ← EReal.coe_sub, Ideal.exp_coe, sub_eq_add_neg, Real.exp_add]
    · rw [if_neg hj, if_neg hj, EReal.bot_sub, Ideal.exp_bot, EReal.coe_zero]
  set Z : ℝ := ∑ j ∈ Finset.univ.filter p, Real.exp (σ j) with hZ
  have hZ0 : 0 < Z := Finset.sum_pos (fun _ _ => Real.exp_pos _) ⟨j₀, by simpa using h₀⟩
  have hz : ∑ j', Ideal.exp ((if p j' then (σ j' : EReal) else ⊥) - (μ : EReal)) = ((Z * Real.exp (-μ) : ℝ) : EReal) := by
    rw [Finset.sum_congr rfl fun j _ => hx j, ← coe_fsum, hZ, Finset.sum_mul, Finset.sum_filter]
  rw [hz]
  have hd : ∑ j ∈ Finset.univ.filter p, Ideal.exp (σ j) = (Z : EReal) := by
    rw [hZ, coe_fsum]; rfl
  rw [hd, div_coe _ hZ0, sum_mul_coe _ _ (inv_nonneg.mpr hZ0.le), Finset.sum_filter]
  refine Finset.sum_congr rfl fun j _ => ?_
  have hm : 0 < Z * Real.exp (-μ) := mul_pos hZ0 (Real.exp_pos _)
  rw [hx j, div_coe _ hm, ← EReal.coe_mul]
  by_cases hj : p j
  · rw [if_pos hj, if_pos hj, Ideal.exp_coe, mul_comm ((Real.exp (σ j) : ℝ) : EReal) (v j), mul_assoc (v j), ← EReal.coe_mul]
    congr 2
    have := Real.exp_pos (-μ)
    field_simp
  · rw [if_neg hj, if_neg hj, zero_mul, EReal.coe_zero, mul_zero]

/-- A real scale on every query entry is that scale on the score. -/
theorem scale_sum {n : Nat} (q k : Fin n → ℝ) (s : ℝ) :
    ∑ e, ((q e : EReal) * s) * k e = (∑ e, (q e : EReal) * k e) * s := by
  simp only [← EReal.coe_mul, ← coe_fsum, Finset.sum_mul]
  exact congrArg _ (Finset.sum_congr rfl fun e _ => by ring)

/-- The keys of one residue class of blocks, listed. -/
theorem sum_kept (q : Fin 4) (f : Fin 4096 → EReal) :
    ∑ j ∈ Finset.univ.filter (fun j : Fin 4096 => j.val / 64 % 4 = q.val), f j
      = ∑ t : Fin 1024, f ⟨(t.val / 64 * 4 + q.val) * 64 + t.val % 64, by omega⟩ := by
  symm
  refine Finset.sum_bij' (fun t _ => ⟨(t.val / 64 * 4 + q.val) * 64 + t.val % 64, by omega⟩)
    (fun j _ => ⟨j.val / 256 * 64 + j.val % 64, by omega⟩) ?_ ?_ ?_ ?_ ?_
  · intro t _; simp only [Finset.mem_filter, Finset.mem_univ, true_and]; omega
  · intro j _; exact Finset.mem_univ _
  · intro t _; ext; simp only; omega
  · intro j hj; simp only [Finset.mem_filter, Finset.mem_univ, true_and] at hj; ext; simp only; omega
  · intro t _; rfl

end Cert.Pf
end
-- ==== Proof.RefVal.lean ====
module
public import proofs.«01_k».proof.Proof.Soft
public import proofs.«01_k».proof.Proof.Gen.ReferenceIdeal.Run
@[expose] public section
set_option maxRecDepth 16384
noncomputable section
namespace Cert.ReferenceIdeal.Pf
open Cert.ReferenceIdeal Cert.ReferenceIdeal.Gen
open Idealize.ShloMosaic Idealize.ShloMosaic.TcCoe

/-! ## The reference, one stage at a time -/

/-- The quotient by 64, rounded down, as the reference spells it. -/
def fdR : IVec S256 32 :=
  select (andi (cmpi .ne (signi (iotaInDim S256 32 0)) (broadcastInDim S256 ![] bcast_S_S256 (signi (constantI S_ 32 64#32)))) (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))
def fdK : IVec S4096 32 :=
  select (andi (cmpi .ne (signi (iotaInDim S4096 32 0)) (broadcastInDim S4096 ![] bcast_S_S4096 (signi (constantI S_ 32 64#32)))) (cmpi .ne (Host.remsi (iotaInDim S4096 32 0) (broadcastInDim S4096 ![] bcast_S_S4096 (constantI S_ 32 64#32))) (broadcastInDim S4096 ![] bcast_S_S4096 (constantI S_ 32 0#32))))
    (subi (Host.divsi (iotaInDim S4096 32 0) (broadcastInDim S4096 ![] bcast_S_S4096 (constantI S_ 32 64#32))) (broadcastInDim S4096 ![] bcast_S_S4096 (constantI S_ 32 1#32)))
    (Host.divsi (iotaInDim S4096 32 0) (broadcastInDim S4096 ![] bcast_S_S4096 (constantI S_ 32 64#32)))
def blR : IVec S256x1 32 := broadcastInDim S256x1 ![0] bcast_S256_S256x1_0 fdR
def blK : IVec S1x4096 32 := broadcastInDim S1x4096 ![1] bcast_S4096_S1x4096_1 fdK
def four : IVec S_ 32 := select (cmpi .eq (constantI S_ 32 4#32) (constantI S_ 32 0#32)) (constantI S_ 32 1#32) (constantI S_ 32 4#32)
/-- The remainder by 4, with the divisor's sign, as the reference spells it. -/
def rmK : IVec S1x4096 32 :=
  select (andi (cmpi .ne (cmpi .slt (Host.remsi blK (broadcastInDim S1x4096 ![] bcast_S_S1x4096 four)) (broadcastInDim S1x4096 ![] bcast_S_S1x4096 (constantI S_ 32 0#32))) (broadcastInDim S1x4096 ![] bcast_S_S1x4096 (cmpi .slt four (constantI S_ 32 0#32))))
      (cmpi .ne (Host.remsi blK (broadcastInDim S1x4096 ![] bcast_S_S1x4096 four)) (broadcastInDim S1x4096 ![] bcast_S_S1x4096 (constantI S_ 32 0#32))))
    (addi (Host.remsi blK (broadcastInDim S1x4096 ![] bcast_S_S1x4096 four)) (broadcastInDim S1x4096 ![] bcast_S_S1x4096 four))
    (Host.remsi blK (broadcastInDim S1x4096 ![] bcast_S_S1x4096 four))
def rmR : IVec S256x1 32 :=
  select (andi (cmpi .ne (cmpi .slt (Host.remsi blR (broadcastInDim S256x1 ![] bcast_S_S256x1 four)) (broadcastInDim S256x1 ![] bcast_S_S256x1 (constantI S_ 32 0#32))) (broadcastInDim S256x1 ![] bcast_S_S256x1 (cmpi .slt four (constantI S_ 32 0#32))))
      (cmpi .ne (Host.remsi blR (broadcastInDim S256x1 ![] bcast_S_S256x1 four)) (broadcastInDim S256x1 ![] bcast_S_S256x1 (constantI S_ 32 0#32))))
    (addi (Host.remsi blR (broadcastInDim S256x1 ![] bcast_S_S256x1 four)) (broadcastInDim S256x1 ![] bcast_S_S256x1 four))
    (Host.remsi blR (broadcastInDim S256x1 ![] bcast_S_S256x1 four))
/-- Which keys a row attends to. -/
def maskV : IVec S256x4096 1 :=
  ori (cmpi .eq (broadcastInDim S256x4096 ![0, 1] bcast_S256x1_S256x4096_0_1 blR) (broadcastInDim S256x4096 ![0, 1] bcast_S1x4096_S256x4096_0_1 blK))
    (cmpi .eq (broadcastInDim S256x4096 ![0, 1] bcast_S1x4096_S256x4096_0_1 rmK) (broadcastInDim S256x4096 ![0, 1] bcast_S256x1_S256x4096_0_1 rmR))
/-- Whether a row attends to any key. -/
def rowV : IVec S1x1x256x1 1 := broadcastInDim S1x1x256x1 ![2] bcast_S256_S1x1x256x1_2 (Host.reduce IntOp.ori maskV (constantI S_ 1 0#1) reducesTo_S256x4096_S256_d1 h_S_)

variable (x : FVec Ideal S1x256x1024 .f32) (wq : FVec Ideal S1024x8192 .f32) (k v : FVec Ideal S1x4096x64x128 .f32) (wo : FVec Ideal S8192x1024 .f32)

/-- The queries by head. -/
def q4 : FVec Ideal S1x256x64x128 .f32 := shapeCast S1x256x64x128 (Host.dotGeneral dot_S1x256x1024_S1024x8192_S1x256x8192_2_0_01_1_n_n none x wq) shapeCasts_S1x256x8192_S1x256x64x128
/-- The masked scores. -/
def scr : FVec Ideal S1x64x256x4096 .f32 :=
  select (broadcastInDim S1x64x256x4096 ![0, 1, 2, 3] bcast_S1x1x256x4096_S1x64x256x4096_0_1_2_3 (broadcastInDim S1x1x256x4096 ![2, 3] bcast_S256x4096_S1x1x256x4096_2_3 maskV))
    (mulf (Host.dotGeneral dot_S1x256x64x128_S1x4096x64x128_S1x64x256x4096_3_3_1_1_02_02 none (q4 x wq) k) (broadcastInDim S1x64x256x4096 ![] bcast_S_S1x64x256x4096 (constant S_ .f32 0x3DB504F3#32)))
    (broadcastInDim S1x64x256x4096 ![] bcast_S_S1x64x256x4096 (constant S_ .f32 0xFF800000#32))
/-- The exponentials of scores less the row's largest. -/
def exs (s : FVec Ideal S1x64x256x4096 .f32) : FVec Ideal S1x64x256x4096 .f32 :=
  Host.exp (subf s (broadcastInDim S1x64x256x4096 ![0, 1, 2, 3] bcast_S1x64x256x1_S1x64x256x4096_0_1_2_3 (broadcastInDim S1x64x256x1 ![0, 1, 2] bcast_S1x64x256_S1x64x256x1_0_1_2 (Host.reduce FloatOps.maximumf s (constant S_ .f32 0xFF800000#32) reducesTo_S1x64x256x4096_S1x64x256_d3 h_S_))))
/-- Those over their row's sum. -/
def wts (e : FVec Ideal S1x64x256x4096 .f32) : FVec Ideal S1x64x256x4096 .f32 :=
  select (broadcastInDim S1x64x256x4096 ![0, 1, 2, 3] bcast_S1x1x256x1_S1x64x256x4096_0_1_2_3 rowV)
    (Host.divf e (broadcastInDim S1x64x256x4096 ![0, 1, 2, 3] bcast_S1x64x256x1_S1x64x256x4096_0_1_2_3
      (select (broadcastInDim S1x64x256x1 ![0, 1, 2, 3] bcast_S1x1x256x1_S1x64x256x1_0_1_2_3 rowV)
        (broadcastInDim S1x64x256x1 ![0, 1, 2] bcast_S1x64x256_S1x64x256x1_0_1_2 (Host.reduceAdd e (constant S_ .f32 0x00000000#32) reducesTo_S1x64x256x4096_S1x64x256_d3 h_S_))
        (broadcastInDim S1x64x256x1 ![] bcast_S_S1x64x256x1 (constant S_ .f32 0x3F800000#32)))))
    (broadcastInDim S1x64x256x4096 ![] bcast_S_S1x64x256x4096 (constant S_ .f32 0x00000000#32))
/-- The values averaged with given weights. -/
def pvs (w : FVec Ideal S1x64x256x4096 .f32) : FVec Ideal S1x64x128x256 .f32 :=
  Host.dotGeneral dot_S1x4096x64x128_S1x64x256x4096_S1x64x128x256_1_3_3_2_02_01 none v w
/-- The output projection of them. -/
def prj (p : FVec Ideal S1x64x128x256 .f32) : FVec Ideal S1x256x1024 .f32 :=
  Host.dotGeneral dot_S1x256x8192_S8192x1024_S1x256x1024_2_0_01_1_n_n none (shapeCast S1x256x8192 (transpose S1x256x64x128 [0, 3, 1, 2] p transposes_S1x64x128x256_S1x256x64x128_0_3_1_2) shapeCasts_S1x256x64x128_S1x256x8192) wo
/-- The reference's result. -/
def outR : FVec Ideal S1x256x1024 .f32 := prj wo (pvs v (wts (exs (scr x wq k))))

theorem res_eq (m : (ℓ : Loc nD τ sig) → Buf (Elt Ideal) ℓ) (c : Dev nD) :
    Value.res_main_v39 (F := Ideal) m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v39
  rfl

/-! ### The mask -/

theorem fdR_tab : ∀ i : Fin 256, fdR (ix1 i) = BitVec.ofNat 32 (i.val / 64) := by decide +kernel
theorem fdK_tab : ∀ i : Fin 4096, fdK (ix1 i) = BitVec.ofNat 32 (i.val / 64) := by decide +kernel
theorem rmR_tab : ∀ i : Fin 256, rmR (ix2 i 0) = BitVec.ofNat 32 (i.val / 64) := by decide +kernel
theorem rmK_tab : ∀ i : Fin 4096, rmK (ix2 0 i) = BitVec.ofNat 32 (i.val / 64 % 4) := by decide +kernel

theorem mask_words : ∀ (a : Fin 4) (b : Fin 64), IntOp.ori (IntOp.cmpi .eq (BitVec.ofNat 32 a.val) (BitVec.ofNat 32 b.val)) (IntOp.cmpi .eq (BitVec.ofNat 32 (b.val % 4)) (BitVec.ofNat 32 a.val))
    = if b.val % 4 = a.val then 1#1 else 0#1 := by decide +kernel

theorem maskV_apply (i : Fin 256) (j : Fin 4096) : maskV (ix2 i j) = if j.val / 64 % 4 = i.val / 64 then 1#1 else 0#1 := by
  have h : maskV (ix2 i j) = IntOp.ori (IntOp.cmpi .eq (fdR (ix1 i)) (fdK (ix1 j))) (IntOp.cmpi .eq (rmK (ix2 0 j)) (rmR (ix2 i 0))) := by
    pointwise [maskV, blR, blK]
  rw [h, fdR_tab, fdK_tab, rmR_tab, rmK_tab]
  exact mask_words ⟨i.val / 64, by omega⟩ ⟨j.val / 64, by omega⟩

theorem ori_one : ∀ b : BitVec 1, IntOp.ori 1#1 b = 1#1 := by decide

theorem rowV_apply (i : Fin 256) : rowV (ix4 0 0 i 0) = 1#1 := by
  pointwise [rowV]
  have h : maskV (ix2 i ⟨i.val / 64 * 64, by omega⟩) = 1#1 := by rw [maskV_apply, if_pos (by simp only; omega)]
  rw [← Finset.insert_erase (Finset.mem_univ (⟨i.val / 64 * 64, by omega⟩ : Fin 4096)), Finset.fold_insert (Finset.notMem_erase _ _), h]
  exact ori_one _

/-! ### The floats -/

theorem ofBits_negInf : Ideal.ofBits .f32 0xFF800000#32 = ⊥ := by simp [Ideal.ofBits, Ideal.ieee]

/-- The score of a row against a key, before the mask. -/
def sc0 (h : Fin 64) (i : Fin 256) (j : Fin 4096) : EReal := (∑ e : Fin 128, q4 x wq (ix4 0 i h e) * k (ix4 0 j h e)) * Ideal.ofBits .f32 0x3DB504F3#32

theorem q4_apply (i : Fin 256) (h : Fin 64) (e : Fin 128) : q4 x wq (ix4 0 i h e) = ∑ r : Fin 1024, x (ix3 0 i r) * wq (ix2 r ⟨h.val * 128 + e.val, by omega⟩) := by
  pointwise [q4]

theorem scr_apply (h : Fin 64) (i : Fin 256) (j : Fin 4096) : scr x wq k (ix4 0 h i j) = if j.val / 64 % 4 = i.val / 64 then sc0 x wq k h i j else ⊥ := by
  pointwise [scr]
  rw [maskV_apply]
  split
  · rfl
  · exact ofBits_negInf

theorem exs_apply (s : FVec Ideal S1x64x256x4096 .f32) (h : Fin 64) (i : Fin 256) (j : Fin 4096) :
    exs s (ix4 0 h i j) = Ideal.exp (s (ix4 0 h i j) - Finset.univ.fold max ⊥ fun j => s (ix4 0 h i j)) := by
  pointwise [exs]
  exact congrArg (fun b => Ideal.exp (s (ix4 0 h i j) - Finset.univ.fold max b fun j => s (ix4 0 h i j))) ofBits_negInf

theorem wts_apply (e : FVec Ideal S1x64x256x4096 .f32) (h : Fin 64) (i : Fin 256) (j : Fin 4096) :
    wts e (ix4 0 h i j) = Ideal.div (e (ix4 0 h i j)) (∑ j', e (ix4 0 h i j')) := by
  pointwise [wts]
  rw [rowV_apply, ValueIdx.select_one, ValueIdx.select_one]

theorem pvs_apply (w : FVec Ideal S1x64x256x4096 .f32) (h : Fin 64) (d : Fin 128) (i : Fin 256) :
    pvs v w (ix4 0 h d i) = ∑ j, v (ix4 0 j h d) * w (ix4 0 h i j) := by
  pointwise [pvs]

theorem prj_apply (p : FVec Ideal S1x64x128x256 .f32) (i : Fin 256) (n : Fin 1024) :
    prj wo p (ix3 0 i n) = ∑ c : Fin 8192, p (ix4 0 ⟨c.val / 128, by omega⟩ ⟨c.val % 128, by omega⟩ i) * wo (ix2 c n) := by
  pointwise [prj]

end Cert.ReferenceIdeal.Pf
end
-- ==== Proof.KerVal.lean ====
module
public import proofs.«01_k».proof.Proof.Region
public import Idealize.ShloMosaic.Lib.Pointwise
@[expose] public section
set_option maxRecDepth 16384
noncomputable section
namespace Cert.KernelIdeal.Pf
open Cert.KernelIdeal Cert.KernelIdeal.Gen
open Idealize.ShloMosaic Idealize.ShloMosaic.TcCoe

/-! ## The kernel's result, one element at a time, on the extended reals -/

theorem headG_apply (q : FVec Ideal S64x128 .bf16) (k v : Vec Ideal S1x1x16x64x128 .f32) (r : Fin 64) (e : Fin 128) :
    headG (F := Ideal) q k v (ix2 r e)
      = Ideal.div (∑ t : Fin 1024, Ideal.exp (∑ e' : Fin 128, q (ix2 r e') * k (ix5 0 0 ⟨t.val / 64, by omega⟩ ⟨t.val % 64, by omega⟩ e')) * v (ix5 0 0 ⟨t.val / 64, by omega⟩ ⟨t.val % 64, by omega⟩ e))
        (∑ t : Fin 1024, Ideal.exp (∑ e' : Fin 128, q (ix2 r e') * k (ix5 0 0 ⟨t.val / 64, by omega⟩ ⟨t.val % 64, by omega⟩ e'))) := by
  pointwise [headG, k0_pay22, k0_pay21]

theorem z2 : (![0, 0] : Fin 2 → Nat) = fun _ => 0 := by decide
theorem z3 : (![0, 0, 0] : Fin 3 → Nat) = fun _ => 0 := by decide

theorem qB_apply (I : Inp Ideal) (d : Dev nD) (i : Fin 256) (j : Fin 1024) :
    qB I d (ix2 i j) = (∑ r : Fin 1024, I.x d (ix3 0 i r) * I.wq d (ix2 r j)) * Ideal.ofBits .f32 0x3DB504F3#32 := by
  have e1 : (Memref.whole cc0_stg0_0).view.readAt (Elt Ideal) (Rect.unit ![0, 0, 0] S1x256x1024.size inb_S1x256x1024_S1x256x1024_0_0_0).toLoadRect (I.x d) = I.x d :=
    View.ld_unit_zero (S := S1x256x1024) z3 _ _
  have e2 : (Memref.whole cc0_stg1_0).view.readAt (Elt Ideal) (Rect.unit ![0, 0] S1024x1024.size inb_S1024x1024_S1024x1024_0_0).toLoadRect (I.wq d) = I.wq d :=
    View.ld_unit_zero (S := S1024x1024) z2 _ _
  unfold qB
  rw [e1, e2]
  pointwise [k0_pay5]

theorem woB_apply (I : Inp Ideal) (d : Dev nD) (i j : Fin 1024) : woB I d (ix2 i j) = I.wo d (ix2 i j) := by
  have e2 : (Memref.whole cc0_stg2_0).view.readAt (Elt Ideal) (Rect.unit ![0, 0] S1024x1024.size inb_S1024x1024_S1024x1024_0_0).toLoadRect (I.wo d) = I.wo d :=
    View.ld_unit_zero (S := S1024x1024) z2 _ _
  unfold woB
  have e3 : ∀ w : Vec Ideal S1024x1024 .bf16, (Memref.whole cc0_scratch2).view.readCov [⟨Rect.unit ![0, 0] S1024x1024.size inb_S1024x1024_S1024x1024_0_0, w⟩] (Rect.unit ![0, 0] S1024x1024.size inb_S1024x1024_S1024x1024_0_0).toLoadRect = w :=
    fun w => View.readCov_cons_toLoadRect _ (Rect.unit (s := S1024x1024) ![0, 0] S1024x1024.size inb_S1024x1024_S1024x1024_0_0) w []
  rw [e2, e3]
  pointwise [k0_pay4, k0_pay3]

/-- Head `h` of device `d`, among all the heads. -/
def gh (d : Dev nD) (h : Fin 8) : Fin 64 := ⟨8 * d.val + h.val, by have : d.val < 8 := d.isLt; omega⟩

theorem kRd_apply (c : Dev nD) (q : Fin 4) (h : Fin 8) (f : Vec Ideal S16x4x64x64x128 .f32) (a : Fin 16) (b : Fin 64) (e : Fin 128) :
    kRd c q h f (ix3 a b e) = f (ix5 a q b (gh c h) e) := by
  unfold kRd
  have hs : Shape.reshapeEquiv (squeezes_S16x1x64x1x128_S16x64x128 : S16x1x64x1x128.Squeezes S16x64x128).numel_eq (ix3 a b e) = (ix5 a 0 b 0 e : S16x1x64x1x128.Idx) := by
    refine Shape.reshapeEquiv_eq_of_rowMajor _ ?_
    rw [Shape.rowMajor_val_five, Shape.rowMajor_val_three]
    show (((a.val * 1 + 0) * 64 + b.val) * 1 + 0) * 128 + e.val = (a.val * 64 + b.val) * 128 + e.val
    omega
  refine (congrArg (((Memref.whole main_v1 : Memref sig .tc .hbm S16x4x64x64x128 .f32).slice (Rect.unit (s := S16x4x64x64x128) ![0, q.val, 0, 8 * c.val + h.val, 0] S16x1x64x1x128.size (inbKv c q h)) (fun _ => rfl)).view.read (Elt Ideal) f) hs).trans ?_
  show f _ = f _
  refine congrArg f (funext fun x => Fin.ext ?_)
  fin_cases x
  · show 0 + 1 * a.val = a.val; omega
  · show q.val + 1 * 0 = q.val; omega
  · show 0 + 1 * b.val = b.val; omega
  · show 8 * c.val + h.val + 1 * 0 = 8 * c.val + h.val; omega
  · show 0 + 1 * e.val = e.val; omega

theorem vRd_apply (c : Dev nD) (q : Fin 4) (h : Fin 8) (f : Vec Ideal S16x4x64x64x128 .f32) (a : Fin 16) (b : Fin 64) (e : Fin 128) :
    vRd c q h f (ix3 a b e) = f (ix5 a q b (gh c h) e) := kRd_apply c q h f a b e

/-- The score of a row of device `d` against a key of the class of its block. -/
def scK (I : Inp Ideal) (d : Dev nD) (q : Fin 4) (h : Fin 8) (r : Fin 64) (t : Fin 1024) : EReal :=
  ∑ e : Fin 128, qB I d (ix2 ⟨64 * q.val + r.val, by omega⟩ ⟨128 * h.val + e.val, by omega⟩) * I.ks d (ix5 ⟨t.val / 64, by omega⟩ q ⟨t.val % 64, by omega⟩ (gh d h) e)

theorem hd_apply (I : Inp Ideal) (d : Dev nD) (q : Fin 4) (h : Fin 8) (r : Fin 64) (e : Fin 128) :
    hd I d q h (ix2 r e) = Ideal.div (∑ t : Fin 1024, Ideal.exp (scK I d q h r t) * I.vs d (ix5 ⟨t.val / 64, by omega⟩ q ⟨t.val % 64, by omega⟩ (gh d h) e))
      (∑ t : Fin 1024, Ideal.exp (scK I d q h r t)) := by
  unfold hd
  rw [headG_apply]
  have hk : ∀ (t : Fin 1024) (e : Fin 128), shapeCast S1x1x16x64x128 (kRd d q h (I.ks d)) casts5 (ix5 0 0 ⟨t.val / 64, by omega⟩ ⟨t.val % 64, by omega⟩ e)
      = I.ks d (ix5 ⟨t.val / 64, by omega⟩ q ⟨t.val % 64, by omega⟩ (gh d h) e) := by
    intro t e; pointwise; exact kRd_apply d q h _ _ _ _
  have hv : ∀ (t : Fin 1024) (e : Fin 128), shapeCast S1x1x16x64x128 (vRd d q h (I.vs d)) casts5 (ix5 0 0 ⟨t.val / 64, by omega⟩ ⟨t.val % 64, by omega⟩ e)
      = I.vs d (ix5 ⟨t.val / 64, by omega⟩ q ⟨t.val % 64, by omega⟩ (gh d h) e) := by
    intro t e; pointwise; exact vRd_apply d q h _ _ _ _
  have hq : ∀ e : Fin 128, extractStridedSlice S64x128 ![64 * q.val, 128 * h.val] (qB I d) (slicesQ q h) (ix2 r e)
      = qB I d (ix2 ⟨64 * q.val + r.val, by omega⟩ ⟨128 * h.val + e.val, by omega⟩) := by
    intro e
    refine congrArg (qB I d) (funext fun a => ?_)
    fin_cases a <;> rfl
  simp only [hk, hv, hq]
  rfl

theorem col_skip {off : Nat} {inb : ∀ a, (![0, off] : Fin 2 → Nat) a + S64x128.size a ≤ S64x1024.size a} (w : Vec Ideal S64x128 .bf16) (L : List (View.Piece (Elt Ideal) S64x1024 .bf16)) (y : S64x1024.Idx) (h : (y 1).val < off ∨ off + 128 ≤ (y 1).val) :
    View.canon (⟨Rect.unit (s := S64x1024) ![0, off] S64x128.size inb, w⟩ :: L) y = View.canon L y := by
  refine View.canon_cons_of_not_mem _ L fun hy => ?_
  have hy : y ∈ (Rect.unit (s := S64x1024) ![0, off] S64x128.size inb).set := hy
  have hy := (Rect.mem_set_unit.mp hy) 1
  have e : S64x128.size 1 = 128 := rfl
  simp only [Matrix.cons_val_one, Matrix.cons_val_zero, e] at hy
  omega

theorem col_hit {off : Nat} {inb : ∀ a, (![0, off] : Fin 2 → Nat) a + S64x128.size a ≤ S64x1024.size a} (w : Vec Ideal S64x128 .bf16) (L : List (View.Piece (Elt Ideal) S64x1024 .bf16)) (r : Fin 64) (e : Fin 128) (h : off + e.val < 1024) :
    View.canon (⟨Rect.unit (s := S64x1024) ![0, off] S64x128.size inb, w⟩ :: L) (ix2 r ⟨off + e.val, h⟩) = w (ix2 r e) := by
  have hx : (Rect.unit (s := S64x1024) ![0, off] S64x128.size inb).emb (ix2 r e) = ix2 r ⟨off + e.val, h⟩ := by
    funext a; fin_cases a <;> refine Fin.ext ?_
    · show 0 + 1 * r.val = r.val; omega
    · show off + 1 * e.val = off + e.val; omega
  rw [← hx]
  exact View.canon_cons_emb (Rect.unit (s := S64x1024) ![0, off] S64x128.size inb) w L (ix2 r e)

theorem row_skip {off : Nat} {inb : ∀ a, (![off, 0] : Fin 2 → Nat) a + S64x1024.size a ≤ S256x1024.size a} (w : Vec Ideal S64x1024 .f32) (L : List (View.Piece (Elt Ideal) S256x1024 .f32)) (y : S256x1024.Idx) (h : (y 0).val < off ∨ off + 64 ≤ (y 0).val) :
    View.canon (⟨Rect.unit (s := S256x1024) ![off, 0] S64x1024.size inb, w⟩ :: L) y = View.canon L y := by
  refine View.canon_cons_of_not_mem _ L fun hy => ?_
  have hy : y ∈ (Rect.unit (s := S256x1024) ![off, 0] S64x1024.size inb).set := hy
  have hy := (Rect.mem_set_unit.mp hy) 0
  have e : S64x1024.size 0 = 64 := rfl
  simp only [Matrix.cons_val_zero, e] at hy
  omega

theorem row_hit {off : Nat} {inb : ∀ a, (![off, 0] : Fin 2 → Nat) a + S64x1024.size a ≤ S256x1024.size a} (w : Vec Ideal S64x1024 .f32) (L : List (View.Piece (Elt Ideal) S256x1024 .f32)) (r : Fin 64) (n : Fin 1024) (h : off + r.val < 256) :
    View.canon (⟨Rect.unit (s := S256x1024) ![off, 0] S64x1024.size inb, w⟩ :: L) (ix2 ⟨off + r.val, h⟩ n) = w (ix2 r n) := by
  have hx : (Rect.unit (s := S256x1024) ![off, 0] S64x1024.size inb).emb (ix2 r n) = ix2 ⟨off + r.val, h⟩ n := by
    funext a; fin_cases a <;> refine Fin.ext ?_
    · show off + 1 * r.val = off + r.val; omega
    · show 0 + 1 * n.val = n.val; omega
  rw [← hx]
  exact View.canon_cons_emb (Rect.unit (s := S256x1024) ![off, 0] S64x1024.size inb) w L (ix2 r n)

theorem col_at {off : Nat} {inb : ∀ a, (![0, off] : Fin 2 → Nat) a + S64x128.size a ≤ S64x1024.size a} (w : Vec Ideal S64x128 .bf16) (L : List (View.Piece (Elt Ideal) S64x1024 .bf16)) (y : S64x1024.Idx) (r : Fin 64) (e : Fin 128) (h0 : (y 0).val = r.val) (h1 : (y 1).val = off + e.val) :
    View.canon (⟨Rect.unit (s := S64x1024) ![0, off] S64x128.size inb, w⟩ :: L) y = w (ix2 r e) := by
  have hb : off + e.val < 1024 := h1 ▸ (y 1).isLt
  have hy : y = ix2 r ⟨off + e.val, hb⟩ := by
    funext a; fin_cases a
    · exact Fin.ext h0
    · exact Fin.ext h1
  subst hy
  exact col_hit w L r e hb

theorem row_at {off : Nat} {inb : ∀ a, (![off, 0] : Fin 2 → Nat) a + S64x1024.size a ≤ S256x1024.size a} (w : Vec Ideal S64x1024 .f32) (L : List (View.Piece (Elt Ideal) S256x1024 .f32)) (y : S256x1024.Idx) (r : Fin 64) (n : Fin 1024) (h0 : (y 0).val = off + r.val) (h1 : (y 1).val = n.val) :
    View.canon (⟨Rect.unit (s := S256x1024) ![off, 0] S64x1024.size inb, w⟩ :: L) y = w (ix2 r n) := by
  have hb : off + r.val < 256 := h0 ▸ (y 0).isLt
  have hy : y = ix2 ⟨off + r.val, hb⟩ n := by
    funext a; fin_cases a
    · exact Fin.ext h0
    · exact Fin.ext h1
  subst hy
  exact row_hit w L r n hb

theorem ctxL_at (p : Fin 8 → Vec Ideal S64x128 .bf16) (r : Fin 64) (e : Fin 128) (y : S64x1024.Idx) (h0 : (y 0).val = r.val) :
    (h : Fin 8) → (y 1).val = 128 * h.val + e.val → View.canon (ctxL (F := Ideal) p) y = p h (ix2 r e)
  | 0, h1 => by
    have he := e.isLt
    have h1 : (y 1).val = 0 + e.val := h1
    exact (col_skip (off := 896) _ _ y (Or.inl (by omega))).trans ((col_skip (off := 768) _ _ y (Or.inl (by omega))).trans ((col_skip (off := 640) _ _ y (Or.inl (by omega))).trans ((col_skip (off := 512) _ _ y (Or.inl (by omega))).trans ((col_skip (off := 384) _ _ y (Or.inl (by omega))).trans ((col_skip (off := 256) _ _ y (Or.inl (by omega))).trans ((col_skip (off := 128) _ _ y (Or.inl (by omega))).trans (col_at (off := 0) _ _ y r e h0 h1)))))))
  | 1, h1 => by
    have he := e.isLt
    have h1 : (y 1).val = 128 + e.val := h1
    exact (col_skip (off := 896) _ _ y (Or.inl (by omega))).trans ((col_skip (off := 768) _ _ y (Or.inl (by omega))).trans ((col_skip (off := 640) _ _ y (Or.inl (by omega))).trans ((col_skip (off := 512) _ _ y (Or.inl (by omega))).trans ((col_skip (off := 384) _ _ y (Or.inl (by omega))).trans ((col_skip (off := 256) _ _ y (Or.inl (by omega))).trans (col_at (off := 128) _ _ y r e h0 h1))))))
  | 2, h1 => by
    have he := e.isLt
    have h1 : (y 1).val = 256 + e.val := h1
    exact (col_skip (off := 896) _ _ y (Or.inl (by omega))).trans ((col_skip (off := 768) _ _ y (Or.inl (by omega))).trans ((col_skip (off := 640) _ _ y (Or.inl (by omega))).trans ((col_skip (off := 512) _ _ y (Or.inl (by omega))).trans ((col_skip (off := 384) _ _ y (Or.inl (by omega))).trans (col_at (off := 256) _ _ y r e h0 h1)))))
  | 3, h1 => by
    have he := e.isLt
    have h1 : (y 1).val = 384 + e.val := h1
    exact (col_skip (off := 896) _ _ y (Or.inl (by omega))).trans ((col_skip (off := 768) _ _ y (Or.inl (by omega))).trans ((col_skip (off := 640) _ _ y (Or.inl (by omega))).trans ((col_skip (off := 512) _ _ y (Or.inl (by omega))).trans (col_at (off := 384) _ _ y r e h0 h1))))
  | 4, h1 => by
    have he := e.isLt
    have h1 : (y 1).val = 512 + e.val := h1
    exact (col_skip (off := 896) _ _ y (Or.inl (by omega))).trans ((col_skip (off := 768) _ _ y (Or.inl (by omega))).trans ((col_skip (off := 640) _ _ y (Or.inl (by omega))).trans (col_at (off := 512) _ _ y r e h0 h1)))
  | 5, h1 => by
    have he := e.isLt
    have h1 : (y 1).val = 640 + e.val := h1
    exact (col_skip (off := 896) _ _ y (Or.inl (by omega))).trans ((col_skip (off := 768) _ _ y (Or.inl (by omega))).trans (col_at (off := 640) _ _ y r e h0 h1))
  | 6, h1 => by
    have he := e.isLt
    have h1 : (y 1).val = 768 + e.val := h1
    exact (col_skip (off := 896) _ _ y (Or.inl (by omega))).trans (col_at (off := 768) _ _ y r e h0 h1)
  | 7, h1 => by
    have he := e.isLt
    have h1 : (y 1).val = 896 + e.val := h1
    exact col_at (off := 896) _ _ y r e h0 h1

theorem ctxL_apply (p : Fin 8 → Vec Ideal S64x128 .bf16) (h : Fin 8) (r : Fin 64) (e : Fin 128) :
    View.canon (ctxL (F := Ideal) p) (ix2 r ⟨128 * h.val + e.val, by omega⟩) = p h (ix2 r e) :=
  ctxL_at p r e _ rfl h rfl

theorem accL_at (p : Fin 4 → Vec Ideal S64x1024 .f32) (r : Fin 64) (n : Fin 1024) (y : S256x1024.Idx) (h1 : (y 1).val = n.val) :
    (q : Fin 4) → (y 0).val = 64 * q.val + r.val → View.canon (accL (F := Ideal) p) y = p q (ix2 r n)
  | 0, h0 => by
    have hr := r.isLt
    have h0 : (y 0).val = 0 + r.val := h0
    exact (row_skip (off := 192) _ _ y (Or.inl (by omega))).trans ((row_skip (off := 128) _ _ y (Or.inl (by omega))).trans ((row_skip (off := 64) _ _ y (Or.inl (by omega))).trans (row_at (off := 0) _ _ y r n h0 h1)))
  | 1, h0 => by
    have hr := r.isLt
    have h0 : (y 0).val = 64 + r.val := h0
    exact (row_skip (off := 192) _ _ y (Or.inl (by omega))).trans ((row_skip (off := 128) _ _ y (Or.inl (by omega))).trans (row_at (off := 64) _ _ y r n h0 h1))
  | 2, h0 => by
    have hr := r.isLt
    have h0 : (y 0).val = 128 + r.val := h0
    exact (row_skip (off := 192) _ _ y (Or.inl (by omega))).trans (row_at (off := 128) _ _ y r n h0 h1)
  | 3, h0 => by
    have hr := r.isLt
    have h0 : (y 0).val = 192 + r.val := h0
    exact row_at (off := 192) _ _ y r n h0 h1

theorem accL_apply (p : Fin 4 → Vec Ideal S64x1024 .f32) (q : Fin 4) (r : Fin 64) (n : Fin 1024) :
    View.canon (accL (F := Ideal) p) (ix2 ⟨64 * q.val + r.val, by omega⟩ n) = p q (ix2 r n) :=
  accL_at p r n _ rfl q rfl

theorem ctx_apply (I : Inp Ideal) (d : Dev nD) (q : Fin 4) (h : Fin 8) (r : Fin 64) (e : Fin 128) :
    ctx I d q (ix2 r ⟨128 * h.val + e.val, by omega⟩) = hd I d q h (ix2 r e) := by
  unfold ctx
  rw [View.readCov_eq_canon']
  refine (congrFun (View.ld_unit_zero (S := S64x1024) z2 _ (View.canon (ctxL (F := Ideal) (hd I d q)))) (ix2 r ⟨128 * h.val + e.val, by omega⟩)).trans ?_
  exact ctxL_apply _ h r e

theorem acc0_apply (I : Inp Ideal) (q : Fin 4) (d : Dev nD) (r : Fin 64) (n : Fin 1024) :
    acc0 I q d (ix2 r n) = ∑ c : Fin 1024, ctx I d q (ix2 r c) * I.wo d (ix2 c n) := by
  unfold acc0
  pointwise [k0_pay23, woB_apply]

theorem addR_apply (a b : FVec Ideal S64x1024 .f32) (y : S64x1024.Idx) : addR a (rnd b) y = a y + b y := by
  pointwise [addR, rnd, k0_pay43]

/-- The exchanges over the cube leave the sum over the devices. -/
theorem acc3_apply (I : Inp Ideal) (q : Fin 4) (d : Dev nD) (y : S64x1024.Idx) : acc3 I q d y = ∑ d' : Dev nD, acc0 I q d' y := by
  unfold acc3
  rw [addR_apply]
  unfold acc2
  rw [addR_apply, addR_apply]
  unfold acc1
  rw [addR_apply, addR_apply, addR_apply, addR_apply]
  refine Eq.trans ?_ (Fin.sum_univ_eight fun d' : Fin 8 => acc0 I q d' y).symm
  generalize acc0 I q = f
  rcases (show d = 0 ∨ d = 1 ∨ d = 2 ∨ d = 3 ∨ d = 4 ∨ d = 5 ∨ d = 6 ∨ d = 7 by revert d; decide) with rfl | rfl | rfl | rfl | rfl | rfl | rfl | rfl <;>
    (simp only [show peer 0 0 = 1 from rfl, show peer 0 1 = 0 from rfl, show peer 0 2 = 3 from rfl, show peer 0 3 = 2 from rfl, show peer 0 4 = 5 from rfl, show peer 0 5 = 4 from rfl, show peer 0 6 = 7 from rfl, show peer 0 7 = 6 from rfl, show peer 1 0 = 2 from rfl, show peer 1 1 = 3 from rfl, show peer 1 2 = 0 from rfl, show peer 1 3 = 1 from rfl, show peer 1 4 = 6 from rfl, show peer 1 5 = 7 from rfl, show peer 1 6 = 4 from rfl, show peer 1 7 = 5 from rfl, show peer 2 0 = 4 from rfl, show peer 2 1 = 5 from rfl, show peer 2 2 = 6 from rfl, show peer 2 3 = 7 from rfl, show peer 2 4 = 0 from rfl, show peer 2 5 = 1 from rfl, show peer 2 6 = 2 from rfl, show peer 2 7 = 3 from rfl]; ac_rfl)

theorem outV_apply (I : Inp Ideal) (d : Dev nD) (q : Fin 4) (r : Fin 64) (n : Fin 1024) :
    outV I d (ix3 0 ⟨64 * q.val + r.val, by omega⟩ n)
      = ∑ d' : Dev nD, ∑ c : Fin 1024, ctx I d' q (ix2 r c) * I.wo d' (ix2 c n) := by
  have h : ∀ w : Vec Ideal S256x1024 .f32, k0_pay2 w (ix3 0 ⟨64 * q.val + r.val, by omega⟩ n) = w (ix2 ⟨64 * q.val + r.val, by omega⟩ n) := by
    intro w; pointwise [k0_pay2]
  unfold outV
  rw [h, View.readCov_eq_canon']
  refine (congrFun (View.ld_unit_zero (S := S256x1024) z2 _ (View.canon (accL (F := Ideal) fun q => acc3 I q d))) (ix2 ⟨64 * q.val + r.val, by omega⟩ n)).trans ?_
  rw [accL_apply, acc3_apply]
  exact Finset.sum_congr rfl fun d' _ => acc0_apply I q d' r n

/-! ### The inputs -/

section
variable (m : (ℓ : Loc nD τ sig) → Buf (Elt Ideal) ℓ) (d : Dev nD)

theorem inp_x : (inp m).x d = m ((d : Thread nD τ).loc main_arg0) := by
  show iblk m d 0 t0_0 = _
  rw [← V_main_arg0 m d]
  unfold iblk
  generalize V m d = W
  funext x
  show W main_arg0 _ = W main_arg0 _
  refine congrArg (W main_arg0) (funext fun a => Fin.ext ?_)
  have e : ∀ a : Fin 3, win0_0.index t0_0 a * win0_0.size a = 0 := by decide +kernel
  show win0_0.index t0_0 a * win0_0.size a + 1 * (x a : Nat) = (x a : Nat)
  rw [e a, Nat.zero_add, Nat.one_mul]

theorem inp_wq : (inp m).wq d = m ((d : Thread nD τ).loc main_arg1) := by
  show iblk m d 1 t0_0 = _
  rw [← V_main_arg1 m d]
  unfold iblk
  generalize V m d = W
  funext x
  show W main_arg1 _ = W main_arg1 _
  refine congrArg (W main_arg1) (funext fun a => Fin.ext ?_)
  have e : ∀ a : Fin 2, win0_1.index t0_0 a * win0_1.size a = 0 := by decide +kernel
  show win0_1.index t0_0 a * win0_1.size a + 1 * (x a : Nat) = (x a : Nat)
  rw [e a, Nat.zero_add, Nat.one_mul]

theorem inp_wo : (inp m).wo d = m ((d : Thread nD τ).loc main_arg4) := by
  show iblk m d 2 t0_0 = _
  rw [← V_main_arg4 m d]
  unfold iblk
  generalize V m d = W
  funext x
  show W main_arg4 _ = W main_arg4 _
  refine congrArg (W main_arg4) (funext fun a => Fin.ext ?_)
  have e : ∀ a : Fin 2, win0_2.index t0_0 a * win0_2.size a = 0 := by decide +kernel
  show win0_2.index t0_0 a * win0_2.size a + 1 * (x a : Nat) = (x a : Nat)
  rw [e a, Nat.zero_add, Nat.one_mul]

theorem cast_apply (f : Vec Ideal S1x4096x64x128 .f32) (hc : S1x4096x64x128.ShapeCasts S16x4x64x64x128) (a : Fin 16) (q : Fin 4) (b h : Fin 64) (e : Fin 128) :
    shapeCast S16x4x64x64x128 f hc (ix5 a q b h e) = f (ix4 0 ⟨(a.val * 4 + q.val) * 64 + b.val, by omega⟩ h e) := by
  refine congrArg f (Shape.reshapeEquiv_eq_of_rowMajor _ ?_)
  rw [Shape.rowMajor_val_five, Shape.rowMajor_val_four]
  show ((0 * 4096 + ((a.val * 4 + q.val) * 64 + b.val)) * 64 + h.val) * 128 + e.val = (((a.val * 4 + q.val) * 64 + b.val) * 64 + h.val) * 128 + e.val
  omega

theorem inp_ks (a : Fin 16) (q : Fin 4) (b h : Fin 64) (e : Fin 128) :
    (inp m).ks d (ix5 a q b h e) = m ((d : Thread nD τ).loc main_arg2) (ix4 0 ⟨(a.val * 4 + q.val) * 64 + b.val, by omega⟩ h e) := by
  have h1 : V m d main_v1 = shapeCast S16x4x64x64x128 (m ((d : Thread nD τ).loc main_arg2)) shapeCasts_S1x4096x64x128_S16x4x64x64x128 := by
    unfold V hostOps0
    after_results_simp
    rfl
  show V m d main_v1 _ = _
  rw [h1]
  exact cast_apply _ _ a q b h e

theorem inp_vs (a : Fin 16) (q : Fin 4) (b h : Fin 64) (e : Fin 128) :
    (inp m).vs d (ix5 a q b h e) = m ((d : Thread nD τ).loc main_arg3) (ix4 0 ⟨(a.val * 4 + q.val) * 64 + b.val, by omega⟩ h e) := by
  have h1 : V m d main_v2 = shapeCast S16x4x64x64x128 (m ((d : Thread nD τ).loc main_arg3)) shapeCasts_S1x4096x64x128_S16x4x64x64x128 := by
    unfold V hostOps0
    after_results_simp
    rfl
  show V m d main_v2 _ = _
  rw [h1]
  exact cast_apply _ _ a q b h e

end

end Cert.KernelIdeal.Pf
end
-- ==== Proof.Finite.lean ====
module
public import proofs.«01_k».proof.Defs
public import Idealize.ShloMosaic.Lib.ReduceAll
public import Idealize.ShloMosaic.Lib.Pointwise
@[expose] public section
noncomputable section
namespace Cert.Pf
open Idealize.ShloMosaic

/-! ## What the precondition gives: the inputs the scores are made of are real -/

theorem facts_pre_kernel : Cert.Pre_scores_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x64x128 := by decide
  reducesTo_S1x4096x64x128_S_d0_1_2_3 := by decide

theorem ofBits_inf : Ideal.ofBits .f32 0x7F800000#32 = ⊤ := by simp [Ideal.ofBits, Ideal.ieee]

/-- The scale is a real. -/
theorem scale_real : ∃ s : ℝ, Ideal.ofBits .f32 0x3DB504F3#32 = (s : EReal) := by
  simp only [Ideal.ofBits, Ideal.ieee]
  rw [if_neg (by decide), if_neg (by decide)]
  exact ⟨_, rfl⟩

/-- Below infinity in absolute value means real. -/
theorem real_of_lt (a : EReal) (h : Ideal.cmp .olt (max a (-a)) (Ideal.ofBits .f32 0x7F800000#32) = 1#1) : ∃ r : ℝ, a = r := by
  rw [ofBits_inf] at h
  have h : max a (-a) < ⊤ := by
    by_contra hn
    simp [Ideal.cmp, hn] at h
  induction a with
  | bot => simp at h
  | coe r => exact ⟨r, rfl⟩
  | top => simp at h

open Cert.Pre_scores_finite_KernelIdeal in
theorem reals_of_pre [Cert.Pre_scores_finite_KernelIdeal.Facts] (a0 : FVec Ideal S1x256x1024 .f32) (a1 : FVec Ideal S1024x1024 .f32) (a2 a3 : FVec Ideal S1x4096x64x128 .f32) (a4 : FVec Ideal S1024x1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  haveI : Subsingleton S_.Idx := ⟨fun a b => funext fun i => i.elim0⟩
  have h0 := congrFun h (fun i => i.elim0)
  obtain ⟨h12, h3⟩ := IntOp.andi_eq_one.1 h0
  obtain ⟨h1, h2⟩ := IntOp.andi_eq_one.1 h12
  exact ⟨fun i => real_of_lt _ (Host.reduce_andi_all _ _ _ _ _ h1 i), fun i => real_of_lt _ (Host.reduce_andi_all _ _ _ _ _ h2 i), fun i => real_of_lt _ (Host.reduce_andi_all _ _ _ _ _ h3 i)⟩

end Cert.Pf
end
-- ==== Proof.Agree.lean ====
module
public import proofs.«01_k».proof.Proof.Soft
public import proofs.«01_k».proof.Proof.RefVal
public import proofs.«01_k».proof.Proof.KerVal
public import proofs.«01_k».proof.Proof.Finite
@[expose] public section
set_option maxRecDepth 16384
noncomputable section
namespace Cert.Pf
open Idealize.ShloMosaic Idealize.ShloMosaic.TcCoe
open Cert.KernelIdeal (nD S1x256x1024 S1024x1024 S1x4096x64x128)
open Cert.KernelIdeal.Pf (Inp gh qB scK hd ctx outV)
open Cert.ReferenceIdeal (S1024x8192 S8192x1024)
open Cert.ReferenceIdeal.Pf (q4 sc0 scr exs wts pvs prj outR)

/-! ## The kernel's result is the reference's -/

/-- The devices' inputs are the reference's: each holds its columns of the query weight and its rows of the output weight. -/
structure Same (I : Inp Ideal) (x : FVec Ideal S1x256x1024 .f32) (wq : FVec Ideal S1024x8192 .f32) (k v : FVec Ideal S1x4096x64x128 .f32) (wo : FVec Ideal S8192x1024 .f32) : Prop where
  x : ∀ (d : Dev nD) i r, I.x d (ix3 0 i r) = x (ix3 0 i r)
  wq : ∀ (d : Dev nD) (r c : Fin 1024) (c' : Fin 8192), c'.val = d.val * 1024 + c.val → I.wq d (ix2 r c) = wq (ix2 r c')
  ks : ∀ (d : Dev nD) (a : Fin 16) (q : Fin 4) (b h : Fin 64) (e : Fin 128), I.ks d (ix5 a q b h e) = k (ix4 0 ⟨(a.val * 4 + q.val) * 64 + b.val, by omega⟩ h e)
  vs : ∀ (d : Dev nD) (a : Fin 16) (q : Fin 4) (b h : Fin 64) (e : Fin 128), I.vs d (ix5 a q b h e) = v (ix4 0 ⟨(a.val * 4 + q.val) * 64 + b.val, by omega⟩ h e)
  wo : ∀ (d : Dev nD) (c n : Fin 1024) (c' : Fin 8192), c'.val = d.val * 1024 + c.val → I.wo d (ix2 c n) = wo (ix2 c' n)

section
variable {I : Inp Ideal} {x : FVec Ideal S1x256x1024 .f32} {wq : FVec Ideal S1024x8192 .f32} {k v : FVec Ideal S1x4096x64x128 .f32} {wo : FVec Ideal S8192x1024 .f32}

theorem q4_real (rx : ∀ i, ∃ r : ℝ, x i = (r : EReal)) (rq : ∀ i, ∃ r : ℝ, wq i = (r : EReal)) (i : Fin 256) (h : Fin 64) (e : Fin 128) :
    ∃ r : ℝ, q4 x wq (ix4 0 i h e) = (r : EReal) := by
  choose xr hx using rx
  choose wr hw using rq
  rw [Cert.ReferenceIdeal.Pf.q4_apply]
  simp only [hx, hw, ← EReal.coe_mul, ← coe_fsum]
  exact ⟨_, rfl⟩

theorem sc0_real (rx : ∀ i, ∃ r : ℝ, x i = (r : EReal)) (rq : ∀ i, ∃ r : ℝ, wq i = (r : EReal)) (rk : ∀ i, ∃ r : ℝ, k i = (r : EReal)) (h : Fin 64) (i : Fin 256) (j : Fin 4096) :
    ∃ r : ℝ, sc0 x wq k h i j = (r : EReal) := by
  choose kr hk using rk
  choose qr hq using q4_real rx rq
  obtain ⟨s, hs⟩ := scale_real
  unfold sc0
  simp only [hq, hk, hs, ← EReal.coe_mul, ← coe_fsum]
  exact ⟨_, rfl⟩

/-- A device's scaled query is the reference's query, scaled. -/
theorem qB_eq (H : Same I x wq k v wo) (d : Dev nD) (i : Fin 256) (h : Fin 8) (e : Fin 128) :
    qB I d (ix2 i ⟨128 * h.val + e.val, by omega⟩) = q4 x wq (ix4 0 i (gh d h) e) * Ideal.ofBits .f32 0x3DB504F3#32 := by
  rw [Cert.KernelIdeal.Pf.qB_apply, Cert.ReferenceIdeal.Pf.q4_apply]
  refine congrArg (· * Ideal.ofBits .f32 0x3DB504F3#32) (Finset.sum_congr rfl fun r _ => ?_)
  rw [H.x, H.wq d r ⟨128 * h.val + e.val, by omega⟩ ⟨(gh d h).val * 128 + e.val, by omega⟩]
  show (8 * d.val + h.val) * 128 + e.val = d.val * 1024 + (128 * h.val + e.val)
  omega

theorem scK_eq (H : Same I x wq k v wo) (rx : ∀ i, ∃ r : ℝ, x i = (r : EReal)) (rq : ∀ i, ∃ r : ℝ, wq i = (r : EReal)) (rk : ∀ i, ∃ r : ℝ, k i = (r : EReal))
    (d : Dev nD) (q : Fin 4) (h : Fin 8) (r : Fin 64) (t : Fin 1024) :
    scK I d q h r t = sc0 x wq k (gh d h) ⟨64 * q.val + r.val, by omega⟩ ⟨(t.val / 64 * 4 + q.val) * 64 + t.val % 64, by omega⟩ := by
  choose kr hk using rk
  choose qr hq using q4_real rx rq
  obtain ⟨s, hs⟩ := scale_real
  unfold scK sc0
  simp only [qB_eq H, H.ks, hq, hk, hs]
  exact scale_sum _ _ s

/-- A head of a row block on its device is the reference's. -/
theorem hd_eq (H : Same I x wq k v wo) (rx : ∀ i, ∃ r : ℝ, x i = (r : EReal)) (rq : ∀ i, ∃ r : ℝ, wq i = (r : EReal)) (rk : ∀ i, ∃ r : ℝ, k i = (r : EReal))
    (d : Dev nD) (q : Fin 4) (h : Fin 8) (r : Fin 64) (e : Fin 128) :
    hd I d q h (ix2 r e) = pvs v (wts (exs (scr x wq k))) (ix4 0 (gh d h) e ⟨64 * q.val + r.val, by omega⟩) := by
  choose σ hσ using sc0_real rx rq rk
  rw [Cert.KernelIdeal.Pf.hd_apply, Cert.ReferenceIdeal.Pf.pvs_apply]
  simp only [Cert.ReferenceIdeal.Pf.wts_apply, Cert.ReferenceIdeal.Pf.exs_apply]
  rw [soft (fun j : Fin 4096 => j.val / 64 % 4 = q.val) (σ (gh d h) ⟨64 * q.val + r.val, by omega⟩) ⟨q.val * 64, by omega⟩ (by show q.val * 64 / 64 % 4 = q.val; omega)
    (fun j => v (ix4 0 j (gh d h) e)) (fun j => scr x wq k (ix4 0 (gh d h) ⟨64 * q.val + r.val, by omega⟩ j)) (fun j => by
      rw [Cert.ReferenceIdeal.Pf.scr_apply, hσ]
      have hq : (64 * q.val + r.val) / 64 = q.val := by omega
      simp only [hq])]
  rw [sum_kept, sum_kept]
  simp only [scK_eq H rx rq rk, H.vs, hσ]

theorem out_eq (H : Same I x wq k v wo) (rx : ∀ i, ∃ r : ℝ, x i = (r : EReal)) (rq : ∀ i, ∃ r : ℝ, wq i = (r : EReal)) (rk : ∀ i, ∃ r : ℝ, k i = (r : EReal)) (d : Dev nD) :
    outV I d = outR x wq k v wo := by
  have key : ∀ (i : Fin 256) (n : Fin 1024), outV I d (ix3 0 i n) = outR x wq k v wo (ix3 0 i n) := by
    intro i n
    obtain ⟨q, r, rfl⟩ : ∃ (q : Fin 4) (r : Fin 64), i = ⟨64 * q.val + r.val, by omega⟩ :=
      ⟨⟨i.val / 64, by omega⟩, ⟨i.val % 64, by omega⟩, Fin.ext (by show i.val = 64 * (i.val / 64) + i.val % 64; omega)⟩
    rw [Cert.KernelIdeal.Pf.outV_apply]
    unfold outR
    rw [Cert.ReferenceIdeal.Pf.prj_apply, Fin.sum_univ_tiles 8 1024 rfl]
    refine Finset.sum_congr rfl fun d' _ => Finset.sum_congr rfl fun c _ => ?_
    have hd' : d'.val < 8 := d'.isLt
    rw [H.wo d' c n ⟨d'.val * 1024 + c.val, by omega⟩ rfl]
    obtain ⟨h, e, rfl⟩ : ∃ (h : Fin 8) (e : Fin 128), c = ⟨128 * h.val + e.val, by omega⟩ :=
      ⟨⟨c.val / 128, by omega⟩, ⟨c.val % 128, by omega⟩, Fin.ext (by show c.val = 128 * (c.val / 128) + c.val % 128; omega)⟩
    rw [Cert.KernelIdeal.Pf.ctx_apply, hd_eq H rx rq rk]
    have e1 : (⟨(d'.val * 1024 + (128 * h.val + e.val)) / 128, by omega⟩ : Fin 64) = gh d' h := Fin.ext (by show (d'.val * 1024 + (128 * h.val + e.val)) / 128 = 8 * d'.val + h.val; omega)
    have e2 : (⟨(d'.val * 1024 + (128 * h.val + e.val)) % 128, by omega⟩ : Fin 128) = e := Fin.ext (by show (d'.val * 1024 + (128 * h.val + e.val)) % 128 = e.val; omega)
    simp only [e1, e2]
  funext j
  have hj : j = ix3 0 (j 1) (j 2) := by
    funext a; fin_cases a
    · exact Fin.ext (Nat.lt_one_iff.mp (j 0).isLt)
    · rfl
    · rfl
  rw [hj]
  exact key _ _
end

end Cert.Pf
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Proto
public import proofs.«01_k».proof.Proof.Rules
public import proofs.«01_k».proof.Proof.Lems
public import proofs.«01_k».proof.Proof.Vals
public import proofs.«01_k».proof.Proof.Body
public import proofs.«01_k».proof.Proof.Slots
public import proofs.«01_k».proof.Proof.Wrap
public import proofs.«01_k».proof.Proof.Region
public import proofs.«01_k».proof.Proof.Launch
public import proofs.«01_k».proof.Proof.Same
public import proofs.«01_k».proof.Proof.Soft
public import proofs.«01_k».proof.Proof.RefVal
public import proofs.«01_k».proof.Proof.KerVal
public import proofs.«01_k».proof.Proof.Finite
public import proofs.«01_k».proof.Proof.Agree

@[expose] public section

noncomputable section

namespace Cert.Proof

open Idealize.ShloMosaic Idealize.SL.Sem

/-- The kernel's frame, at the formats it is compiled for. -/
theorem frame_kernel : Cert.quiescent_Kernel (hKernel := Cert.Kernel.Gen.facts) := fun m g _ => by
  letI := Cert.Kernel.Gen.facts
  letI := Cert.KernelIdeal.Gen.facts
  rw [Cert.Pf.same_defs, Cert.Pf.same_main]
  exact (θ_run _ _ _).mono (fun _ h => ⟨fun c => (h.1 c).1, h.2⟩) (Cert.KernelIdeal.Pf.run_main (F := Bits) m g)

theorem frame_ideal : Cert.quiescent_KernelIdeal (hKernelIdeal := Cert.KernelIdeal.Gen.facts) := fun m g _ =>
  (θ_run _ _ _).mono (fun _ h => ⟨fun c => (h.1 c).1, h.2⟩) (Cert.KernelIdeal.Pf.run_main (F := Ideal) m g)

/-- The reference has no semaphore at all. -/
theorem no_sems : IsEmpty (SemLoc Cert.ReferenceIdeal.sig) := ⟨fun
  | .reg s => s.elim0
  | .dma s => s.elim0⟩

theorem frame_reference : Cert.quiescent_ReferenceIdeal (hReferenceIdeal := Cert.ReferenceIdeal.Gen.facts) := fun m g _ => by
  letI := Cert.ReferenceIdeal.Gen.facts
  exact (θ_run _ _ _).mono (fun _ h => ⟨fun c => (h c).2, funext fun s => (no_sems.false s.2).elim⟩) (Cert.ReferenceIdeal.Value.run (F := Ideal) m g)

theorem facts_pre_reference : Cert.Pre_scores_finite_ReferenceIdeal.Facts where
  bcast_S_S1x256x1024 := by decide
  reducesTo_S1x256x1024_S_d0_1_2 := by decide
  h_S_ := by decide
  bcast_S_S1024x8192 := by decide
  reducesTo_S1024x8192_S_d0_1 := by decide
  bcast_S_S1x4096x64x128 := by decide
  reducesTo_S1x4096x64x128_S_d0_1_2_3 := by decide

/-- The devices' arguments, cut from the reference's, are the reference's. -/
theorem same_inputs (m : (ℓ : Loc Cert.KernelIdeal.nD Cert.KernelIdeal.τ Cert.KernelIdeal.sig) → Buf (Elt Ideal) ℓ)
    (x : FVec Ideal Cert.KernelIdeal.S1x256x1024 .f32) (wq : FVec Ideal Cert.ReferenceIdeal.S1024x8192 .f32) (k v : FVec Ideal Cert.KernelIdeal.S1x4096x64x128 .f32) (wo : FVec Ideal Cert.ReferenceIdeal.S8192x1024 .f32)
    (H : ∀ c : Dev Cert.KernelIdeal.nD, m (c.tc.loc Cert.KernelIdeal.main_arg0) = x
      ∧ m (c.tc.loc Cert.KernelIdeal.main_arg1) = Layout.block ⟨2, ![1024, 1024]⟩ ⟨2, ![1024, 8192]⟩ 1 8 c wq
      ∧ m (c.tc.loc Cert.KernelIdeal.main_arg2) = k ∧ m (c.tc.loc Cert.KernelIdeal.main_arg3) = v
      ∧ m (c.tc.loc Cert.KernelIdeal.main_arg4) = Layout.block ⟨2, ![1024, 1024]⟩ ⟨2, ![8192, 1024]⟩ 0 8 c wo) :
    Cert.Pf.Same (Cert.KernelIdeal.Pf.inp m) x wq k v wo where
  x d i r := (congrFun (Cert.KernelIdeal.Pf.inp_x m d) _).trans (congrFun (H d).1 _)
  wq d r c c' hc := by
    refine (congrFun (Cert.KernelIdeal.Pf.inp_wq m d) _).trans ((congrFun (H d).2.1 _).trans (congrArg wq (funext fun a => ?_)))
    fin_cases a
    · rfl
    · exact Fin.ext hc.symm
  ks d a q b h e := (Cert.KernelIdeal.Pf.inp_ks m d a q b h e).trans (congrFun (H d).2.2.1 _)
  vs d a q b h e := (Cert.KernelIdeal.Pf.inp_vs m d a q b h e).trans (congrFun (H d).2.2.2.1 _)
  wo d c n c' hc := by
    refine (congrFun (Cert.KernelIdeal.Pf.inp_wo m d) _).trans ((congrFun (H d).2.2.2.2 _).trans (congrArg wo (funext fun a => ?_)))
    fin_cases a
    · exact Fin.ext hc.symm
    · rfl

/-- Every column of the query weight is held by some device. -/
theorem wq_real (wq : FVec Ideal Cert.ReferenceIdeal.S1024x8192 .f32)
    (h : ∀ (d : Fin 8) i, ∃ r : ℝ, (Layout.block ⟨2, ![1024, 1024]⟩ ⟨2, ![1024, 8192]⟩ 1 8 d wq) i = (r : EReal)) (j) : ∃ r : ℝ, wq j = (r : EReal) := by
  have hj : (j 1).val < 8192 := (j 1).isLt
  obtain ⟨r, hr⟩ := h ⟨(j 1).val / 1024, by omega⟩ (ix2 (j 0) ⟨(j 1).val % 1024, by omega⟩)
  refine ⟨r, Eq.trans (congrArg wq (funext fun a => ?_)) hr⟩
  fin_cases a
  · rfl
  · exact Fin.ext (show (j 1).val = (j 1).val / 1024 * 1024 + (j 1).val % 1024 by omega)

/-- On the extended reals, where the scores are finite, every device ends with the reference's result. -/
theorem agree : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.Pf.facts_pre_kernel) := by
  letI := Cert.KernelIdeal.Gen.facts
  letI := Cert.ReferenceIdeal.Gen.facts
  letI := Cert.Pf.facts_pre_kernel
  intro m g m' g' hp H
  have hr := fun c => Cert.Pf.reals_of_pre _ _ _ _ _ (hp c)
  have rx := (hr 0).1
  have rk := (hr 0).2.2
  rw [(H 0).1] at rx
  rw [(H 0).2.2.1] at rk
  have rq := wq_real _ fun d i => by
    have := (hr d).2.1 i
    rw [(H d).2.1] at this
    exact this
  have ho := fun d => Cert.Pf.out_eq (same_inputs m _ _ _ _ _ H) rx rq rk d
  refine ⟨Cert.ReferenceIdeal.Value.res_main_v39 m' 0, ?_, ?_⟩
  · exact (θ_run _ _ _).mono (fun _ h c => ⟨(h.1 c).2.trans ((ho c).trans (Cert.ReferenceIdeal.Pf.res_eq m' 0).symm), (h.1 c).1⟩)
      (Cert.KernelIdeal.Pf.run_main (F := Ideal) m g)
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts, Cert.Pf.facts_pre_kernel, facts_pre_reference,
  frame_kernel, frame_ideal, fun m g _ => frame_ideal m g trivial, frame_reference, fun m g _ => frame_reference m g trivial, trivial, agree⟩

end Cert.Proof

end
